-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)) (v3 : (c : Dev Cert.KernelIdeal.nD) → Buf (Elt Ideal) ((c.tc : Thread Cert.KernelIdeal.nD Cert.KernelIdeal.τ).loc Cert.KernelIdeal.main_v27_3)) (v4 : (c : Dev Cert.KernelIdeal.nD) → Buf (Elt Ideal) ((c.tc : Thread Cert.KernelIdeal.nD Cert.KernelIdeal.τ).loc Cert.KernelIdeal.main_v27_4)) (v5 : (c : Dev Cert.KernelIdeal.nD) → Buf (Elt Ideal) ((c.tc : Thread Cert.KernelIdeal.nD Cert.KernelIdeal.τ).loc Cert.KernelIdeal.main_v27_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_v27_3) = v3 c
          ∧ r.2.mem ((c.tc : Thread Cert.KernelIdeal.nD Cert.KernelIdeal.τ).loc Cert.KernelIdeal.main_v27_4) = v4 c
          ∧ r.2.mem ((c.tc : Thread Cert.KernelIdeal.nD Cert.KernelIdeal.τ).loc Cert.KernelIdeal.main_v27_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v132) = v2 c
          ∧ r.2.mem ((c.tc : Thread Cert.ReferenceIdeal.nD Cert.ReferenceIdeal.τ).loc Cert.ReferenceIdeal.main_v134) = v3 c
          ∧ r.2.mem ((c.tc : Thread Cert.ReferenceIdeal.nD Cert.ReferenceIdeal.τ).loc Cert.ReferenceIdeal.main_v136) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v31) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)) (v3 : (c : Dev Cert.Kernel4Ideal.nD) → Buf (Elt Ideal) ((c.tc : Thread Cert.Kernel4Ideal.nD Cert.Kernel4Ideal.τ).loc Cert.Kernel4Ideal.main_v12_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_v12_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_v12) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x7168 : Shape := ⟨2, ![16384, 7168]⟩
abbrev S3x1024 : Shape := ⟨2, ![3, 1024]⟩
abbrev S1x1024 : Shape := ⟨2, ![1, 1024]⟩
abbrev S1x3x1024 : Shape := ⟨3, ![1, 3, 1024]⟩
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S1024 : Shape := ⟨1, ![1024]⟩
abbrev S8x2048x7168 : Shape := ⟨3, ![8, 2048, 7168]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2048x2048 : Shape := ⟨2, ![2048, 2048]⟩
abbrev S2048x5632 : Shape := ⟨2, ![2048, 5632]⟩
abbrev S5632x2048 : Shape := ⟨2, ![5632, 2048]⟩
abbrev S8x2048x1024 : Shape := ⟨3, ![8, 2048, 1024]⟩
abbrev S1x2048x128 : Shape := ⟨3, ![1, 2048, 128]⟩
abbrev S3x128 : Shape := ⟨2, ![3, 128]⟩
abbrev S32x2048 : Shape := ⟨2, ![32, 2048]⟩
abbrev S32x5632 : Shape := ⟨2, ![32, 5632]⟩
abbrev S128x2048 : Shape := ⟨2, ![128, 2048]⟩
abbrev S1x1024x128 : Shape := ⟨3, ![1, 1024, 128]⟩
abbrev S1024x128 : Shape := ⟨2, ![1024, 128]⟩
abbrev S1024x384 : Shape := ⟨2, ![1024, 384]⟩
abbrev S128x384 : Shape := ⟨2, ![128, 384]⟩
abbrev S16x64x128 : Shape := ⟨3, ![16, 64, 128]⟩
abbrev S16x1x128 : Shape := ⟨3, ![16, 1, 128]⟩
abbrev S64x128 : Shape := ⟨2, ![64, 128]⟩
abbrev S1x1x128 : Shape := ⟨3, ![1, 1, 128]⟩
abbrev S1024x1 : Shape := ⟨2, ![1024, 1]⟩
abbrev S2048x128 : Shape := ⟨2, ![2048, 128]⟩

abbrev nBuf : Space → Nat
  | .hbm => 75
  | .vmem => 41
  | .smem => 0
  | _ => 0

abbrev bufTy : (tb : Table) → Fin (tcTables nBuf tb) → BufTy
  | .hbm, ⟨0, _⟩ => ⟨S16384x7168, .f32⟩
  | .hbm, ⟨1, _⟩ => ⟨S3x1024, .f32⟩
  | .hbm, ⟨2, _⟩ => ⟨S1x1024, .f32⟩
  | .hbm, ⟨3, _⟩ => ⟨S1x3x1024, .f32⟩
  | .hbm, ⟨4, _⟩ => ⟨S1x2048x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S1024, .f32⟩
  | .hbm, ⟨9, _⟩ => ⟨S3x1024, .f32⟩
  | .hbm, ⟨10, _⟩ => ⟨S8x2048x7168, .f32⟩
  | .hbm, ⟨11, _⟩ => ⟨S128, .i32⟩
  | .hbm, ⟨12, _⟩ => ⟨S128x1, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i1⟩
  | .hbm, ⟨17, _⟩ => ⟨S128x1, .i32⟩
  | .hbm, ⟨18, _⟩ => ⟨S_, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i1⟩
  | .hbm, ⟨26, _⟩ => ⟨S128x1, .i32⟩
  | .hbm, ⟨27, _⟩ => ⟨S128x1, .i32⟩
  | .hbm, ⟨28, _⟩ => ⟨S_, .i32⟩
  | .hbm, ⟨29, _⟩ => ⟨S128x1, .i32⟩
  | .hbm, ⟨30, _⟩ => ⟨S128x1, .i1⟩
  | .hbm, ⟨31, _⟩ => ⟨S128x1, .i1⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x1, .i32⟩
  | .hbm, ⟨36, _⟩ => ⟨S1x128, .i32⟩
  | .hbm, ⟨37, _⟩ => ⟨S_, .i32⟩
  | .hbm, ⟨38, _⟩ => ⟨S_, .i32⟩
  | .hbm, ⟨39, _⟩ => ⟨S1x128, .i32⟩
  | .hbm, ⟨40, _⟩ => ⟨S1x128, .i32⟩
  | .hbm, ⟨41, _⟩ => ⟨S1x128, .i32⟩
  | .hbm, ⟨42, _⟩ => ⟨S_, .i32⟩
  | .hbm, ⟨43, _⟩ => ⟨S1x128, .i32⟩
  | .hbm, ⟨44, _⟩ => ⟨S1x128, .i1⟩
  | .hbm, ⟨45, _⟩ => ⟨S1x128, .i32⟩
  | .hbm, ⟨46, _⟩ => ⟨S1x128, .i32⟩
  | .hbm, ⟨47, _⟩ => ⟨S_, .i32⟩
  | .hbm, ⟨48, _⟩ => ⟨S1x128, .i32⟩
  | .hbm, ⟨49, _⟩ => ⟨S1x128, .i1⟩
  | .hbm, ⟨50, _⟩ => ⟨S1x128, .i1⟩
  | .hbm, ⟨51, _⟩ => ⟨S_, .i32⟩
  | .hbm, ⟨52, _⟩ => ⟨S1x128, .i32⟩
  | .hbm, ⟨53, _⟩ => ⟨S1x128, .i32⟩
  | .hbm, ⟨54, _⟩ => ⟨S1x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S128x128, .i1⟩
  | .hbm, ⟨59, _⟩ => ⟨S128x128, .bf16⟩
  | .hbm, ⟨60, _⟩ => ⟨S2048x2048, .f32⟩
  | .hbm, ⟨61, _⟩ => ⟨S2048x2048, .f32⟩
  | .hbm, ⟨62, _⟩ => ⟨S2048x5632, .f32⟩
  | .hbm, ⟨63, _⟩ => ⟨S2048x5632, .f32⟩
  | .hbm, ⟨64, _⟩ => ⟨S2048x5632, .f32⟩
  | .hbm, ⟨65, _⟩ => ⟨S2048x5632, .f32⟩
  | .hbm, ⟨66, _⟩ => ⟨S5632x2048, .f32⟩
  | .hbm, ⟨67, _⟩ => ⟨S5632x2048, .f32⟩
  | .hbm, ⟨68, _⟩ => ⟨S1x1024, .f32⟩
  | .hbm, ⟨69, _⟩ => ⟨S8x2048x1024, .bf16⟩
  | .hbm, ⟨70, _⟩ => ⟨S8x2048x1024, .bf16⟩
  | .hbm, ⟨71, _⟩ => ⟨S2048x2048, .bf16⟩
  | .hbm, ⟨72, _⟩ => ⟨S2048x5632, .bf16⟩
  | .hbm, ⟨73, _⟩ => ⟨S2048x5632, .bf16⟩
  | .hbm, ⟨74, _⟩ => ⟨S5632x2048, .bf16⟩
  | .local _ .vmem, ⟨0, _⟩ => ⟨S128x128, .bf16⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S3x128, .f32⟩
  | .local _ .vmem, ⟨16, _⟩ => ⟨S3x128, .f32⟩
  | .local _ .vmem, ⟨17, _⟩ => ⟨S1x128, .f32⟩
  | .local _ .vmem, ⟨18, _⟩ => ⟨S1x128, .f32⟩
  | .local _ .vmem, ⟨19, _⟩ => ⟨S3x128, .f32⟩
  | .local _ .vmem, ⟨20, _⟩ => ⟨S3x128, .f32⟩
  | .local _ .vmem, ⟨21, _⟩ => ⟨S32x2048, .f32⟩
  | .local _ .vmem, ⟨22, _⟩ => ⟨S32x2048, .f32⟩
  | .local _ .vmem, ⟨23, _⟩ => ⟨S32x5632, .f32⟩
  | .local _ .vmem, ⟨24, _⟩ => ⟨S32x5632, .f32⟩
  | .local _ .vmem, ⟨25, _⟩ => ⟨S32x5632, .f32⟩
  | .local _ .vmem, ⟨26, _⟩ => ⟨S32x5632, .f32⟩
  | .local _ .vmem, ⟨27, _⟩ => ⟨S128x2048, .f32⟩
  | .local _ .vmem, ⟨28, _⟩ => ⟨S128x2048, .f32⟩
  | .local _ .vmem, ⟨29, _⟩ => ⟨S1x2048x128, .bf16⟩
  | .local _ .vmem, ⟨30, _⟩ => ⟨S1x2048x128, .bf16⟩
  | .local _ .vmem, ⟨31, _⟩ => ⟨S1x2048x128, .bf16⟩
  | .local _ .vmem, ⟨32, _⟩ => ⟨S1x2048x128, .bf16⟩
  | .local _ .vmem, ⟨33, _⟩ => ⟨S32x2048, .bf16⟩
  | .local _ .vmem, ⟨34, _⟩ => ⟨S32x2048, .bf16⟩
  | .local _ .vmem, ⟨35, _⟩ => ⟨S32x5632, .bf16⟩
  | .local _ .vmem, ⟨36, _⟩ => ⟨S32x5632, .bf16⟩
  | .local _ .vmem, ⟨37, _⟩ => ⟨S32x5632, .bf16⟩
  | .local _ .vmem, ⟨38, _⟩ => ⟨S32x5632, .bf16⟩
  | .local _ .vmem, ⟨39, _⟩ => ⟨S128x2048, .bf16⟩
  | .local _ .vmem, ⟨40, _⟩ => ⟨S128x2048, .bf16⟩
  | _, _ => ⟨S16384x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_c_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_c : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_0 : Ref sig .tc := ⟨.hbm, 51, rfl⟩
abbrev main_call1_v12 : Ref sig .tc := ⟨.hbm, 52, rfl⟩
abbrev main_call1_v13 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27_0 : Ref sig .tc := ⟨.hbm, 69, rfl⟩
abbrev main_v27_1 : Ref sig .tc := ⟨.hbm, 70, rfl⟩
abbrev main_v27_2 : Ref sig .tc := ⟨.hbm, 71, rfl⟩
abbrev main_v27_3 : Ref sig .tc := ⟨.hbm, 72, rfl⟩
abbrev main_v27_4 : Ref sig .tc := ⟨.hbm, 73, rfl⟩
abbrev main_v27_5 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_19 : BitVec 32 := 0#32
  let c2_i32 : BitVec 32 := 2#32
  let v70 : BitVec 32 := Scalar.addi c0_i32_19 c2_i32
  let c1_i32_20 : BitVec 32 := 1#32
  ⟨c0_i32_19, v70, c1_i32_20⟩
def k0_mult1 (k0_t1 : Fin k0_t1_loop.trips) : BitVec 32 :=
  let c0_i32_19 : BitVec 32 := 0#32
  let c1_i32_20 : BitVec 32 := 1#32
  let arg23 : BitVec 32 := Scf.iv c0_i32_19 c1_i32_20 k0_t1
  let c1024_i32 : BitVec 32 := 1024#32
  let v124 : BitVec 32 := Scalar.muli arg23 c1024_i32
  v124
def k0_off1 (k0_t1 : Fin k0_t1_loop.trips) : Fin 3 → Nat :=
  let c0_58 : Index := 0#32
  let c0_i32_19 : BitVec 32 := 0#32
  let c1_i32_20 : BitVec 32 := 1#32
  let arg23 : BitVec 32 := Scf.iv c0_i32_19 c1_i32_20 k0_t1
  let c1024_i32 : BitVec 32 := 1024#32
  let v124 : BitVec 32 := Scalar.muli arg23 c1024_i32
  let v125 : BitVec 32 := v124
  let v126 : Index := Scalar.indexCast v125
  let c0_59 : Index := 0#32
  ![0, v126.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c63_i32 : BitVec 32 := 63#32
  let v3 : BitVec 32 := Scalar.minsi v2 c63_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c63_i32 : BitVec 32 := 63#32
  let v3 : BitVec 32 := Scalar.minsi v2 c63_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c63_i32 : BitVec 32 := 63#32
  let v3 : BitVec 32 := Scalar.minsi v2 c63_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c43_i32 : BitVec 32 := 43#32
  let v3 : BitVec 32 := Scalar.minsi v2 c43_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c63_i32 : BitVec 32 := 63#32
  let v3 : BitVec 32 := Scalar.minsi v2 c63_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c63_i32 : BitVec 32 := 63#32
  let v3 : BitVec 32 := Scalar.minsi v2 c63_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c63_i32 : BitVec 32 := 63#32
  let v3 : BitVec 32 := Scalar.minsi v2 c63_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.muli v0 c8_i32
  let v2 : BitVec 32 := Scalar.addi v1 arg1
  let c43_i32 : BitVec 32 := 43#32
  let v3 : BitVec 32 := Scalar.minsi v2 c43_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S32x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2048x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S32x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S128x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== ReferenceIdeal.lean ====
abbrev S16384x7168 : Shape := ⟨2, ![16384, 7168]⟩
abbrev S3x1024 : Shape := ⟨2, ![3, 1024]⟩
abbrev S1x1024 : Shape := ⟨2, ![1, 1024]⟩
abbrev S1x3x1024 : Shape := ⟨3, ![1, 3, 1024]⟩
abbrev S1x2048x2048 : Shape := ⟨3, ![1, 2048, 2048]⟩
abbrev S1x2048x5632 : Shape := ⟨3, ![1, 2048, 5632]⟩
abbrev S1x5632x2048 : Shape := ⟨3, ![1, 5632, 2048]⟩
abbrev S8x2048x7168 : Shape := ⟨3, ![8, 2048, 7168]⟩
abbrev S_ : Shape := ⟨0, ![]⟩
abbrev S1024 : Shape := ⟨1, ![1024]⟩
abbrev S8x2048x1024 : Shape := ⟨3, ![8, 2048, 1024]⟩
abbrev S1x1x1024 : Shape := ⟨3, ![1, 1, 1024]⟩
abbrev S8x2048x8x128 : Shape := ⟨4, ![8, 2048, 8, 128]⟩
abbrev S8x32x64x8x128 : Shape := ⟨5, ![8, 32, 64, 8, 128]⟩
abbrev S8x8x32x64x128 : Shape := ⟨5, ![8, 8, 32, 64, 128]⟩
abbrev S8x8x32x1x128 : Shape := ⟨5, ![8, 8, 32, 1, 128]⟩
abbrev S8x8x32x64x64 : Shape := ⟨5, ![8, 8, 32, 64, 64]⟩
abbrev S64x64 : Shape := ⟨2, ![64, 64]⟩
abbrev S8x8x32x128x128 : Shape := ⟨5, ![8, 8, 32, 128, 128]⟩
abbrev S8x8x32x128 : Shape := ⟨4, ![8, 8, 32, 128]⟩
abbrev S8x8x128x128 : Shape := ⟨4, ![8, 8, 128, 128]⟩
abbrev S32x8x8x128 : Shape := ⟨4, ![32, 8, 8, 128]⟩
abbrev S32x8x8x128x128 : Shape := ⟨5, ![32, 8, 8, 128, 128]⟩
abbrev S1x8x8x128 : Shape := ⟨4, ![1, 8, 8, 128]⟩
abbrev S8x8x128 : Shape := ⟨3, ![8, 8, 128]⟩
abbrev S1x8x8x128x128 : Shape := ⟨5, ![1, 8, 8, 128, 128]⟩
abbrev S8x8x128x1 : Shape := ⟨4, ![8, 8, 128, 1]⟩
abbrev S8x2048x8 : Shape := ⟨3, ![8, 2048, 8]⟩
abbrev S8x2048x8x1 : Shape := ⟨4, ![8, 2048, 8, 1]⟩
abbrev S8x2050x1024 : Shape := ⟨3, ![8, 2050, 1024]⟩
abbrev S2048x2048 : Shape := ⟨2, ![2048, 2048]⟩
abbrev S2048x5632 : Shape := ⟨2, ![2048, 5632]⟩
abbrev S5632x2048 : Shape := ⟨2, ![5632, 2048]⟩

abbrev nBuf : Space → Nat
  | .hbm => 225
  | .vmem => 0
  | .smem => 0
  | _ => 0

abbrev hbmTy0_0 (i : Nat) : BufTy := match i % 128 with
  | 0 => ⟨S16384x7168, .f32⟩
  | 1 => ⟨S3x1024, .f32⟩
  | 2 => ⟨S1x1024, .f32⟩
  | 3 => ⟨S1x3x1024, .f32⟩
  | 4 => ⟨S1x2048x2048, .f32⟩
  | 5 => ⟨S1x2048x5632, .f32⟩
  | 6 => ⟨S1x2048x5632, .f32⟩
  | 7 => ⟨S1x5632x2048, .f32⟩
  | 8 => ⟨S8x2048x7168, .f32⟩
  | 9 => ⟨S_, .f32⟩
  | 10 => ⟨S1024, .f32⟩
  | 11 => ⟨S_, .f32⟩
  | 12 => ⟨S1024, .f32⟩
  | 13 => ⟨S1024, .f32⟩
  | 14 => ⟨S1x1024, .f32⟩
  | 15 => ⟨S3x1024, .f32⟩
  | 16 => ⟨S3x1024, .f32⟩
  | 17 => ⟨S3x1024, .f32⟩
  | 18 => ⟨S_, .f32⟩
  | 19 => ⟨S1024, .f32⟩
  | 20 => ⟨S1x1024, .f32⟩
  | 21 => ⟨S3x1024, .f32⟩
  | 22 => ⟨S3x1024, .f32⟩
  | 23 => ⟨S_, .f32⟩
  | 24 => ⟨S_, .f32⟩
  | 25 => ⟨S3x1024, .f32⟩
  | 26 => ⟨S1x1024, .f32⟩
  | 27 => ⟨S1024, .f32⟩
  | 28 => ⟨S1024, .f32⟩
  | 29 => ⟨S3x1024, .f32⟩
  | 30 => ⟨S8x2048x1024, .f32⟩
  | 31 => ⟨S8x2048x1024, .f32⟩
  | 32 => ⟨S8x2048x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S_, .f32⟩
  | 38 => ⟨S1024, .f32⟩
  | 39 => ⟨S1024, .f32⟩
  | 40 => ⟨S8x2048x1024, .f32⟩
  | 41 => ⟨S8x2048x1024, .f32⟩
  | 42 => ⟨S_, .f32⟩
  | 43 => ⟨S8x2048x1024, .f32⟩
  | 44 => ⟨S8x2048x1024, .f32⟩
  | 45 => ⟨S_, .f32⟩
  | 46 => ⟨S8x2048x1024, .f32⟩
  | 47 => ⟨S8x2048x1024, .f32⟩
  | 48 => ⟨S1x1x1024, .f32⟩
  | 49 => ⟨S8x2048x1024, .f32⟩
  | 50 => ⟨S8x2048x1024, .f32⟩
  | 51 => ⟨S1x1x1024, .f32⟩
  | 52 => ⟨S8x2048x1024, .f32⟩
  | 53 => ⟨S8x2048x1024, .f32⟩
  | 54 => ⟨S8x2048x1024, .f32⟩
  | 55 => ⟨S8x2048x1024, .f32⟩
  | 56 => ⟨S_, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S8x2048x1024, .f32⟩
  | 63 => ⟨S8x2048x8x128, .f32⟩
  | 64 => ⟨S_, .f32⟩
  | 65 => ⟨S8x2048x1024, .f32⟩
  | 66 => ⟨S8x2048x1024, .f32⟩
  | 67 => ⟨S8x2048x8x128, .f32⟩
  | 68 => ⟨S8x2048x8x128, .f32⟩
  | 69 => ⟨S8x2048x1024, .f32⟩
  | 70 => ⟨S8x2048x8x128, .f32⟩
  | 71 => ⟨S8x32x64x8x128, .f32⟩
  | 72 => ⟨S8x8x32x64x128, .f32⟩
  | 73 => ⟨S8x32x64x8x128, .f32⟩
  | 74 => ⟨S8x8x32x64x128, .f32⟩
  | 75 => ⟨S8x32x64x8x128, .f32⟩
  | 76 => ⟨S8x8x32x64x128, .f32⟩
  | 77 => ⟨S8x32x64x8x128, .f32⟩
  | 78 => ⟨S8x8x32x64x128, .f32⟩
  | 79 => ⟨S_, .f32⟩
  | 80 => ⟨S_, .f32⟩
  | 81 => ⟨S8x8x32x64x128, .f32⟩
  | 82 => ⟨S8x8x32x1x128, .f32⟩
  | 83 => ⟨S8x8x32x1x128, .f32⟩
  | 84 => ⟨S8x8x32x64x128, .f32⟩
  | 85 => ⟨S8x8x32x64x128, .f32⟩
  | 86 => ⟨S8x8x32x64x128, .f32⟩
  | 87 => ⟨S8x8x32x64x128, .f32⟩
  | 88 => ⟨S8x8x32x64x128, .f32⟩
  | 89 => ⟨S8x8x32x64x128, .f32⟩
  | 90 => ⟨S8x8x32x64x128, .f32⟩
  | 91 => ⟨S8x8x32x64x128, .f32⟩
  | 92 => ⟨S8x8x32x64x64, .f32⟩
  | 93 => ⟨S_, .i1⟩
  | 94 => ⟨S64x64, .i1⟩
  | 95 => ⟨S64x64, .i32⟩
  | 96 => ⟨S_, .i32⟩
  | 97 => ⟨S64x64, .i32⟩
  | 98 => ⟨S64x64, .i32⟩
  | 99 => ⟨S64x64, .i32⟩
  | 100 => ⟨S64x64, .i1⟩
  | 101 => ⟨S_, .i1⟩
  | 102 => ⟨S64x64, .i1⟩
  | 103 => ⟨S64x64, .i1⟩
  | 104 => ⟨S_, .f32⟩
  | 105 => ⟨S_, .f32⟩
  | 106 => ⟨S8x8x32x64x64, .i1⟩
  | 107 => ⟨S8x8x32x64x64, .f32⟩
  | 108 => ⟨S8x8x32x64x64, .f32⟩
  | 109 => ⟨S8x8x32x64x128, .f32⟩
  | 110 => ⟨S8x8x32x64x128, .f32⟩
  | 111 => ⟨S8x8x32x64x128, .f32⟩
  | 112 => ⟨S8x8x32x64x128, .f32⟩
  | 113 => ⟨S8x8x32x64x128, .f32⟩
  | 114 => ⟨S8x8x32x128x128, .f32⟩
  | 115 => ⟨S8x8x32x128, .f32⟩
  | 116 => ⟨S8x8x32x128, .f32⟩
  | 117 => ⟨S_, .f32⟩
  | 118 => ⟨S8x8x128x128, .f32⟩
  | 119 => ⟨S32x8x8x128, .f32⟩
  | 120 => ⟨S32x8x8x128x128, .f32⟩
  | 121 => ⟨S_, .f32⟩
  | 122 => ⟨S32x8x8x128x128, .f32⟩
  | 123 => ⟨S_, .i32⟩
  | 124 => ⟨S32x8x8x128, .f32⟩
  | 125 => ⟨S32x8x8x128x128, .f32⟩
  | 126 => ⟨S_, .i32⟩
  | 127 => ⟨S8x8x128x128, .f32⟩
  | _ => ⟨S16384x7168, .f32⟩

abbrev hbmTy0_1 (i : Nat) : BufTy := match i % 128 with
  | 0 => ⟨S32x8x8x128x128, .f32⟩
  | 1 => ⟨S_, .i32⟩
  | 2 => ⟨S_, .i1⟩
  | 3 => ⟨S_, .i32⟩
  | 4 => ⟨S_, .i32⟩
  | 5 => ⟨S_, .i32⟩
  | 6 => ⟨S1x8x8x128, .f32⟩
  | 7 => ⟨S8x8x128, .f32⟩
  | 8 => ⟨S_, .i32⟩
  | 9 => ⟨S_, .i32⟩
  | 10 => ⟨S_, .i32⟩
  | 11 => ⟨S_, .i32⟩
  | 12 => ⟨S1x8x8x128x128, .f32⟩
  | 13 => ⟨S8x8x128x128, .f32⟩
  | 14 => ⟨S8x8x128x1, .f32⟩
  | 15 => ⟨S8x8x128x128, .f32⟩
  | 16 => ⟨S8x8x128x128, .f32⟩
  | 17 => ⟨S8x8x128x128, .f32⟩
  | 18 => ⟨S1x8x8x128x128, .f32⟩
  | 19 => ⟨S_, .i32⟩
  | 20 => ⟨S_, .i32⟩
  | 21 => ⟨S_, .i32⟩
  | 22 => ⟨S_, .i32⟩
  | 23 => ⟨S32x8x8x128x128, .f32⟩
  | 24 => ⟨S_, .i32⟩
  | 25 => ⟨S_, .i32⟩
  | 26 => ⟨S8x8x32x64x128, .f32⟩
  | 27 => ⟨S8x8x32x64x128, .f32⟩
  | 28 => ⟨S8x8x32x64x128, .f32⟩
  | 29 => ⟨S8x8x32x64x128, .f32⟩
  | 30 => ⟨S8x32x64x8x128, .f32⟩
  | 31 => ⟨S8x2048x8x128, .f32⟩
  | 32 => ⟨S8x2048x8x128, .f32⟩
  | 33 => ⟨S_, .f32⟩
  | 34 => ⟨S8x2048x8, .f32⟩
  | 35 => ⟨S8x2048x8x1, .f32⟩
  | 36 => ⟨S_, .f32⟩
  | 37 => ⟨S8x2048x8x1, .f32⟩
  | 38 => ⟨S8x2048x8x1, .f32⟩
  | 39 => ⟨S_, .f32⟩
  | 40 => ⟨S8x2048x8x1, .f32⟩
  | 41 => ⟨S8x2048x8x1, .f32⟩
  | 42 => ⟨S8x2048x8x1, .f32⟩
  | 43 => ⟨S8x2048x8x128, .f32⟩
  | 44 => ⟨S8x2048x8x128, .f32⟩
  | 45 => ⟨S8x2048x1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S8x2048x1024, .f32⟩
  | 58 => ⟨S8x2048x1024, .f32⟩
  | 59 => ⟨S8x2048x1024, .f32⟩
  | 60 => ⟨S_, .i32⟩
  | 61 => ⟨S_, .f32⟩
  | 62 => ⟨S8x2050x1024, .f32⟩
  | 63 => ⟨S8x2048x1024, .f32⟩
  | 64 => ⟨S1x1024, .f32⟩
  | 65 => ⟨S1024, .f32⟩
  | 66 => ⟨S1x1x1024, .f32⟩
  | 67 => ⟨S8x2048x1024, .f32⟩
  | 68 => ⟨S8x2048x1024, .f32⟩
  | 69 => ⟨S_, .f32⟩
  | 70 => ⟨S8x2048x1024, .f32⟩
  | 71 => ⟨S8x2048x1024, .f32⟩
  | 72 => ⟨S8x2048x1024, .f32⟩
  | 73 => ⟨S1x1024, .f32⟩
  | 74 => ⟨S1024, .f32⟩
  | 75 => ⟨S1x1x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S1x1024, .f32⟩
  | 81 => ⟨S1024, .f32⟩
  | 82 => ⟨S1x1x1024, .f32⟩
  | 83 => ⟨S8x2048x1024, .f32⟩
  | 84 => ⟨S8x2048x1024, .f32⟩
  | 85 => ⟨S8x2048x1024, .f32⟩
  | 86 => ⟨S8x2048x1024, .f32⟩
  | 87 => ⟨S8x2048x1024, .bf16⟩
  | 88 => ⟨S8x2048x1024, .bf16⟩
  | 89 => ⟨S2048x2048, .f32⟩
  | 90 => ⟨S2048x2048, .bf16⟩
  | 91 => ⟨S2048x5632, .f32⟩
  | 92 => ⟨S2048x5632, .bf16⟩
  | 93 => ⟨S2048x5632, .f32⟩
  | 94 => ⟨S2048x5632, .bf16⟩
  | 95 => ⟨S5632x2048, .f32⟩
  | 96 => ⟨S5632x2048, .bf16⟩
  | _ => ⟨S16384x7168, .f32⟩

abbrev hbmTy (i : Nat) : BufTy := match i / 128 with
  | 0 => hbmTy0_0 i
  | 1 => hbmTy0_1 i
  | _ => ⟨S16384x7168, .f32⟩

abbrev bufTy : (tb : Table) → Fin (tcTables nBuf tb) → BufTy
  | .hbm, ⟨i, _⟩ => hbmTy i
  | _, _ => ⟨S16384x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_call0_cst : Ref sig .tc := ⟨.hbm, 23, rfl⟩
abbrev main_call0_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_call0_cst : Ref sig .tc := ⟨.hbm, 79, rfl⟩
abbrev main_call2_call0_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c : Ref sig .tc := ⟨.hbm, 93, rfl⟩
abbrev main_v66 : Ref sig .tc := ⟨.hbm, 94, rfl⟩
abbrev main_call3_v0 : Ref sig .tc := ⟨.hbm, 95, rfl⟩
abbrev main_call3_c : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_c_0 : Ref sig .tc := ⟨.hbm, 101, rfl⟩
abbrev main_call3_v5 : Ref sig .tc := ⟨.hbm, 102, rfl⟩
abbrev main_v67 : Ref sig .tc := ⟨.hbm, 103, rfl⟩
abbrev main_cst_6 : Ref sig .tc := ⟨.hbm, 104, rfl⟩
abbrev main_call4_v0 : Ref sig .tc := ⟨.hbm, 105, rfl⟩
abbrev main_call4_v1 : Ref sig .tc := ⟨.hbm, 106, rfl⟩
abbrev main_call4_v2 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_7 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_8 : Ref sig .tc := ⟨.hbm, 121, rfl⟩
abbrev main_v80 : Ref sig .tc := ⟨.hbm, 122, rfl⟩
abbrev main_c_9 : Ref sig .tc := ⟨.hbm, 123, rfl⟩
abbrev main_v81_0 : Ref sig .tc := ⟨.hbm, 124, rfl⟩
abbrev main_v81_1 : Ref sig .tc := ⟨.hbm, 125, rfl⟩
abbrev main_v81_2 : Ref sig .tc := ⟨.hbm, 126, rfl⟩
abbrev main_v81_3 : Ref sig .tc := ⟨.hbm, 127, rfl⟩
abbrev main_v81_4 : Ref sig .tc := ⟨.hbm, 128, rfl⟩
abbrev main_while0c_c_19 : Ref sig .tc := ⟨.hbm, 129, rfl⟩
abbrev main_while0c_v139 : Ref sig .tc := ⟨.hbm, 130, rfl⟩
abbrev main_while0b_call5_c : Ref sig .tc := ⟨.hbm, 131, rfl⟩
abbrev main_while0b_call5_c_0 : Ref sig .tc := ⟨.hbm, 132, rfl⟩
abbrev main_while0b_call5_c_1 : Ref sig .tc := ⟨.hbm, 133, rfl⟩
abbrev main_while0b_call5_v0 : Ref sig .tc := ⟨.hbm, 134, rfl⟩
abbrev main_while0b_v139 : Ref sig .tc := ⟨.hbm, 135, rfl⟩
abbrev main_while0b_call6_c : Ref sig .tc := ⟨.hbm, 136, rfl⟩
abbrev main_while0b_call6_c_0 : Ref sig .tc := ⟨.hbm, 137, rfl⟩
abbrev main_while0b_call6_c_1 : Ref sig .tc := ⟨.hbm, 138, rfl⟩
abbrev main_while0b_call6_c_2 : Ref sig .tc := ⟨.hbm, 139, rfl⟩
abbrev main_while0b_call6_v0 : Ref sig .tc := ⟨.hbm, 140, rfl⟩
abbrev main_while0b_v140 : Ref sig .tc := ⟨.hbm, 141, rfl⟩
abbrev main_while0b_v141 : Ref sig .tc := ⟨.hbm, 142, rfl⟩
abbrev main_while0b_v142 : Ref sig .tc := ⟨.hbm, 143, rfl⟩
abbrev main_while0b_v143 : Ref sig .tc := ⟨.hbm, 144, rfl⟩
abbrev main_while0b_v144 : Ref sig .tc := ⟨.hbm, 145, rfl⟩
abbrev main_while0b_call7_v0 : Ref sig .tc := ⟨.hbm, 146, rfl⟩
abbrev main_while0b_call7_c : Ref sig .tc := ⟨.hbm, 147, rfl⟩
abbrev main_while0b_call7_c_0 : Ref sig .tc := ⟨.hbm, 148, rfl⟩
abbrev main_while0b_call7_c_1 : Ref sig .tc := ⟨.hbm, 149, rfl⟩
abbrev main_while0b_call7_c_2 : Ref sig .tc := ⟨.hbm, 150, rfl⟩
abbrev main_while0b_v145 : Ref sig .tc := ⟨.hbm, 151, rfl⟩
abbrev main_while0b_c_19 : Ref sig .tc := ⟨.hbm, 152, rfl⟩
abbrev main_while0b_v146 : Ref sig .tc := ⟨.hbm, 153, rfl⟩
abbrev main_v82 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_10 : Ref sig .tc := ⟨.hbm, 161, rfl⟩
abbrev main_v89 : Ref sig .tc := ⟨.hbm, 162, rfl⟩
abbrev main_v90 : Ref sig .tc := ⟨.hbm, 163, rfl⟩
abbrev main_cst_11 : Ref sig .tc := ⟨.hbm, 164, rfl⟩
abbrev main_v91 : Ref sig .tc := ⟨.hbm, 165, rfl⟩
abbrev main_v92 : Ref sig .tc := ⟨.hbm, 166, rfl⟩
abbrev main_cst_12 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_call8_v0 : Ref sig .tc := ⟨.hbm, 177, rfl⟩
abbrev main_call8_v1 : Ref sig .tc := ⟨.hbm, 178, rfl⟩
abbrev main_call8_cst : Ref sig .tc := ⟨.hbm, 179, rfl⟩
abbrev main_call8_v2 : Ref sig .tc := ⟨.hbm, 180, rfl⟩
abbrev main_call8_v3 : Ref sig .tc := ⟨.hbm, 181, rfl⟩
abbrev main_call8_cst_0 : Ref sig .tc := ⟨.hbm, 182, rfl⟩
abbrev main_call8_v4 : Ref sig .tc := ⟨.hbm, 183, rfl⟩
abbrev main_call8_v5 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_c_13 : Ref sig .tc := ⟨.hbm, 188, rfl⟩
abbrev main_call9_v0 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_14 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x8x2048x1024 : Shape := ⟨4, ![1, 8, 2048, 1024]⟩
abbrev S1x8x1024x2048 : Shape := ⟨4, ![1, 8, 1024, 2048]⟩
abbrev S2048 : Shape := ⟨1, ![2048]⟩
abbrev S2048x5632 : Shape := ⟨2, ![2048, 5632]⟩
abbrev S5632x2048 : Shape := ⟨2, ![5632, 2048]⟩
abbrev S8x2048x1024 : Shape := ⟨3, ![8, 2048, 1024]⟩
abbrev S16384x1024 : Shape := ⟨2, ![16384, 1024]⟩
abbrev S8x1024x2048 : Shape := ⟨3, ![8, 1024, 2048]⟩
abbrev S8192x2048 : Shape := ⟨2, ![8192, 2048]⟩
abbrev S1024x2048 : Shape := ⟨2, ![1024, 2048]⟩
abbrev S2048x256 : Shape := ⟨2, ![2048, 256]⟩
abbrev S256x2048 : Shape := ⟨2, ![256, 2048]⟩
abbrev S64x1024 : Shape := ⟨2, ![64, 1024]⟩
abbrev S32x2048 : Shape := ⟨2, ![32, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 26
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x8x2048x1024, .f32⟩
  | .hbm, ⟨6, _⟩ => ⟨S1x8x2048x1024, .f32⟩
  | .hbm, ⟨7, _⟩ => ⟨S1x8x1024x2048, .f32⟩
  | .hbm, ⟨8, _⟩ => ⟨S2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S8x2048x1024, .f32⟩
  | .hbm, ⟨16, _⟩ => ⟨S16384x1024, .f32⟩
  | .hbm, ⟨17, _⟩ => ⟨S8x2048x1024, .f32⟩
  | .hbm, ⟨18, _⟩ => ⟨S16384x1024, .f32⟩
  | .hbm, ⟨19, _⟩ => ⟨S8x1024x2048, .f32⟩
  | .hbm, ⟨20, _⟩ => ⟨S8192x2048, .f32⟩
  | .hbm, ⟨21, _⟩ => ⟨S1x2048, .f32⟩
  | .hbm, ⟨22, _⟩ => ⟨S16384x2048, .f32⟩
  | .hbm, ⟨23, _⟩ => ⟨S16384x1024, .bf16⟩
  | .hbm, ⟨24, _⟩ => ⟨S16384x1024, .bf16⟩
  | .hbm, ⟨25, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S256x2048, .bf16⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S32x2048, .f32⟩
  | .local _ .vmem, ⟨14, _⟩ => ⟨S32x2048, .f32⟩
  | .local _ .vmem, ⟨15, _⟩ => ⟨S1024x2048, .f32⟩
  | .local _ .vmem, ⟨16, _⟩ => ⟨S1024x2048, .f32⟩
  | .local _ .vmem, ⟨17, _⟩ => ⟨S64x1024, .bf16⟩
  | .local _ .vmem, ⟨18, _⟩ => ⟨S64x1024, .bf16⟩
  | .local _ .vmem, ⟨19, _⟩ => ⟨S64x1024, .bf16⟩
  | .local _ .vmem, ⟨20, _⟩ => ⟨S64x1024, .bf16⟩
  | .local _ .vmem, ⟨21, _⟩ => ⟨S32x2048, .bf16⟩
  | .local _ .vmem, ⟨22, _⟩ => ⟨S32x2048, .bf16⟩
  | .local _ .vmem, ⟨23, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.muli v0 c22_i32
  let v2 : BitVec 32 := Scalar.addi v1 arg1
  let c255_i32 : BitVec 32 := 255#32
  let v3 : BitVec 32 := Scalar.minsi v2 c255_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.muli v0 c22_i32
  let v2 : BitVec 32 := Scalar.addi v1 arg1
  let c255_i32 : BitVec 32 := 255#32
  let v3 : BitVec 32 := Scalar.minsi v2 c255_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.muli v0 c22_i32
  let v2 : BitVec 32 := Scalar.addi v1 arg1
  let c255_i32 : BitVec 32 := 255#32
  let v3 : BitVec 32 := Scalar.minsi v2 c255_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.muli v0 c22_i32
  let v2 : BitVec 32 := Scalar.addi v1 arg1
  let c255_i32 : BitVec 32 := 255#32
  let v3 : BitVec 32 := Scalar.minsi v2 c255_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.muli v0 c22_i32
  let v2 : BitVec 32 := Scalar.addi v1 arg1
  let c255_i32 : BitVec 32 := 255#32
  let v3 : BitVec 32 := Scalar.minsi v2 c255_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c22_i32 : BitVec 32 := 22#32
  let v1 : BitVec 32 := Scalar.muli v0 c22_i32
  let v2 : BitVec 32 := Scalar.addi v1 arg1
  let c255_i32 : BitVec 32 := 255#32
  let v3 : BitVec 32 := Scalar.minsi v2 c255_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference2Ideal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S1x8x2048x1024 : Shape := ⟨4, ![1, 8, 2048, 1024]⟩
abbrev S1x8x1024x2048 : Shape := ⟨4, ![1, 8, 1024, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S5632x2048 : Shape := ⟨2, ![5632, 2048]⟩
abbrev S16384x5632 : Shape := ⟨2, ![16384, 5632]⟩
abbrev S8x2048x1024 : Shape := ⟨3, ![8, 2048, 1024]⟩
abbrev S16384x1024 : Shape := ⟨2, ![16384, 1024]⟩
abbrev S8x1024x2048 : Shape := ⟨3, ![8, 1024, 2048]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S1x8x2048x1024, .f32⟩
  | .hbm, ⟨6, _⟩ => ⟨S1x8x2048x1024, .f32⟩
  | .hbm, ⟨7, _⟩ => ⟨S1x8x1024x2048, .f32⟩
  | .hbm, ⟨8, _⟩ => ⟨S2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x5632, .f32⟩
  | .hbm, ⟨26, _⟩ => ⟨S2048x5632, .f32⟩
  | .hbm, ⟨27, _⟩ => ⟨S5632x2048, .f32⟩
  | .hbm, ⟨28, _⟩ => ⟨S16384x5632, .f32⟩
  | .hbm, ⟨29, _⟩ => ⟨S16384x5632, .f32⟩
  | .hbm, ⟨30, _⟩ => ⟨S16384x5632, .f32⟩
  | .hbm, ⟨31, _⟩ => ⟨S_, .f32⟩
  | .hbm, ⟨32, _⟩ => ⟨S16384x5632, .f32⟩
  | .hbm, ⟨33, _⟩ => ⟨S16384x5632, .f32⟩
  | .hbm, ⟨34, _⟩ => ⟨S_, .f32⟩
  | .hbm, ⟨35, _⟩ => ⟨S16384x5632, .f32⟩
  | .hbm, ⟨36, _⟩ => ⟨S16384x5632, .f32⟩
  | .hbm, ⟨37, _⟩ => ⟨S16384x5632, .f32⟩
  | .hbm, ⟨38, _⟩ => ⟨S16384x5632, .f32⟩
  | .hbm, ⟨39, _⟩ => ⟨S16384x5632, .f32⟩
  | .hbm, ⟨40, _⟩ => ⟨S16384x2048, .f32⟩
  | .hbm, ⟨41, _⟩ => ⟨S16384x2048, .f32⟩
  | .hbm, ⟨42, _⟩ => ⟨S8x2048x1024, .f32⟩
  | .hbm, ⟨43, _⟩ => ⟨S16384x1024, .f32⟩
  | .hbm, ⟨44, _⟩ => ⟨S16384x1024, .bf16⟩
  | .hbm, ⟨45, _⟩ => ⟨S8x2048x1024, .f32⟩
  | .hbm, ⟨46, _⟩ => ⟨S16384x1024, .f32⟩
  | .hbm, ⟨47, _⟩ => ⟨S16384x1024, .bf16⟩
  | .hbm, ⟨48, _⟩ => ⟨S8x1024x2048, .f32⟩
  | .hbm, ⟨49, _⟩ => ⟨S8192x2048, .f32⟩
  | .hbm, ⟨50, _⟩ => ⟨S8192x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S1x2048x7168 : Shape := ⟨3, ![1, 2048, 7168]⟩
abbrev S2048 : Shape := ⟨1, ![2048]⟩
abbrev S2048x7168 : Shape := ⟨2, ![2048, 7168]⟩
abbrev S16384x7168 : Shape := ⟨2, ![16384, 7168]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x7168, .f32⟩
  | .hbm, ⟨3, _⟩ => ⟨S2048, .f32⟩
  | .hbm, ⟨4, _⟩ => ⟨S2048x7168, .f32⟩
  | .hbm, ⟨5, _⟩ => ⟨S2048x7168, .bf16⟩
  | .hbm, ⟨6, _⟩ => ⟨S1x2048, .f32⟩
  | .hbm, ⟨7, _⟩ => ⟨S16384x7168, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16384x2048 : Shape := ⟨2, ![16384, 2048]⟩
abbrev S1x2048 : Shape := ⟨2, ![1, 2048]⟩
abbrev S1x2048x7168 : Shape := ⟨3, ![1, 2048, 7168]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x7168 : Shape := ⟨2, ![2048, 7168]⟩
abbrev S16384x7168 : Shape := ⟨2, ![16384, 7168]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x7168, .f32⟩
  | .hbm, ⟨3, _⟩ => ⟨S2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x7168, .f32⟩
  | .hbm, ⟨21, _⟩ => ⟨S16384x7168, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S1x2048x2048 : Shape := ⟨3, ![1, 2048, 2048]⟩
abbrev S2x2048x2048 : Shape := ⟨3, ![2, 2048, 2048]⟩
abbrev S2x256x2048 : Shape := ⟨3, ![2, 256, 2048]⟩
abbrev S1x4x512x512 : Shape := ⟨4, ![1, 4, 512, 512]⟩
abbrev S2048x2048 : Shape := ⟨2, ![2048, 2048]⟩
abbrev S4096x2048 : Shape := ⟨2, ![4096, 2048]⟩
abbrev S1x256x2048 : Shape := ⟨3, ![1, 256, 2048]⟩
abbrev S256x2048 : Shape := ⟨2, ![256, 2048]⟩
abbrev S512x2048 : Shape := ⟨2, ![512, 2048]⟩
abbrev S4x512x512 : Shape := ⟨3, ![4, 512, 512]⟩
abbrev S2048x512 : Shape := ⟨2, ![2048, 512]⟩
abbrev S512x1024 : Shape := ⟨2, ![512, 1024]⟩
abbrev S1024x2048 : Shape := ⟨2, ![1024, 2048]⟩
abbrev S64x2048 : Shape := ⟨2, ![64, 2048]⟩
abbrev S16x2048 : Shape := ⟨2, ![16, 2048]⟩
abbrev S64x512 : Shape := ⟨2, ![64, 512]⟩

abbrev nBuf : Space → Nat
  | .hbm => 23
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S1x2048x2048, .f32⟩
  | .hbm, ⟨4, _⟩ => ⟨S2x2048x2048, .f32⟩
  | .hbm, ⟨5, _⟩ => ⟨S2x256x2048, .f32⟩
  | .hbm, ⟨6, _⟩ => ⟨S1x4x512x512, .f32⟩
  | .hbm, ⟨7, _⟩ => ⟨S16384x1024, .bf16⟩
  | .hbm, ⟨8, _⟩ => ⟨S16384x1024, .bf16⟩
  | .hbm, ⟨9, _⟩ => ⟨S2048x2048, .f32⟩
  | .hbm, ⟨10, _⟩ => ⟨S2048x2048, .bf16⟩
  | .hbm, ⟨11, _⟩ => ⟨S1x2048x2048, .f32⟩
  | .hbm, ⟨12, _⟩ => ⟨S2048x2048, .f32⟩
  | .hbm, ⟨13, _⟩ => ⟨S4096x2048, .f32⟩
  | .hbm, ⟨14, _⟩ => ⟨S1x256x2048, .f32⟩
  | .hbm, ⟨15, _⟩ => ⟨S256x2048, .f32⟩
  | .hbm, ⟨16, _⟩ => ⟨S512x2048, .f32⟩
  | .hbm, ⟨17, _⟩ => ⟨S4x512x512, .f32⟩
  | .hbm, ⟨18, _⟩ => ⟨S2048x512, .f32⟩
  | .hbm, ⟨19, _⟩ => ⟨S16384x2048, .f32⟩
  | .hbm, ⟨20, _⟩ => ⟨S2048x2048, .bf16⟩
  | .hbm, ⟨21, _⟩ => ⟨S256x2048, .bf16⟩
  | .hbm, ⟨22, _⟩ => ⟨S2048x512, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S64x2048, .f32⟩
  | .local _ .vmem, ⟨9, _⟩ => ⟨S64x2048, .f32⟩
  | .local _ .vmem, ⟨10, _⟩ => ⟨S16x2048, .f32⟩
  | .local _ .vmem, ⟨11, _⟩ => ⟨S16x2048, .f32⟩
  | .local _ .vmem, ⟨12, _⟩ => ⟨S64x512, .f32⟩
  | .local _ .vmem, ⟨13, _⟩ => ⟨S64x512, .f32⟩
  | .local _ .vmem, ⟨14, _⟩ => ⟨S512x2048, .f32⟩
  | .local _ .vmem, ⟨15, _⟩ => ⟨S512x2048, .f32⟩
  | .local _ .vmem, ⟨16, _⟩ => ⟨S64x2048, .bf16⟩
  | .local _ .vmem, ⟨17, _⟩ => ⟨S64x2048, .bf16⟩
  | .local _ .vmem, ⟨18, _⟩ => ⟨S16x2048, .bf16⟩
  | .local _ .vmem, ⟨19, _⟩ => ⟨S16x2048, .bf16⟩
  | .local _ .vmem, ⟨20, _⟩ => ⟨S64x512, .bf16⟩
  | .local _ .vmem, ⟨21, _⟩ => ⟨S64x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c31_i32 : BitVec 32 := 31#32
  let v3 : BitVec 32 := Scalar.minsi v2 c31_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c15_i32 : BitVec 32 := 15#32
  let v3 : BitVec 32 := Scalar.minsi v2 c15_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c31_i32 : BitVec 32 := 31#32
  let v3 : BitVec 32 := Scalar.minsi v2 c31_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c31_i32 : BitVec 32 := 31#32
  let v3 : BitVec 32 := Scalar.minsi v2 c31_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c15_i32 : BitVec 32 := 15#32
  let v3 : BitVec 32 := Scalar.minsi v2 c15_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.muli v0 c1_i32
  let v2 : BitVec 32 := Scalar.addi v1 arg1
  let c31_i32 : BitVec 32 := 31#32
  let v3 : BitVec 32 := Scalar.minsi v2 c31_i32
  let c0_i32_0 : BitVec 32 := 0#32
  let v4 : BitVec 32 := Scalar.addi c0_i32_0 v3
  let c0_i32_1 : BitVec 32 := 0#32
  let c0_i32_2 : BitVec 32 := 0#32
  ![v4.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference4Ideal.lean ====
abbrev S16384x2048 : Shape := ⟨2, ![16384, 2048]⟩
abbrev S16384x1024 : Shape := ⟨2, ![16384, 1024]⟩
abbrev S1x2048x2048 : Shape := ⟨3, ![1, 2048, 2048]⟩
abbrev S2x2048x2048 : Shape := ⟨3, ![2, 2048, 2048]⟩
abbrev S2x256x2048 : Shape := ⟨3, ![2, 256, 2048]⟩
abbrev S1x4x512x512 : Shape := ⟨4, ![1, 4, 512, 512]⟩
abbrev S2048x2048 : Shape := ⟨2, ![2048, 2048]⟩
abbrev S1x256x2048 : Shape := ⟨3, ![1, 256, 2048]⟩
abbrev S256x2048 : Shape := ⟨2, ![256, 2048]⟩
abbrev S4x512x512 : Shape := ⟨3, ![4, 512, 512]⟩
abbrev S2048x512 : Shape := ⟨2, ![2048, 512]⟩

abbrev nBuf : Space → Nat
  | .hbm => 20
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .f32⟩
  | .hbm, ⟨2, _⟩ => ⟨S16384x1024, .f32⟩
  | .hbm, ⟨3, _⟩ => ⟨S1x2048x2048, .f32⟩
  | .hbm, ⟨4, _⟩ => ⟨S2x2048x2048, .f32⟩
  | .hbm, ⟨5, _⟩ => ⟨S2x256x2048, .f32⟩
  | .hbm, ⟨6, _⟩ => ⟨S1x4x512x512, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | .hbm, ⟨11, _⟩ => ⟨S1x2048x2048, .f32⟩
  | .hbm, ⟨12, _⟩ => ⟨S2048x2048, .f32⟩
  | .hbm, ⟨13, _⟩ => ⟨S2048x2048, .bf16⟩
  | .hbm, ⟨14, _⟩ => ⟨S1x256x2048, .f32⟩
  | .hbm, ⟨15, _⟩ => ⟨S256x2048, .f32⟩
  | .hbm, ⟨16, _⟩ => ⟨S256x2048, .bf16⟩
  | .hbm, ⟨17, _⟩ => ⟨S4x512x512, .f32⟩
  | .hbm, ⟨18, _⟩ => ⟨S2048x512, .f32⟩
  | .hbm, ⟨19, _⟩ => ⟨S2048x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel5.lean ====
abbrev S16384x2048 : Shape := ⟨2, ![16384, 2048]⟩
abbrev S2x16384x256 : Shape := ⟨3, ![2, 16384, 256]⟩
abbrev S2048 : Shape := ⟨1, ![2048]⟩
abbrev S2x2048 : Shape := ⟨2, ![2, 2048]⟩
abbrev S2x2048x2048 : Shape := ⟨3, ![2, 2048, 2048]⟩
abbrev S2x256x2048 : Shape := ⟨3, ![2, 256, 2048]⟩
abbrev S1x2048 : Shape := ⟨2, ![1, 2048]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩

abbrev nBuf : Space → Nat
  | .hbm => 17
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2048, .f32⟩
  | .hbm, ⟨3, _⟩ => ⟨S2x2048, .f32⟩
  | .hbm, ⟨4, _⟩ => ⟨S2x2048x2048, .f32⟩
  | .hbm, ⟨5, _⟩ => ⟨S2x256x2048, .f32⟩
  | .hbm, ⟨6, _⟩ => ⟨S1x2048, .f32⟩
  | .hbm, ⟨7, _⟩ => ⟨S2048, .f32⟩
  | .hbm, ⟨8, _⟩ => ⟨S1x2048x2048, .f32⟩
  | .hbm, ⟨9, _⟩ => ⟨S2048x2048, .f32⟩
  | .hbm, ⟨10, _⟩ => ⟨S2048x2048, .bf16⟩
  | .hbm, ⟨11, _⟩ => ⟨S1x256x2048, .f32⟩
  | .hbm, ⟨12, _⟩ => ⟨S256x2048, .f32⟩
  | .hbm, ⟨13, _⟩ => ⟨S256x2048, .bf16⟩
  | .hbm, ⟨14, _⟩ => ⟨S1x2048, .f32⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x512x256, .f32⟩
  | .local _ .vmem, ⟨5, _⟩ => ⟨S1x512x256, .f32⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S16384x2048 : Shape := ⟨2, ![16384, 2048]⟩
abbrev S2x16384x256 : Shape := ⟨3, ![2, 16384, 256]⟩
abbrev S2048 : Shape := ⟨1, ![2048]⟩
abbrev S2x2048 : Shape := ⟨2, ![2, 2048]⟩
abbrev S2x2048x2048 : Shape := ⟨3, ![2, 2048, 2048]⟩
abbrev S2x256x2048 : Shape := ⟨3, ![2, 256, 2048]⟩
abbrev S1x16384x256 : Shape := ⟨3, ![1, 16384, 256]⟩
abbrev S16384x256 : Shape := ⟨2, ![16384, 256]⟩
abbrev S1x2048 : Shape := ⟨2, ![1, 2048]⟩
abbrev S1x2048x2048 : Shape := ⟨3, ![1, 2048, 2048]⟩
abbrev S2048x2048 : Shape := ⟨2, ![2048, 2048]⟩
abbrev S1x256x2048 : Shape := ⟨3, ![1, 256, 2048]⟩
abbrev S256x2048 : Shape := ⟨2, ![256, 2048]⟩
abbrev S_ : Shape := ⟨0, ![]⟩
abbrev S16384 : Shape := ⟨1, ![16384]⟩
abbrev S16384x1 : Shape := ⟨2, ![16384, 1]⟩

abbrev nBuf : Space → Nat
  | .hbm => 42
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x16384x256, .f32⟩
  | .hbm, ⟨2, _⟩ => ⟨S2048, .f32⟩
  | .hbm, ⟨3, _⟩ => ⟨S2x2048, .f32⟩
  | .hbm, ⟨4, _⟩ => ⟨S2x2048x2048, .f32⟩
  | .hbm, ⟨5, _⟩ => ⟨S2x256x2048, .f32⟩
  | .hbm, ⟨6, _⟩ => ⟨S1x16384x256, .f32⟩
  | .hbm, ⟨7, _⟩ => ⟨S16384x256, .f32⟩
  | .hbm, ⟨8, _⟩ => ⟨S1x2048, .f32⟩
  | .hbm, ⟨9, _⟩ => ⟨S2048, .f32⟩
  | .hbm, ⟨10, _⟩ => ⟨S1x2048x2048, .f32⟩
  | .hbm, ⟨11, _⟩ => ⟨S2048x2048, .f32⟩
  | .hbm, ⟨12, _⟩ => ⟨S1x256x2048, .f32⟩
  | .hbm, ⟨13, _⟩ => ⟨S256x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Reads.lean ====
/-
  The arrays the grid reads, at an index, from the arguments: the reshaped arguments and the 0/1 matrix of the
  pairs of rows in one chunk, the second not after the first.
-/
module
public import proofs.«01_k».proof.Proof.Gen.KernelIdeal.Value
public import Idealize.ShloMosaic.Lib.Pointwise
public import Idealize.ShloMosaic.Lib.StableHlo.ReadAt
@[expose] public section
set_option maxRecDepth 16384
noncomputable section
namespace Cert.KernelIdeal.Hand
open Cert.KernelIdeal Cert.KernelIdeal.Gen
open Idealize.ShloMosaic Idealize.ShloMosaic.TcCoe

theorem hquot : ∀ r : Fin 128, (Scalar.select
            (IntOp.andi
              (IntOp.cmpi CmpIPredicate.ne
                (if BitVec.ofNat 32 r.val = 0 then (0 : BitVec 32) else if (BitVec.ofNat 32 r.val).msb = true then -1 else 1)
                (if (64#32 : BitVec 32) = 0 then (0 : BitVec 32) else if BitVec.msb 64#32 = true then -1 else 1))
              (IntOp.cmpi CmpIPredicate.ne (IntOp.remsi ArithUnit.host (BitVec.ofNat 32 r.val) 64#32) 0#32))
            (IntOp.subi (IntOp.divsi ArithUnit.host (BitVec.ofNat 32 r.val) 64#32) 1#32)
            (IntOp.divsi ArithUnit.host (BitVec.ofNat 32 r.val) 64#32) : BitVec 32) = BitVec.ofNat 32 (r.val / 64) := by
  decide +kernel

theorem tri_bits : ∀ r x : Fin 128, IntOp.andi (IntOp.cmpi CmpIPredicate.sge (BitVec.ofNat 32 r.val) (BitVec.ofNat 32 x.val))
      (IntOp.cmpi CmpIPredicate.eq (BitVec.ofNat 32 (r.val / 64)) (BitVec.ofNat 32 (x.val / 64)))
      = if x.val ≤ r.val ∧ x.val / 64 = r.val / 64 then 1#1 else 0#1 := by
  decide +kernel

variable (m : (ℓ : Loc nD τ sig) → Buf (Elt Ideal) ℓ) (c : Dev nD)

theorem V_v17 (r x : Fin 128) : (V m c main_v17 : Vec Ideal S128x128 .bf16) (ix2 r x)
    = (if x.val ≤ r.val ∧ x.val / 64 = r.val / 64 then 1 else 0 : EReal) := by
  unfold V
  simp only [hostOps0, hostOps0_1, hostOps0_2, hostOps0_3, hostOps0_4, List.flatten_cons, List.flatten_nil, List.append_nil, List.cons_append,
      List.nil_append]
  after_reads_at
  have e : (id (constantI S_ 32 64#32) ix0 : BitVec 32) = 64#32 := rfl
  rw [e, hquot, hquot, tri_bits]
  split
  · show (((1#1 : BitVec 1).toNat : ℝ) : EReal) = 1
    simp
  · show (((0#1 : BitVec 1).toNat : ℝ) : EReal) = 0
    simp

theorem V_v2 (b : Fin 8) (t : Fin 2048) (l : Fin 7168) : (V m c main_v2 : Vec Ideal S8x2048x7168 .f32) (ix3 b t l)
    = (m (c.tc.loc main_arg0) : Vec Ideal S16384x7168 .f32) (ix2 ⟨2048 * b.val + t.val, by omega⟩ l) := by
  unfold V
  simp only [hostOps0, hostOps0_1, hostOps0_2, hostOps0_3, hostOps0_4, List.flatten_cons, List.flatten_nil, List.append_nil, List.cons_append,
      List.nil_append]
  after_reads_simp
  refine shapeCast_apply _ _ _ _ ?_
  show (S16384x7168.rowMajor (ix2 ⟨2048 * b.val + t.val, by omega⟩ l)).val = (S8x2048x7168.rowMajor (ix3 b t l)).val
  rw [Shape.rowMajor_val_two, Shape.rowMajor_val_three]
  show (2048 * b.val + t.val) * 7168 + l.val = (b.val * 2048 + t.val) * 7168 + l.val
  ring

theorem V_v1 (x : Fin 3) (l : Fin 1024) : (V m c main_v1 : Vec Ideal S3x1024 .f32) (ix2 x l)
    = (m (c.tc.loc main_arg3) : Vec Ideal S1x3x1024 .f32) (ix3 0 x l) := by
  unfold V
  simp only [hostOps0, hostOps0_1, hostOps0_2, hostOps0_3, hostOps0_4, List.flatten_cons, List.flatten_nil, List.append_nil, List.cons_append,
      List.nil_append]
  after_reads_at

theorem V_v26 (l : Fin 1024) : (V m c main_v26 : Vec Ideal S1x1024 .f32) (ix2 0 l)
    = (m (c.tc.loc main_arg2) : Vec Ideal S1x1024 .f32) (ix2 0 l) := by
  unfold V
  simp only [hostOps0, hostOps0_1, hostOps0_2, hostOps0_3, hostOps0_4, List.flatten_cons, List.flatten_nil, List.append_nil, List.cons_append,
      List.nil_append]
  after_reads_at

theorem V_v19 (r : Fin 2048) (l : Fin 2048) : (V m c main_v19 : Vec Ideal S2048x2048 .f32) (ix2 r l)
    = (m (c.tc.loc main_arg4) : Vec Ideal S1x2048x2048 .f32) (ix3 0 r l) := by
  unfold V
  simp only [hostOps0, hostOps0_1, hostOps0_2, hostOps0_3, hostOps0_4, List.flatten_cons, List.flatten_nil, List.append_nil, List.cons_append,
      List.nil_append]
  after_reads_at

theorem V_v21 (r : Fin 2048) (l : Fin 5632) : (V m c main_v21 : Vec Ideal S2048x5632 .f32) (ix2 r l)
    = (m (c.tc.loc main_arg5) : Vec Ideal S1x2048x5632 .f32) (ix3 0 r l) := by
  unfold V
  simp only [hostOps0, hostOps0_1, hostOps0_2, hostOps0_3, hostOps0_4, List.flatten_cons, List.flatten_nil, List.append_nil, List.cons_append,
      List.nil_append]
  after_reads_at

theorem V_v23 (r : Fin 2048) (l : Fin 5632) : (V m c main_v23 : Vec Ideal S2048x5632 .f32) (ix2 r l)
    = (m (c.tc.loc main_arg6) : Vec Ideal S1x2048x5632 .f32) (ix3 0 r l) := by
  unfold V
  simp only [hostOps0, hostOps0_1, hostOps0_2, hostOps0_3, hostOps0_4, List.flatten_cons, List.flatten_nil, List.append_nil, List.cons_append,
      List.nil_append]
  after_reads_at

theorem V_v25 (r : Fin 5632) (l : Fin 2048) : (V m c main_v25 : Vec Ideal S5632x2048 .f32) (ix2 r l)
    = (m (c.tc.loc main_arg7) : Vec Ideal S1x5632x2048 .f32) (ix3 0 r l) := by
  unfold V
  simp only [hostOps0, hostOps0_1, hostOps0_2, hostOps0_3, hostOps0_4, List.flatten_cons, List.flatten_nil, List.append_nil, List.cons_append,
      List.nil_append]
  after_reads_at

end Cert.KernelIdeal.Hand
-- ==== Proof.Spec.lean ====
/-
  The gated recurrence of one head as functions of time, over the extended reals: what both programs compute.
  Time is a natural number `t = 64 c + i` (chunk `c`, place `i`); `XQ XF XI XG` are the head's four projected
  signals, `L` the forget gate's floor, `G` the gain.
-/
module

public import Idealize.ShloMosaic.Lib.Pointwise

@[expose] public section

noncomputable section

namespace Hgrn

open Idealize.ShloMosaic

abbrev Sig := Nat → Fin 128 → EReal

/-- The logistic function and the forget gate. -/
def sg (x : EReal) : EReal := Ideal.div 1 (1 + Ideal.exp (-x))
def fg (L : Fin 128 → EReal) (XF : Sig) (t : Nat) (d : Fin 128) : EReal := L d + (1 - L d) * sg (XF t d)
def lf (L : Fin 128 → EReal) (XF : Sig) (t : Nat) (d : Fin 128) : EReal := Ideal.log (fg L XF t d)

/-- The running sum of the log-forget gate inside chunk `c`, up to and with place `i`. -/
def cum (L : Fin 128 → EReal) (XF : Sig) (c : Nat) (i : Fin 64) (d : Fin 128) : EReal :=
  ∑ j : Fin 64, if j ≤ i then lf L XF (64 * c + j.val) d else 0

def qq (XQ : Sig) (t : Nat) (d : Fin 128) : EReal := XQ t d * sg (XQ t d)
def kk (L : Fin 128 → EReal) (XF : Sig) (t : Nat) (d : Fin 128) : EReal := 1 - fg L XF t d

def qe (L : Fin 128 → EReal) (XF XQ : Sig) (c : Nat) (i : Fin 64) (d : Fin 128) : EReal :=
  qq XQ (64 * c + i.val) d * Ideal.exp (cum L XF c i d - cum L XF c 32 d)
def ke (L : Fin 128 → EReal) (XF : Sig) (c : Nat) (i : Fin 64) (d : Fin 128) : EReal :=
  kk L XF (64 * c + i.val) d * Ideal.exp (cum L XF c 32 d - cum L XF c i d)
def qc (L : Fin 128 → EReal) (XF XQ : Sig) (c : Nat) (i : Fin 64) (d : Fin 128) : EReal :=
  qq XQ (64 * c + i.val) d * Ideal.exp (cum L XF c i d)
def kd (L : Fin 128 → EReal) (XF : Sig) (c : Nat) (i : Fin 64) (d : Fin 128) : EReal :=
  kk L XF (64 * c + i.val) d * Ideal.exp (cum L XF c 63 d - cum L XF c i d)

/-- Chunk `c`'s outer product, value lane `v` against key lane `d`. -/
def kv (L : Fin 128 → EReal) (XF XI : Sig) (c : Nat) (v d : Fin 128) : EReal :=
  ∑ i : Fin 64, XI (64 * c + i.val) v * kd L XF c i d

/-- The state before chunk `c`. -/
def St (L : Fin 128 → EReal) (XF XI : Sig) : Nat → Fin 128 → Fin 128 → EReal
  | 0 => fun _ _ => 0
  | c + 1 => fun v d => Ideal.exp (cum L XF c 63 d) * St L XF XI c v d + kv L XF XI c v d

/-- The two halves of the output: from the pairs inside the chunk, and from the state before it. -/
def intra (L : Fin 128 → EReal) (XF XQ XI : Sig) (c : Nat) (i : Fin 64) (v : Fin 128) : EReal :=
  ∑ j : Fin 64, (if j ≤ i then ∑ d : Fin 128, qe L XF XQ c i d * ke L XF c j d else 0) * XI (64 * c + j.val) v
def inter (L : Fin 128 → EReal) (XF XQ XI : Sig) (c : Nat) (i : Fin 64) (v : Fin 128) : EReal :=
  ∑ d : Fin 128, qc L XF XQ c i d * St L XF XI c v d
def oo (L : Fin 128 → EReal) (XF XQ XI : Sig) (c : Nat) (i : Fin 64) (v : Fin 128) : EReal :=
  intra L XF XQ XI c i v + inter L XF XQ XI c i v

/-- Normalised over the head's lanes, with the gain and the output gate. -/
def nrm (L G : Fin 128 → EReal) (XF XQ XI : Sig) (c : Nat) (i : Fin 64) (v : Fin 128) : EReal :=
  oo L XF XQ XI c i v
    * Ideal.rsqrt (Ideal.div (∑ w : Fin 128, oo L XF XQ XI c i w * oo L XF XQ XI c i w) (Ideal.ofBits .f32 0x43000000#32)
        + Ideal.ofBits .f32 0x358637BD#32) * G v
def out (L G : Fin 128 → EReal) (XF XQ XI XG : Sig) (c : Nat) (i : Fin 64) (v : Fin 128) : EReal :=
  nrm L G XF XQ XI c i v * (XG (64 * c + i.val) v * sg (XG (64 * c + i.val) v))

/-! ### Sums over two chunks' rows with the pair mask -/

/-- A sum over 128 rows whose terms outside the row's own chunk, and after the row, vanish. -/
theorem sum_mask (f : Fin 128 → EReal) (r : Fin 128)
    (hf : ∀ x : Fin 128, ¬(x.val ≤ r.val ∧ x.val / 64 = r.val / 64) → f x = 0) :
    ∑ x, f x = ∑ j : Fin 64, f ⟨64 * (r.val / 64) + j.val, by omega⟩ := by
  have e : ∑ x, f x = ∑ p : Fin 2 × Fin 64, f (finProdFinEquiv (m := 2) (n := 64) p) :=
    (Equiv.sum_comp (finProdFinEquiv (m := 2) (n := 64)) f).symm
  rw [e, Fintype.sum_prod_type, Fin.sum_univ_two]
  have h2 : r.val / 64 = 0 ∨ r.val / 64 = 1 := by omega
  have key : ∀ (a : Fin 2) (j : Fin 64), (finProdFinEquiv (m := 2) (n := 64) (a, j)).val = j.val + 64 * a.val :=
    fun a j => rfl
  rcases h2 with h | h
  · rw [Finset.sum_eq_zero (s := Finset.univ) (f := fun y : Fin 64 => f (finProdFinEquiv (m := 2) (n := 64) (1, y)))]
    · rw [add_zero]
      refine Finset.sum_congr rfl fun j _ => congrArg f (Fin.ext ?_)
      rw [key]; show _ = 64 * (r.val / 64) + j.val; rw [h]; simp
    · intro j _
      apply hf
      rw [key]; intro hh; have := hh.2; simp at this; omega
  · rw [Finset.sum_eq_zero (s := Finset.univ) (f := fun y : Fin 64 => f (finProdFinEquiv (m := 2) (n := 64) (0, y)))]
    · rw [zero_add]
      refine Finset.sum_congr rfl fun j _ => congrArg f (Fin.ext ?_)
      rw [key]; show _ = 64 * (r.val / 64) + j.val; rw [h]; simp; omega
    · intro j _
      apply hf
      rw [key]; intro hh; have := hh.2; simp at this; omega

/-- The three products with the 0/1 matrix add up to the running sum: a real summand's two corrections are `0`,
    a summand `⊥` makes all three `⊥`. -/
theorem sum_three (T : Fin 128 → EReal) (l : Fin 128 → EReal) (r : Fin 128) (hl : ∀ x, l x ≠ ⊤)
    (hT : ∀ x : Fin 128, T x = if x.val ≤ r.val ∧ x.val / 64 = r.val / 64 then 1 else 0) :
    ∑ x, T x * l x + ∑ x, T x * (l x - l x) + ∑ x, T x * (l x - l x - (l x - l x))
      = ∑ j : Fin 64, if j.val ≤ r.val % 64 then l ⟨64 * (r.val / 64) + j.val, by omega⟩ else 0 := by
  rw [← Finset.sum_add_distrib, ← Finset.sum_add_distrib, sum_mask _ r]
  · refine Finset.sum_congr rfl fun j _ => ?_
    have e : (64 * (r.val / 64) + j.val ≤ r.val ∧ (64 * (r.val / 64) + j.val) / 64 = r.val / 64) ↔ j.val ≤ r.val % 64 := by
      omega
    rw [hT]
    simp only [e]
    by_cases h : j.val ≤ r.val % 64
    · simp only [if_pos h, one_mul]
      generalize hx : l ⟨64 * (r.val / 64) + j.val, by omega⟩ = y
      have hy : y ≠ ⊤ := hx ▸ hl _
      induction y with
      | bot => simp
      | top => exact absurd rfl hy
      | coe a => rw [← EReal.coe_sub, sub_self]; simp
    · simp only [if_neg h, zero_mul, add_zero]
  · intro x hx
    rw [hT, if_neg hx]; simp

end Hgrn
-- ==== Proof.Head.lean ====
/-
  The results of one call as functions of the flat input `U` (row, lane), the floor table `T`, the gain `Gn`
  and the convolution's taps `CW`; and the floor is never the top element, so no log-forget gate is.
-/
module

public import proofs.«01_k».proof.Proof.Spec

@[expose] public section

noncomputable section

namespace Hgrn

open Idealize.ShloMosaic

/-- Head `h`'s 128 lanes of the projection that starts at lane `off`, batch row `b`, over time. -/
def chan (U : Nat → Nat → EReal) (b off h : Nat) : Sig := fun t d => U (2048 * b + t) (off + 128 * h + d.val)

/-- The table's column maximum, its shifted exponentials, and the forget gate's floor. -/
def mx (T : Fin 3 → Nat → EReal) (l : Nat) : EReal :=
  Finset.fold max (Ideal.ofBits .f32 0xFF800000#32) (fun x => T x l) Finset.univ
def ev (T : Fin 3 → Nat → EReal) (x : Fin 3) (l : Nat) : EReal := Ideal.exp (T x l - mx T l)
def lbf (T : Fin 3 → Nat → EReal) (h : Nat) (d : Fin 128) : EReal :=
  Ideal.div (ev T 0 (128 * h + d.val)) (∑ x : Fin 3, ev T x (128 * h + d.val))

def aVal (U : Nat → Nat → EReal) (T : Fin 3 → Nat → EReal) (Gn : Nat → EReal) (b t l : Nat) : EReal :=
  out (lbf T (l / 128)) (fun d => Gn (128 * (l / 128) + d.val)) (chan U b 1024 (l / 128)) (chan U b 0 (l / 128))
    (chan U b 2048 (l / 128)) (chan U b 3072 (l / 128)) (t / 64) ⟨t % 64, Nat.mod_lt _ (by decide)⟩
    ⟨l % 128, Nat.mod_lt _ (by decide)⟩

/-- The gated short convolution: the product of two gates, at this time and the two before it. -/
def bVal (U : Nat → Nat → EReal) (CW : Fin 3 → Nat → EReal) (b t l : Nat) : EReal :=
  U (2048 * b + t) (4096 + l)
    * (U (2048 * b + t) (5120 + l) * U (2048 * b + t) (6144 + l) * CW 2 l
      + (if 1 ≤ t then U (2048 * b + (t - 1)) (5120 + l) * U (2048 * b + (t - 1)) (6144 + l) * CW 1 l else 0)
      + (if 2 ≤ t then U (2048 * b + (t - 2)) (5120 + l) * U (2048 * b + (t - 2)) (6144 + l) * CW 0 l else 0))

/-- The argument arrays as functions of natural numbers. -/
def flatU (x : (⟨2, ![16384, 7168]⟩ : Shape).Idx → EReal) (r l : Nat) : EReal := x (ix2 (Fin.ofNat 16384 r) (Fin.ofNat 7168 l))
def flatT (x : (⟨2, ![3, 1024]⟩ : Shape).Idx → EReal) (i : Fin 3) (l : Nat) : EReal := x (ix2 i (Fin.ofNat 1024 l))
def flatG (x : (⟨2, ![1, 1024]⟩ : Shape).Idx → EReal) (l : Nat) : EReal := x (ix2 0 (Fin.ofNat 1024 l))
def flatC (x : (⟨3, ![1, 3, 1024]⟩ : Shape).Idx → EReal) (i : Fin 3) (l : Nat) : EReal := x (ix3 0 i (Fin.ofNat 1024 l))

theorem flatU_eq (x : (⟨2, ![16384, 7168]⟩ : Shape).Idx → EReal) (r : Fin 16384) (l : Fin 7168) : x (ix2 r l) = flatU x r.val l.val := by
  unfold flatU
  rw [Fin.ofNat_val_eq_self, Fin.ofNat_val_eq_self]
theorem flatT_eq (x : (⟨2, ![3, 1024]⟩ : Shape).Idx → EReal) (i : Fin 3) (l : Fin 1024) : x (ix2 i l) = flatT x i l.val := by
  unfold flatT
  rw [Fin.ofNat_val_eq_self]
theorem flatG_eq (x : (⟨2, ![1, 1024]⟩ : Shape).Idx → EReal) (l : Fin 1024) : x (ix2 0 l) = flatG x l.val := by
  unfold flatG
  rw [Fin.ofNat_val_eq_self]
theorem flatC_eq (x : (⟨3, ![1, 3, 1024]⟩ : Shape).Idx → EReal) (i : Fin 3) (l : Fin 1024) : x (ix3 0 i l) = flatC x i l.val := by
  unfold flatC
  rw [Fin.ofNat_val_eq_self]

theorem exp_nonneg (x : EReal) : 0 ≤ Ideal.exp x := by
  induction x using EReal.rec with
  | bot => exact le_refl _
  | coe r => exact EReal.coe_nonneg.mpr (Real.exp_pos r).le
  | top => exact le_top

theorem exp_le_one {x : EReal} (h : x ≤ 0) : Ideal.exp x ≤ 1 := by
  induction x using EReal.rec with
  | bot => exact zero_le_one
  | coe r =>
    have : r ≤ 0 := EReal.coe_nonpos.mp h
    show ((Real.exp r : ℝ) : EReal) ≤ 1
    exact_mod_cast (Real.exp_le_one_iff.mpr this)
  | top => exact absurd h (by simp)

theorem le_mx (T : Fin 3 → Nat → EReal) (x : Fin 3) (l : Nat) : T x l ≤ mx T l := by
  unfold mx
  exact (Finset.le_fold_max _).mpr (Or.inr ⟨x, Finset.mem_univ _, le_refl _⟩)

theorem ev_le_one (T : Fin 3 → Nat → EReal) (x : Fin 3) (l : Nat) : ev T x l ≤ 1 := by
  apply exp_le_one
  have h := le_mx T x l
  generalize T x l = a at h
  generalize mx T l = c at h
  induction a using EReal.rec with
  | bot => simp
  | coe r => exact EReal.sub_nonpos.mpr h
  | top => rw [top_le_iff.mp h]; simp

theorem div_ne_top {x y : EReal} (hx : 0 ≤ x) (hxy : x ≤ y) (hy : y ≠ ⊤) : Ideal.div x y ≠ ⊤ := by
  unfold Ideal.div
  split
  · rename_i h0
    rw [if_neg (by rw [← h0]; exact not_lt.mpr hxy)]
    exact bot_ne_top
  · have hx' : x ≠ ⊤ := fun h => hy (top_le_iff.mp (h ▸ hxy))
    have hxb : x ≠ ⊥ := fun h => by simp [h] at hx
    have hyb : y ≠ ⊥ := fun h => by rw [h] at hxy; exact hxb (le_bot_iff.mp hxy)
    lift x to ℝ using ⟨hx', hxb⟩
    lift y to ℝ using ⟨hy, hyb⟩
    rw [← EReal.coe_inv, ← EReal.coe_mul]
    exact EReal.coe_ne_top _

theorem lbf_ne_top (T : Fin 3 → Nat → EReal) (h : Nat) (d : Fin 128) : lbf T h d ≠ ⊤ := by
  unfold lbf
  have hn := fun x => exp_nonneg (T x (128 * h + d.val) - mx T (128 * h + d.val))
  refine div_ne_top (hn 0) (Finset.single_le_sum (f := fun x => ev T x (128 * h + d.val)) (fun x _ => hn x) (Finset.mem_univ 0)) ?_
  rw [Fin.sum_univ_three]
  have ht := fun x : Fin 3 => ne_top_of_le_ne_top (b := (1 : EReal)) (EReal.coe_ne_top 1) (ev_le_one T x (128 * h + d.val))
  exact EReal.add_ne_top (EReal.add_ne_top (ht 0) (ht 1)) (ht 2)

theorem sg_real (x : EReal) : ∃ r : ℝ, sg x = r := by
  unfold sg Ideal.div
  have h := exp_nonneg (-x)
  generalize Ideal.exp (-x) = y at h
  have hpos : (0 : EReal) < 1 + y := lt_of_lt_of_le zero_lt_one (le_add_of_nonneg_right h)
  rw [if_neg hpos.ne', one_mul]
  generalize 1 + y = z at hpos
  induction z using EReal.rec with
  | bot => exact absurd hpos (by simp)
  | coe r => exact ⟨r⁻¹, (EReal.coe_inv r).symm⟩
  | top => exact ⟨0, by simp⟩

theorem lf_ne_top (L : Fin 128 → EReal) (XF : Sig) (t : Nat) (d : Fin 128) (hL : L d ≠ ⊤) : lf L XF t d ≠ ⊤ := by
  unfold lf fg
  obtain ⟨s, hs⟩ := sg_real (XF t d)
  rw [hs]
  generalize L d = a at hL
  induction a using EReal.rec with
  | bot => rw [EReal.bot_add]; exact bot_ne_top
  | coe r =>
    have e : ((r : EReal) + (1 - (r : EReal)) * (s : EReal)) = ((r + (1 - r) * s : ℝ) : EReal) := by
      push_cast; rfl
    rw [e]
    show (if r + (1 - r) * s ≤ 0 then (⊥ : EReal) else (Real.log (r + (1 - r) * s) : EReal)) ≠ ⊤
    split
    · exact bot_ne_top
    · exact EReal.coe_ne_top _
  | top => exact absurd rfl hL

end Hgrn
-- ==== Proof.Iblk.lean ====
/-
  What each window's block holds at a grid point, from the arguments: point `t` is batch row `t / 8`, head `t % 8`.
-/
module
public import proofs.«01_k».proof.Proof.Reads
public import proofs.«01_k».proof.Proof.Head
public import Idealize.ShloMosaic.Lib.Pointwise
@[expose] public section
set_option maxRecDepth 16384
noncomputable section
namespace Cert.KernelIdeal.Hand
open Cert.KernelIdeal Cert.KernelIdeal.Gen Hgrn
open Idealize.ShloMosaic Idealize.ShloMosaic.TcCoe

theorem idx1 : ∀ t : Fin cfg0.N, win0_1.index t 0 = t.val / 8 ∧ win0_1.index t 1 = 0 ∧ win0_1.index t 2 = 0 + t.val % 8 :=
  (by decide +kernel : ∀ t : Fin grid0.N, win0_1.index t 0 = t.val / 8 ∧ win0_1.index t 1 = 0 ∧ win0_1.index t 2 = 0 + t.val % 8)
theorem idx2 : ∀ t : Fin cfg0.N, win0_2.index t 0 = t.val / 8 ∧ win0_2.index t 1 = 0 ∧ win0_2.index t 2 = 8 + t.val % 8 :=
  (by decide +kernel : ∀ t : Fin grid0.N, win0_2.index t 0 = t.val / 8 ∧ win0_2.index t 1 = 0 ∧ win0_2.index t 2 = 8 + t.val % 8)
theorem idx3 : ∀ t : Fin cfg0.N, win0_3.index t 0 = t.val / 8 ∧ win0_3.index t 1 = 0 ∧ win0_3.index t 2 = 16 + t.val % 8 :=
  (by decide +kernel : ∀ t : Fin grid0.N, win0_3.index t 0 = t.val / 8 ∧ win0_3.index t 1 = 0 ∧ win0_3.index t 2 = 16 + t.val % 8)
theorem idx4 : ∀ t : Fin cfg0.N, win0_4.index t 0 = t.val / 8 ∧ win0_4.index t 1 = 0 ∧ win0_4.index t 2 = 24 + t.val % 8 :=
  (by decide +kernel : ∀ t : Fin grid0.N, win0_4.index t 0 = t.val / 8 ∧ win0_4.index t 1 = 0 ∧ win0_4.index t 2 = 24 + t.val % 8)
theorem idx5 : ∀ t : Fin cfg0.N, win0_5.index t 0 = t.val / 8 ∧ win0_5.index t 1 = 0 ∧ win0_5.index t 2 = 32 + t.val % 8 :=
  (by decide +kernel : ∀ t : Fin grid0.N, win0_5.index t 0 = t.val / 8 ∧ win0_5.index t 1 = 0 ∧ win0_5.index t 2 = 32 + t.val % 8)
theorem idx6 : ∀ t : Fin cfg0.N, win0_6.index t 0 = t.val / 8 ∧ win0_6.index t 1 = 0 ∧ win0_6.index t 2 = 40 + t.val % 8 :=
  (by decide +kernel : ∀ t : Fin grid0.N, win0_6.index t 0 = t.val / 8 ∧ win0_6.index t 1 = 0 ∧ win0_6.index t 2 = 40 + t.val % 8)
theorem idx7 : ∀ t : Fin cfg0.N, win0_7.index t 0 = t.val / 8 ∧ win0_7.index t 1 = 0 ∧ win0_7.index t 2 = 48 + t.val % 8 :=
  (by decide +kernel : ∀ t : Fin grid0.N, win0_7.index t 0 = t.val / 8 ∧ win0_7.index t 1 = 0 ∧ win0_7.index t 2 = 48 + t.val % 8)
theorem idx0 : ∀ t : Fin cfg0.N, win0_0.index t 0 = 0 ∧ win0_0.index t 1 = 0 :=
  (by decide +kernel : ∀ t : Fin grid0.N, win0_0.index t 0 = 0 ∧ win0_0.index t 1 = 0)
theorem idx8 : ∀ t : Fin cfg0.N, win0_8.index t 0 = 0 ∧ win0_8.index t 1 = t.val % 8 :=
  (by decide +kernel : ∀ t : Fin grid0.N, win0_8.index t 0 = 0 ∧ win0_8.index t 1 = t.val % 8)
theorem idx9 : ∀ t : Fin cfg0.N, win0_9.index t 0 = 0 ∧ win0_9.index t 1 = t.val % 8 :=
  (by decide +kernel : ∀ t : Fin grid0.N, win0_9.index t 0 = 0 ∧ win0_9.index t 1 = t.val % 8)
theorem idx10 : ∀ t : Fin cfg0.N, win0_10.index t 0 = 0 ∧ win0_10.index t 1 = t.val % 8 :=
  (by decide +kernel : ∀ t : Fin grid0.N, win0_10.index t 0 = 0 ∧ win0_10.index t 1 = t.val % 8)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx14 : ∀ t : Fin cfg0.N, win0_14.index t 0 = min t.val 43 ∧ win0_14.index t 1 = 0 :=
  (by decide +kernel : ∀ t : Fin grid0.N, win0_14.index t 0 = min t.val 43 ∧ win0_14.index t 1 = 0)

variable (m : (ℓ : Loc nD τ sig) → Buf (Elt Ideal) ℓ) (c : Dev nD)

theorem V_v2_at (i : S8x2048x7168.Idx) (b t l : Nat) (hb : (i 0).val = b) (ht : (i 1).val = t) (hl : (i 2).val = l) :
    (V m c main_v2 : Vec Ideal S8x2048x7168 .f32) i = flatU (m (c.tc.loc main_arg0)) (2048 * b + t) l := by
  subst hb ht hl
  rw [eq_ix3 i]
  exact (V_v2 m c (i 0) (i 1) (i 2)).trans (flatU_eq _ _ _)

theorem iblk1 (t : Fin cfg0.N) (s : Fin 2048) (d : Fin 128) : (iblk m c 1 t : Vec Ideal S1x2048x128 .f32) (ix3 0 s d)
    = flatU (m (c.tc.loc main_arg0)) (2048 * (t.val / 8) + s.val) (0 + 128 * (t.val % 8) + d.val) := by
  unfold iblk
  rw [View.read_apply]
  show (V m c main_v2 : Vec Ideal S8x2048x7168 .f32) _ = _
  obtain ⟨e0, e1, e2⟩ := idx1 t
  refine V_v2_at m c _ _ _ _ ?_ ?_ ?_
  · show win0_1.index t 0 * 1 + 1 * 0 = _
    rw [e0]; omega
  · show win0_1.index t 1 * 2048 + 1 * s.val = _
    rw [e1]; omega
  · show win0_1.index t 2 * 128 + 1 * d.val = _
    rw [e2]; omega

theorem iblk2 (t : Fin cfg0.N) (s : Fin 2048) (d : Fin 128) : (iblk m c 2 t : Vec Ideal S1x2048x128 .f32) (ix3 0 s d)
    = flatU (m (c.tc.loc main_arg0)) (2048 * (t.val / 8) + s.val) (1024 + 128 * (t.val % 8) + d.val) := by
  unfold iblk
  rw [View.read_apply]
  show (V m c main_v2 : Vec Ideal S8x2048x7168 .f32) _ = _
  obtain ⟨e0, e1, e2⟩ := idx2 t
  refine V_v2_at m c _ _ _ _ ?_ ?_ ?_
  · show win0_2.index t 0 * 1 + 1 * 0 = _
    rw [e0]; omega
  · show win0_2.index t 1 * 2048 + 1 * s.val = _
    rw [e1]; omega
  · show win0_2.index t 2 * 128 + 1 * d.val = _
    rw [e2]; omega

theorem iblk3 (t : Fin cfg0.N) (s : Fin 2048) (d : Fin 128) : (iblk m c 3 t : Vec Ideal S1x2048x128 .f32) (ix3 0 s d)
    = flatU (m (c.tc.loc main_arg0)) (2048 * (t.val / 8) + s.val) (2048 + 128 * (t.val % 8) + d.val) := by
  unfold iblk
  rw [View.read_apply]
  show (V m c main_v2 : Vec Ideal S8x2048x7168 .f32) _ = _
  obtain ⟨e0, e1, e2⟩ := idx3 t
  refine V_v2_at m c _ _ _ _ ?_ ?_ ?_
  · show win0_3.index t 0 * 1 + 1 * 0 = _
    rw [e0]; omega
  · show win0_3.index t 1 * 2048 + 1 * s.val = _
    rw [e1]; omega
  · show win0_3.index t 2 * 128 + 1 * d.val = _
    rw [e2]; omega

theorem iblk4 (t : Fin cfg0.N) (s : Fin 2048) (d : Fin 128) : (iblk m c 4 t : Vec Ideal S1x2048x128 .f32) (ix3 0 s d)
    = flatU (m (c.tc.loc main_arg0)) (2048 * (t.val / 8) + s.val) (3072 + 128 * (t.val % 8) + d.val) := by
  unfold iblk
  rw [View.read_apply]
  show (V m c main_v2 : Vec Ideal S8x2048x7168 .f32) _ = _
  obtain ⟨e0, e1, e2⟩ := idx4 t
  refine V_v2_at m c _ _ _ _ ?_ ?_ ?_
  · show win0_4.index t 0 * 1 + 1 * 0 = _
    rw [e0]; omega
  · show win0_4.index t 1 * 2048 + 1 * s.val = _
    rw [e1]; omega
  · show win0_4.index t 2 * 128 + 1 * d.val = _
    rw [e2]; omega

theorem iblk5 (t : Fin cfg0.N) (s : Fin 2048) (d : Fin 128) : (iblk m c 5 t : Vec Ideal S1x2048x128 .f32) (ix3 0 s d)
    = flatU (m (c.tc.loc main_arg0)) (2048 * (t.val / 8) + s.val) (4096 + 128 * (t.val % 8) + d.val) := by
  unfold iblk
  rw [View.read_apply]
  show (V m c main_v2 : Vec Ideal S8x2048x7168 .f32) _ = _
  obtain ⟨e0, e1, e2⟩ := idx5 t
  refine V_v2_at m c _ _ _ _ ?_ ?_ ?_
  · show win0_5.index t 0 * 1 + 1 * 0 = _
    rw [e0]; omega
  · show win0_5.index t 1 * 2048 + 1 * s.val = _
    rw [e1]; omega
  · show win0_5.index t 2 * 128 + 1 * d.val = _
    rw [e2]; omega

theorem iblk6 (t : Fin cfg0.N) (s : Fin 2048) (d : Fin 128) : (iblk m c 6 t : Vec Ideal S1x2048x128 .f32) (ix3 0 s d)
    = flatU (m (c.tc.loc main_arg0)) (2048 * (t.val / 8) + s.val) (5120 + 128 * (t.val % 8) + d.val) := by
  unfold iblk
  rw [View.read_apply]
  show (V m c main_v2 : Vec Ideal S8x2048x7168 .f32) _ = _
  obtain ⟨e0, e1, e2⟩ := idx6 t
  refine V_v2_at m c _ _ _ _ ?_ ?_ ?_
  · show win0_6.index t 0 * 1 + 1 * 0 = _
    rw [e0]; omega
  · show win0_6.index t 1 * 2048 + 1 * s.val = _
    rw [e1]; omega
  · show win0_6.index t 2 * 128 + 1 * d.val = _
    rw [e2]; omega

theorem iblk7 (t : Fin cfg0.N) (s : Fin 2048) (d : Fin 128) : (iblk m c 7 t : Vec Ideal S1x2048x128 .f32) (ix3 0 s d)
    = flatU (m (c.tc.loc main_arg0)) (2048 * (t.val / 8) + s.val) (6144 + 128 * (t.val % 8) + d.val) := by
  unfold iblk
  rw [View.read_apply]
  show (V m c main_v2 : Vec Ideal S8x2048x7168 .f32) _ = _
  obtain ⟨e0, e1, e2⟩ := idx7 t
  refine V_v2_at m c _ _ _ _ ?_ ?_ ?_
  · show win0_7.index t 0 * 1 + 1 * 0 = _
    rw [e0]; omega
  · show win0_7.index t 1 * 2048 + 1 * s.val = _
    rw [e1]; omega
  · show win0_7.index t 2 * 128 + 1 * d.val = _
    rw [e2]; omega

theorem iblk0 (t : Fin cfg0.N) (r x : Fin 128) : (iblk m c 0 t : Vec Ideal S128x128 .bf16) (ix2 r x)
    = (if x.val ≤ r.val ∧ x.val / 64 = r.val / 64 then 1 else 0 : EReal) := by
  unfold iblk
  rw [View.read_apply]
  show (V m c main_v17 : Vec Ideal S128x128 .bf16) _ = _
  obtain ⟨e0, e1⟩ := idx0 t
  refine Eq.trans (congrArg (V m c main_v17 : Vec Ideal S128x128 .bf16) (funext fun a => Fin.ext ?_)) (V_v17 m c r x)
  match a with
  | ⟨0, _⟩ =>
    show win0_0.index t 0 * 128 + 1 * r.val = r.val
    rw [e0]; omega
  | ⟨1, _⟩ =>
    show win0_0.index t 1 * 128 + 1 * x.val = x.val
    rw [e1]; omega

theorem iblk8 (t : Fin cfg0.N) (x : Fin 3) (d : Fin 128) : (iblk m c 8 t : Vec Ideal S3x128 .f32) (ix2 x d)
    = flatT (m (c.tc.loc main_arg1)) x (128 * (t.val % 8) + d.val) := by
  unfold iblk
  rw [View.read_apply]
  show (V m c main_arg1 : Vec Ideal S3x1024 .f32) _ = _
  rw [V_main_arg1]
  obtain ⟨e0, e1⟩ := idx8 t
  refine Eq.trans (congrArg (m (c.tc.loc main_arg1) : Vec Ideal S3x1024 .f32) (funext fun a => Fin.ext ?_))
    (flatT_eq (m (c.tc.loc main_arg1)) x ⟨128 * (t.val % 8) + d.val, by omega⟩)
  match a with
  | ⟨0, _⟩ =>
    show win0_8.index t 0 * 3 + 1 * x.val = x.val
    rw [e0]; omega
  | ⟨1, _⟩ =>
    show win0_8.index t 1 * 128 + 1 * d.val = 128 * (t.val % 8) + d.val
    rw [e1]; omega

theorem iblk9 (t : Fin cfg0.N) (d : Fin 128) : (iblk m c 9 t : Vec Ideal S1x128 .f32) (ix2 0 d)
    = flatG (m (c.tc.loc main_arg2)) (128 * (t.val % 8) + d.val) := by
  unfold iblk
  rw [View.read_apply]
  show (V m c main_v26 : Vec Ideal S1x1024 .f32) _ = _
  obtain ⟨e0, e1⟩ := idx9 t
  refine Eq.trans (congrArg (V m c main_v26 : Vec Ideal S1x1024 .f32) (funext fun a => Fin.ext ?_))
    ((V_v26 m c ⟨128 * (t.val % 8) + d.val, by omega⟩).trans (flatG_eq (m (c.tc.loc main_arg2)) ⟨128 * (t.val % 8) + d.val, by omega⟩))
  match a with
  | ⟨0, _⟩ =>
    show win0_9.index t 0 * 1 + 1 * 0 = 0
    rw [e0]
  | ⟨1, _⟩ =>
    show win0_9.index t 1 * 128 + 1 * d.val = 128 * (t.val % 8) + d.val
    rw [e1]; omega

theorem iblk10 (t : Fin cfg0.N) (x : Fin 3) (d : Fin 128) : (iblk m c 10 t : Vec Ideal S3x128 .f32) (ix2 x d)
    = flatC (m (c.tc.loc main_arg3)) x (128 * (t.val % 8) + d.val) := by
  unfold iblk
  rw [View.read_apply]
  show (V m c main_v1 : Vec Ideal S3x1024 .f32) _ = _
  obtain ⟨e0, e1⟩ := idx10 t
  refine Eq.trans (congrArg (V m c main_v1 : Vec Ideal S3x1024 .f32) (funext fun a => Fin.ext ?_))
    ((V_v1 m c x ⟨128 * (t.val % 8) + d.val, by omega⟩).trans (flatC_eq (m (c.tc.loc main_arg3)) x ⟨128 * (t.val % 8) + d.val, by omega⟩))
  match a with
  | ⟨0, _⟩ =>
    show win0_10.index t 0 * 3 + 1 * x.val = x.val
    rw [e0]; omega
  | ⟨1, _⟩ =>
    show win0_10.index t 1 * 128 + 1 * d.val = 128 * (t.val % 8) + d.val
    rw [e1]; omega

theorem iblk11 (t : Fin cfg0.N) (r : Fin 32) (l : Fin 2048) (i : S2048x2048.Idx) (h0 : (i 0).val = 32 * (t.val) + r.val) (h1 : (i 1).val = l.val) :
    (iblk m c 11 t : Vec Ideal S32x2048 .f32) (ix2 r l) = (m (c.tc.loc main_arg4) : Vec Ideal S1x2048x2048 .f32) (ix3 0 (i 0) (i 1)) := by
  unfold iblk
  rw [View.read_apply]
  show (V m c main_v19 : Vec Ideal S2048x2048 .f32) _ = _
  obtain ⟨e0, e1⟩ := idx11 t
  refine Eq.trans (congrArg (V m c main_v19 : Vec Ideal S2048x2048 .f32) (funext fun a => Fin.ext ?_)) (V_v19 m c (i 0) (i 1))
  match a with
  | ⟨0, _⟩ =>
    show win0_11.index t 0 * 32 + 1 * r.val = (i 0).val
    rw [e0, h0]; omega
  | ⟨1, _⟩ =>
    show win0_11.index t 1 * 2048 + 1 * l.val = (i 1).val
    rw [e1, h1]; omega

theorem iblk12 (t : Fin cfg0.N) (r : Fin 32) (l : Fin 5632) (i : S2048x5632.Idx) (h0 : (i 0).val = 32 * (t.val) + r.val) (h1 : (i 1).val = l.val) :
    (iblk m c 12 t : Vec Ideal S32x5632 .f32) (ix2 r l) = (m (c.tc.loc main_arg5) : Vec Ideal S1x2048x5632 .f32) (ix3 0 (i 0) (i 1)) := by
  unfold iblk
  rw [View.read_apply]
  show (V m c main_v21 : Vec Ideal S2048x5632 .f32) _ = _
  obtain ⟨e0, e1⟩ := idx12 t
  refine Eq.trans (congrArg (V m c main_v21 : Vec Ideal S2048x5632 .f32) (funext fun a => Fin.ext ?_)) (V_v21 m c (i 0) (i 1))
  match a with
  | ⟨0, _⟩ =>
    show win0_12.index t 0 * 32 + 1 * r.val = (i 0).val
    rw [e0, h0]; omega
  | ⟨1, _⟩ =>
    show win0_12.index t 1 * 5632 + 1 * l.val = (i 1).val
    rw [e1, h1]; omega

theorem iblk13 (t : Fin cfg0.N) (r : Fin 32) (l : Fin 5632) (i : S2048x5632.Idx) (h0 : (i 0).val = 32 * (t.val) + r.val) (h1 : (i 1).val = l.val) :
    (iblk m c 13 t : Vec Ideal S32x5632 .f32) (ix2 r l) = (m (c.tc.loc main_arg6) : Vec Ideal S1x2048x5632 .f32) (ix3 0 (i 0) (i 1)) := by
  unfold iblk
  rw [View.read_apply]
  show (V m c main_v23 : Vec Ideal S2048x5632 .f32) _ = _
  obtain ⟨e0, e1⟩ := idx13 t
  refine Eq.trans (congrArg (V m c main_v23 : Vec Ideal S2048x5632 .f32) (funext fun a => Fin.ext ?_)) (V_v23 m c (i 0) (i 1))
  match a with
  | ⟨0, _⟩ =>
    show win0_13.index t 0 * 32 + 1 * r.val = (i 0).val
    rw [e0, h0]; omega
  | ⟨1, _⟩ =>
    show win0_13.index t 1 * 5632 + 1 * l.val = (i 1).val
    rw [e1, h1]; omega

theorem iblk14 (t : Fin cfg0.N) (r : Fin 128) (l : Fin 2048) (i : S5632x2048.Idx) (h0 : (i 0).val = 128 * (min t.val 43) + r.val) (h1 : (i 1).val = l.val) :
    (iblk m c 14 t : Vec Ideal S128x2048 .f32) (ix2 r l) = (m (c.tc.loc main_arg7) : Vec Ideal S1x5632x2048 .f32) (ix3 0 (i 0) (i 1)) := by
  unfold iblk
  rw [View.read_apply]
  show (V m c main_v25 : Vec Ideal S5632x2048 .f32) _ = _
  obtain ⟨e0, e1⟩ := idx14 t
  refine Eq.trans (congrArg (V m c main_v25 : Vec Ideal S5632x2048 .f32) (funext fun a => Fin.ext ?_)) (V_v25 m c (i 0) (i 1))
  match a with
  | ⟨0, _⟩ =>
    show win0_14.index t 0 * 128 + 1 * r.val = (i 0).val
    rw [e0, h0]; omega
  | ⟨1, _⟩ =>
    show win0_14.index t 1 * 2048 + 1 * l.val = (i 1).val
    rw [e1, h1]; omega

end Cert.KernelIdeal.Hand
-- ==== Proof.Trip.lean ====
/-
  One trip of the recurrence's loop, as functions of the arrays the trip loads: the named values below are the body's
  payloads composed in the order the body runs them (Python's `q`, `k`, `v`, `cum`, `qe`, `ke`, `qc`, `kd`, `decay`, the
  sixteen outer products, the sixteen states, the two halves of the output and the row it stores).
-/
module

public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The gate's gradual forgetting read as three summands whose sum the running sums use. -/
def P (lb : FVec F S1x128 .f32) (xf : Vec F S1x1024x128 .f32) : FVec F S1024x384 .bf16 := k0_pay7 lb xf

/-- The running sums of the log-forget gate inside each chunk. -/
def Cm (lb : FVec F S1x128 .f32) (tri : FVec F S128x128 .bf16) (xf : Vec F S1x1024x128 .f32) : FVec F S16x64x128 .f32 :=
  k0_pay17 (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- `qe` of the body. -/
def QE (lb : FVec F S1x128 .f32) (tri : FVec F S128x128 .bf16) (xf : Vec F S1x1024x128 .f32) (xq : Vec F S1x1024x128 .f32) : FVec F S1024x128 .bf16 :=
  k0_pay22 (k0_pay3 xq) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- `ke` of the body. -/
def KE (lb : FVec F S1x128 .f32) (tri : FVec F S128x128 .bf16) (xf : Vec F S1x1024x128 .f32) : FVec F S1024x128 .bf16 :=
  k0_pay23 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- `qc` of the body. -/
def QC (lb : FVec F S1x128 .f32) (tri : FVec F S128x128 .bf16) (xf : Vec F S1x1024x128 .f32) (xq : Vec F S1x1024x128 .f32) : FVec F S1024x128 .bf16 :=
  k0_pay24 (k0_pay3 xq) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- `kd` of the body. -/
def KD (lb : FVec F S1x128 .f32) (tri : FVec F S128x128 .bf16) (xf : Vec F S1x1024x128 .f32) : FVec F S1024x128 .bf16 :=
  k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- The chunks' decays. -/
def DEC (lb : FVec F S1x128 .f32) (tri : FVec F S128x128 .bf16) (xf : Vec F S1x1024x128 .f32) : FVec F S16x1x128 .f32 :=
  k0_pay26 (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 0's outer product, transposed. -/
def KV0 (lb : FVec F S1x128 .f32) (tri : FVec F S128x128 .bf16) (xf : Vec F S1x1024x128 .f32) (xi : Vec F S1x1024x128 .f32) : FVec F S128x128 .f32 :=
  k0_pay27 (k0_pay5 lb xf) (k0_pay6 xi) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 1's outer product, transposed. -/
def KV1 (lb : FVec F S1x128 .f32) (tri : FVec F S128x128 .bf16) (xf : Vec F S1x1024x128 .f32) (xi : Vec F S1x1024x128 .f32) : FVec F S128x128 .f32 :=
  k0_pay28 (k0_pay5 lb xf) (k0_pay6 xi) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 2's outer product, transposed. -/
def KV2 (lb : FVec F S1x128 .f32) (tri : FVec F S128x128 .bf16) (xf : Vec F S1x1024x128 .f32) (xi : Vec F S1x1024x128 .f32) : FVec F S128x128 .f32 :=
  k0_pay29 (k0_pay5 lb xf) (k0_pay6 xi) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 3's outer product, transposed. -/
def KV3 (lb : FVec F S1x128 .f32) (tri : FVec F S128x128 .bf16) (xf : Vec F S1x1024x128 .f32) (xi : Vec F S1x1024x128 .f32) : FVec F S128x128 .f32 :=
  k0_pay30 (k0_pay5 lb xf) (k0_pay6 xi) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 4's outer product, transposed. -/
def KV4 (lb : FVec F S1x128 .f32) (tri : FVec F S128x128 .bf16) (xf : Vec F S1x1024x128 .f32) (xi : Vec F S1x1024x128 .f32) : FVec F S128x128 .f32 :=
  k0_pay31 (k0_pay5 lb xf) (k0_pay6 xi) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 5's outer product, transposed. -/
def KV5 (lb : FVec F S1x128 .f32) (tri : FVec F S128x128 .bf16) (xf : Vec F S1x1024x128 .f32) (xi : Vec F S1x1024x128 .f32) : FVec F S128x128 .f32 :=
  k0_pay32 (k0_pay5 lb xf) (k0_pay6 xi) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))

/-- Chunk 6's outer product, transposed. -/
def KV6 (lb : FVec F S1x128 .f32) (tri : FVec F S128x128 .bf16) (xf : Vec F S1x1024x128 .f32) (xi : Vec F S1x1024x128 .f32) : FVec F S128x128 .f32 :=
  k0_pay35 (k0_pay33 (k0_pay6 xi)) (k0_pay34 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (constant S128x128 .f32 0x00000000#32)

/-- Chunk 7's outer product, transposed. -/
def KV7 (lb : FVec F S1x128 .f32) (tri : FVec F S128x128 .bf16) (xf : Vec F S1x1024x128 .f32) (xi : Vec F S1x1024x128 .f32) : FVec F S128x128 .f32 :=
  k0_pay36 (k0_pay6 xi) (KD lb tri xf)

/-- Chunk 8's outer product, transposed. -/
def KV8 (lb : FVec F S1x128 .f32) (tri : FVec F S128x128 .bf16) (xf : Vec F S1x1024x128 .f32) (xi : Vec F S1x1024x128 .f32) : FVec F S128x128 .f32 :=
  k0_pay37 (k0_pay6 xi) (KD lb tri xf)

/-- Chunk 9's outer product, transposed. -/
def KV9 (lb : FVec F S1x128 .f32) (tri : FVec F S128x128 .bf16) (xf : Vec F S1x1024x128 .f32) (xi : Vec F S1x1024x128 .f32) : FVec F S128x128 .f32 :=
  k0_pay38 (k0_pay6 xi) (KD lb tri xf)

/-- Chunk 10's outer product, transposed. -/
def KV10 (lb : FVec F S1x128 .f32) (tri : FVec F S128x128 .bf16) (xf : Vec F S1x1024x128 .f32) (xi : Vec F S1x1024x128 .f32) : FVec F S128x128 .f32 :=
  k0_pay39 (k0_pay6 xi) (KD lb tri xf)

/-- Chunk 11's outer product, transposed. -/
def KV11 (lb : FVec F S1x128 .f32) (tri : FVec F S128x128 .bf16) (xf : Vec F S1x1024x128 .f32) (xi : Vec F S1x1024x128 .f32) : FVec F S128x128 .f32 :=
  k0_pay40 (k0_pay6 xi) (KD lb tri xf)

/-- Chunk 12's outer product, transposed. -/
def KV12 (lb : FVec F S1x128 .f32) (tri : FVec F S128x128 .bf16) (xf : Vec F S1x1024x128 .f32) (xi : Vec F S1x1024x128 .f32) : FVec F S128x128 .f32 :=
  k0_pay41 (k0_pay6 xi) (KD lb tri xf)

/-- Chunk 13's outer product, transposed. -/
def KV13 (lb : FVec F S1x128 .f32) (tri : FVec F S128x128 .bf16) (xf : Vec F S1x1024x128 .f32) (xi : Vec F S1x1024x128 .f32) : FVec F S128x128 .f32 :=
  k0_pay42 (k0_pay6 xi) (KD lb tri xf)

/-- Chunk 14's outer product, transposed. -/
def KV14 (lb : FVec F S1x128 .f32) (tri : FVec F S128x128 .bf16) (xf : Vec F S1x1024x128 .f32) (xi : Vec F S1x1024x128 .f32) : FVec F S128x128 .f32 :=
  k0_pay43 (k0_pay6 xi) (KD lb tri xf)

/-- Chunk 15's outer product, transposed. -/
def KV15 (lb : FVec F S1x128 .f32) (tri : FVec F S128x128 .bf16) (xf : Vec F S1x1024x128 .f32) (xi : Vec F S1x1024x128 .f32) : FVec F S128x128 .f32 :=
  k0_pay44 (k0_pay6 xi) (KD lb tri xf)

/-- `decay * state` at the last chunk of each printed group. -/
def M3 (lb : FVec F S1x128 .f32) (tri : FVec F S128x128 .bf16) (xf : Vec F S1x1024x128 .f32) (xi : Vec F S1x1024x128 .f32) (st : FVec F S128x128 .f32) : FVec F S128x128 .f32 :=
  k0_pay52 st (DEC lb tri xf) (KV0 lb tri xf xi) (KV1 lb tri xf xi) (KV2 lb tri xf xi)

/-- `decay * state` at chunk 13. -/
def M13 (lb : FVec F S1x128 .f32) (tri : FVec F S128x128 .bf16) (xf : Vec F S1x1024x128 .f32) (xi : Vec F S1x1024x128 .f32) (st : FVec F S128x128 .f32) : FVec F S128x128 .f32 :=
  k0_pay73 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (KV12 lb tri xf xi) (M3 lb tri xf xi st)

/-- The state before chunk 0. -/
def ST0 (lb : FVec F S1x128 .f32) (tri : FVec F S128x128 .bf16) (xf : Vec F S1x1024x128 .f32) (xi : Vec F S1x1024x128 .f32) (st : FVec F S128x128 .f32) : FVec F S128x128 .f32 :=
  st

/-- The state before chunk 1. -/
def ST1 (lb : FVec F S1x128 .f32) (tri : FVec F S128x128 .bf16) (xf : Vec F S1x1024x128 .f32) (xi : Vec F S1x1024x128 .f32) (st : FVec F S128x128 .f32) : FVec F S128x128 .f32 :=
  k0_pay46 st (DEC lb tri xf) (KV0 lb tri xf xi)

/-- The state before chunk 2. -/
def ST2 (lb : FVec F S1x128 .f32) (tri : FVec F S128x128 .bf16) (xf : Vec F S1x1024x128 .f32) (xi : Vec F S1x1024x128 .f32) (st : FVec F S128x128 .f32) : FVec F S128x128 .f32 :=
  k0_pay48 st (DEC lb tri xf) (KV0 lb tri xf xi) (KV1 lb tri xf xi)

/-- The state before chunk 3. -/
def ST3 (lb : FVec F S1x128 .f32) (tri : FVec F S128x128 .bf16) (xf : Vec F S1x1024x128 .f32) (xi : Vec F S1x1024x128 .f32) (st : FVec F S128x128 .f32) : FVec F S128x128 .f32 :=
  k0_pay50 st (DEC lb tri xf) (KV0 lb tri xf xi) (KV1 lb tri xf xi) (KV2 lb tri xf xi)

/-- The state before chunk 4. -/
def ST4 (lb : FVec F S1x128 .f32) (tri : FVec F S128x128 .bf16) (xf : Vec F S1x1024x128 .f32) (xi : Vec F S1x1024x128 .f32) (st : FVec F S128x128 .f32) : FVec F S128x128 .f32 :=
  k0_pay53 (KV3 lb tri xf xi) (M3 lb tri xf xi st)

/-- The state before chunk 5. -/
def ST5 (lb : FVec F S1x128 .f32) (tri : FVec F S128x128 .bf16) (xf : Vec F S1x1024x128 .f32) (xi : Vec F S1x1024x128 .f32) (st : FVec F S128x128 .f32) : FVec F S128x128 .f32 :=
  k0_pay55 (DEC lb tri xf) (KV3 lb tri xf xi) (KV4 lb tri xf xi) (M3 lb tri xf xi st)

/-- The state before chunk 6. -/
def ST6 (lb : FVec F S1x128 .f32) (tri : FVec F S128x128 .bf16) (xf : Vec F S1x1024x128 .f32) (xi : Vec F S1x1024x128 .f32) (st : FVec F S128x128 .f32) : FVec F S128x128 .f32 :=
  k0_pay57 (DEC lb tri xf) (KV3 lb tri xf xi) (KV4 lb tri xf xi) (KV5 lb tri xf xi) (M3 lb tri xf xi st)

/-- The state before chunk 7. -/
def ST7 (lb : FVec F S1x128 .f32) (tri : FVec F S128x128 .bf16) (xf : Vec F S1x1024x128 .f32) (xi : Vec F S1x1024x128 .f32) (st : FVec F S128x128 .f32) : FVec F S128x128 .f32 :=
  k0_pay59 (DEC lb tri xf) (KV3 lb tri xf xi) (KV4 lb tri xf xi) (KV5 lb tri xf xi) (KV6 lb tri xf xi) (M3 lb tri xf xi st)

/-- The state before chunk 8. -/
def ST8 (lb : FVec F S1x128 .f32) (tri : FVec F S128x128 .bf16) (xf : Vec F S1x1024x128 .f32) (xi : Vec F S1x1024x128 .f32) (st : FVec F S128x128 .f32) : FVec F S128x128 .f32 :=
  k0_pay61 (DEC lb tri xf) (KV3 lb tri xf xi) (KV4 lb tri xf xi) (KV5 lb tri xf xi) (KV6 lb tri xf xi) (KV7 lb tri xf xi) (M3 lb tri xf xi st)

/-- The state before chunk 9. -/
def ST9 (lb : FVec F S1x128 .f32) (tri : FVec F S128x128 .bf16) (xf : Vec F S1x1024x128 .f32) (xi : Vec F S1x1024x128 .f32) (st : FVec F S128x128 .f32) : FVec F S128x128 .f32 :=
  k0_pay63 (DEC lb tri xf) (KV3 lb tri xf xi) (KV4 lb tri xf xi) (KV5 lb tri xf xi) (KV6 lb tri xf xi) (KV7 lb tri xf xi) (KV8 lb tri xf xi) (M3 lb tri xf xi st)

/-- The state before chunk 10. -/
def ST10 (lb : FVec F S1x128 .f32) (tri : FVec F S128x128 .bf16) (xf : Vec F S1x1024x128 .f32) (xi : Vec F S1x1024x128 .f32) (st : FVec F S128x128 .f32) : FVec F S128x128 .f32 :=
  k0_pay65 (DEC lb tri xf) (KV3 lb tri xf xi) (KV4 lb tri xf xi) (KV5 lb tri xf xi) (KV6 lb tri xf xi) (KV7 lb tri xf xi) (KV8 lb tri xf xi) (KV9 lb tri xf xi) (M3 lb tri xf xi st)

/-- The state before chunk 11. -/
def ST11 (lb : FVec F S1x128 .f32) (tri : FVec F S128x128 .bf16) (xf : Vec F S1x1024x128 .f32) (xi : Vec F S1x1024x128 .f32) (st : FVec F S128x128 .f32) : FVec F S128x128 .f32 :=
  k0_pay67 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (M3 lb tri xf xi st)

/-- The state before chunk 12. -/
def ST12 (lb : FVec F S1x128 .f32) (tri : FVec F S128x128 .bf16) (xf : Vec F S1x1024x128 .f32) (xi : Vec F S1x1024x128 .f32) (st : FVec F S128x128 .f32) : FVec F S128x128 .f32 :=
  k0_pay69 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (M3 lb tri xf xi st)

/-- The state before chunk 13. -/
def ST13 (lb : FVec F S1x128 .f32) (tri : FVec F S128x128 .bf16) (xf : Vec F S1x1024x128 .f32) (xi : Vec F S1x1024x128 .f32) (st : FVec F S128x128 .f32) : FVec F S128x128 .f32 :=
  k0_pay71 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (KV12 lb tri xf xi) (M3 lb tri xf xi st)

/-- The state before chunk 14. -/
def ST14 (lb : FVec F S1x128 .f32) (tri : FVec F S128x128 .bf16) (xf : Vec F S1x1024x128 .f32) (xi : Vec F S1x1024x128 .f32) (st : FVec F S128x128 .f32) : FVec F S128x128 .f32 :=
  k0_pay74 (KV13 lb tri xf xi) (M13 lb tri xf xi st)

/-- The state before chunk 15. -/
def ST15 (lb : FVec F S1x128 .f32) (tri : FVec F S128x128 .bf16) (xf : Vec F S1x1024x128 .f32) (xi : Vec F S1x1024x128 .f32) (st : FVec F S128x128 .f32) : FVec F S128x128 .f32 :=
  k0_pay75 (DEC lb tri xf) (KV13 lb tri xf xi) (KV14 lb tri xf xi) (M13 lb tri xf xi st)

/-- The state before chunk 16. -/
def ST16 (lb : FVec F S1x128 .f32) (tri : FVec F S128x128 .bf16) (xf : Vec F S1x1024x128 .f32) (xi : Vec F S1x1024x128 .f32) (st : FVec F S128x128 .f32) : FVec F S128x128 .f32 :=
  k0_pay77 (DEC lb tri xf) (KV13 lb tri xf xi) (KV14 lb tri xf xi) (KV15 lb tri xf xi) (M13 lb tri xf xi st)

/-- Chunk 0's rows read from the state before it. -/
def OC0 (lb : FVec F S1x128 .f32) (tri : FVec F S128x128 .bf16) (xf : Vec F S1x1024x128 .f32) (xq xi : Vec F S1x1024x128 .f32) (st : FVec F S128x128 .f32) : FVec F S64x128 .f32 :=
  k0_pay78 (QC lb tri xf xq) (k0_pay45 st)

/-- Chunk 1's rows read from the state before it. -/
def OC1 (lb : FVec F S1x128 .f32) (tri : FVec F S128x128 .bf16) (xf : Vec F S1x1024x128 .f32) (xq xi : Vec F S1x1024x128 .f32) (st : FVec F S128x128 .f32) : FVec F S64x128 .f32 :=
  k0_pay79 (QC lb tri xf xq) (k0_pay47 st (DEC lb tri xf) (KV0 lb tri xf xi))

/-- Chunk 2's rows read from the state before it. -/
def OC2 (lb : FVec F S1x128 .f32) (tri : FVec F S128x128 .bf16) (xf : Vec F S1x1024x128 .f32) (xq xi : Vec F S1x1024x128 .f32) (st : FVec F S128x128 .f32) : FVec F S64x128 .f32 :=
  k0_pay80 (QC lb tri xf xq) (k0_pay49 st (DEC lb tri xf) (KV0 lb tri xf xi) (KV1 lb tri xf xi))

/-- Chunk 3's rows read from the state before it. -/
def OC3 (lb : FVec F S1x128 .f32) (tri : FVec F S128x128 .bf16) (xf : Vec F S1x1024x128 .f32) (xq xi : Vec F S1x1024x128 .f32) (st : FVec F S128x128 .f32) : FVec F S64x128 .f32 :=
  k0_pay81 (QC lb tri xf xq) (k0_pay51 st (DEC lb tri xf) (KV0 lb tri xf xi) (KV1 lb tri xf xi) (KV2 lb tri xf xi))

/-- Chunk 4's rows read from the state before it. -/
def OC4 (lb : FVec F S1x128 .f32) (tri : FVec F S128x128 .bf16) (xf : Vec F S1x1024x128 .f32) (xq xi : Vec F S1x1024x128 .f32) (st : FVec F S128x128 .f32) : FVec F S64x128 .f32 :=
  k0_pay82 (QC lb tri xf xq) (k0_pay54 (KV3 lb tri xf xi) (M3 lb tri xf xi st))

/-- Chunk 5's rows read from the state before it. -/
def OC5 (lb : FVec F S1x128 .f32) (tri : FVec F S128x128 .bf16) (xf : Vec F S1x1024x128 .f32) (xq xi : Vec F S1x1024x128 .f32) (st : FVec F S128x128 .f32) : FVec F S64x128 .f32 :=
  k0_pay83 (QC lb tri xf xq) (k0_pay56 (DEC lb tri xf) (KV3 lb tri xf xi) (KV4 lb tri xf xi) (M3 lb tri xf xi st))

/-- Chunk 6's rows read from the state before it. -/
def OC6 (lb : FVec F S1x128 .f32) (tri : FVec F S128x128 .bf16) (xf : Vec F S1x1024x128 .f32) (xq xi : Vec F S1x1024x128 .f32) (st : FVec F S128x128 .f32) : FVec F S64x128 .f32 :=
  k0_pay84 (QC lb tri xf xq) (k0_pay58 (DEC lb tri xf) (KV3 lb tri xf xi) (KV4 lb tri xf xi) (KV5 lb tri xf xi) (M3 lb tri xf xi st))

/-- Chunk 7's rows read from the state before it. -/
def OC7 (lb : FVec F S1x128 .f32) (tri : FVec F S128x128 .bf16) (xf : Vec F S1x1024x128 .f32) (xq xi : Vec F S1x1024x128 .f32) (st : FVec F S128x128 .f32) : FVec F S64x128 .f32 :=
  k0_pay85 (QC lb tri xf xq) (k0_pay60 (DEC lb tri xf) (KV3 lb tri xf xi) (KV4 lb tri xf xi) (KV5 lb tri xf xi) (KV6 lb tri xf xi) (M3 lb tri xf xi st))

/-- Chunk 8's rows read from the state before it. -/
def OC8 (lb : FVec F S1x128 .f32) (tri : FVec F S128x128 .bf16) (xf : Vec F S1x1024x128 .f32) (xq xi : Vec F S1x1024x128 .f32) (st : FVec F S128x128 .f32) : FVec F S64x128 .f32 :=
  k0_pay86 (QC lb tri xf xq) (k0_pay62 (DEC lb tri xf) (KV3 lb tri xf xi) (KV4 lb tri xf xi) (KV5 lb tri xf xi) (KV6 lb tri xf xi) (KV7 lb tri xf xi) (M3 lb tri xf xi st))

/-- Chunk 9's rows read from the state before it. -/
def OC9 (lb : FVec F S1x128 .f32) (tri : FVec F S128x128 .bf16) (xf : Vec F S1x1024x128 .f32) (xq xi : Vec F S1x1024x128 .f32) (st : FVec F S128x128 .f32) : FVec F S64x128 .f32 :=
  k0_pay87 (QC lb tri xf xq) (k0_pay64 (DEC lb tri xf) (KV3 lb tri xf xi) (KV4 lb tri xf xi) (KV5 lb tri xf xi) (KV6 lb tri xf xi) (KV7 lb tri xf xi) (KV8 lb tri xf xi) (M3 lb tri xf xi st))

/-- Chunk 10's rows read from the state before it. -/
def OC10 (lb : FVec F S1x128 .f32) (tri : FVec F S128x128 .bf16) (xf : Vec F S1x1024x128 .f32) (xq xi : Vec F S1x1024x128 .f32) (st : FVec F S128x128 .f32) : FVec F S64x128 .f32 :=
  k0_pay88 (QC lb tri xf xq) (k0_pay66 (DEC lb tri xf) (KV3 lb tri xf xi) (KV4 lb tri xf xi) (KV5 lb tri xf xi) (KV6 lb tri xf xi) (KV7 lb tri xf xi) (KV8 lb tri xf xi) (KV9 lb tri xf xi) (M3 lb tri xf xi st))

/-- Chunk 11's rows read from the state before it. -/
def OC11 (lb : FVec F S1x128 .f32) (tri : FVec F S128x128 .bf16) (xf : Vec F S1x1024x128 .f32) (xq xi : Vec F S1x1024x128 .f32) (st : FVec F S128x128 .f32) : FVec F S64x128 .f32 :=
  k0_pay89 (QC lb tri xf xq) (k0_pay68 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (M3 lb tri xf xi st))

/-- Chunk 12's rows read from the state before it. -/
def OC12 (lb : FVec F S1x128 .f32) (tri : FVec F S128x128 .bf16) (xf : Vec F S1x1024x128 .f32) (xq xi : Vec F S1x1024x128 .f32) (st : FVec F S128x128 .f32) : FVec F S64x128 .f32 :=
  k0_pay90 (QC lb tri xf xq) (k0_pay70 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (M3 lb tri xf xi st))

/-- Chunk 13's rows read from the state before it. -/
def OC13 (lb : FVec F S1x128 .f32) (tri : FVec F S128x128 .bf16) (xf : Vec F S1x1024x128 .f32) (xq xi : Vec F S1x1024x128 .f32) (st : FVec F S128x128 .f32) : FVec F S64x128 .f32 :=
  k0_pay91 (QC lb tri xf xq) (k0_pay72 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (KV12 lb tri xf xi) (M3 lb tri xf xi st))

/-- Chunk 14's rows read from the state before it. -/
def OC14 (lb : FVec F S1x128 .f32) (tri : FVec F S128x128 .bf16) (xf : Vec F S1x1024x128 .f32) (xq xi : Vec F S1x1024x128 .f32) (st : FVec F S128x128 .f32) : FVec F S64x128 .f32 :=
  k0_pay92 (QC lb tri xf xq) (KV13 lb tri xf xi) (M13 lb tri xf xi st)

/-- The rows read from the states. -/
def OI (lb : FVec F S1x128 .f32) (tri : FVec F S128x128 .bf16) (xf : Vec F S1x1024x128 .f32) (xq xi : Vec F S1x1024x128 .f32) (st : FVec F S128x128 .f32) : FVec F S1024x128 .f32 :=
  k0_pay94 (k0_pay76 (DEC lb tri xf) (KV13 lb tri xf xi) (KV14 lb tri xf xi) (M13 lb tri xf xi st)) (OC0 lb tri xf xq xi st) (OC1 lb tri xf xq xi st) (OC2 lb tri xf xq xi st) (OC3 lb tri xf xq xi st) (OC4 lb tri xf xq xi st) (OC5 lb tri xf xq xi st) (OC6 lb tri xf xq xi st) (OC7 lb tri xf xq xi st) (OC8 lb tri xf xq xi st) (OC9 lb tri xf xq xi st) (OC10 lb tri xf xq xi st) (OC11 lb tri xf xq xi st) (OC12 lb tri xf xq xi st) (OC13 lb tri xf xq xi st) (OC14 lb tri xf xq xi st) (k0_pay93 (QC lb tri xf xq)) (constant S64x128 .f32 0x00000000#32)

/-- The normalised rows times the gain. -/
def ON (lb gain : FVec F S1x128 .f32) (tri : FVec F S128x128 .bf16) (mask : IVec S128x128 1) (xq xf xi : Vec F S1x1024x128 .f32) (st : FVec F S128x128 .f32) : FVec F S1024x128 .f32 :=
  k0_pay103 gain mask (k0_pay6 xi) (QE lb tri xf xq) (KE lb tri xf) (OI lb tri xf xq xi st) (k0_pay95 mask (k0_pay6 xi) (QE lb tri xf xq) (KE lb tri xf)) (k0_pay96 mask (k0_pay6 xi) (QE lb tri xf xq) (KE lb tri xf)) (k0_pay97 mask (k0_pay6 xi) (QE lb tri xf xq) (KE lb tri xf)) (k0_pay98 mask (k0_pay6 xi) (QE lb tri xf xq) (KE lb tri xf)) (k0_pay99 mask (k0_pay6 xi) (QE lb tri xf xq) (KE lb tri xf)) (k0_pay100 (QE lb tri xf xq)) (k0_pay101 (KE lb tri xf)) (constant S128x128 .f32 0x00000000#32)

/-- The rows the trip stores. -/
def A (lb gain : FVec F S1x128 .f32) (tri : FVec F S128x128 .bf16) (mask : IVec S128x128 1) (xq xf xi xg : Vec F S1x1024x128 .f32) (st : FVec F S128x128 .f32) : FVec F S1x1024x128 .bf16 :=
  k0_pay114 (k0_pay102 xg) (ON lb gain tri mask xq xf xi st) (k0_pay104 xg) (Scalar.ofBits .f32 0x3F800000#32)

end Cert.KernelIdeal.Hand

end
-- ==== Proof.TripRead.lean ====
/-
  What one trip of the loop yields and stores, as the named values of Trip.lean at the rows the trip loads.
-/
module

public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- A trip stores one block of rows, `A` of the rows it loads. -/
theorem tripL_eq (𝒱 : Variants) (c : Dev nD) (bd : Option 𝒱.V) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole) (v11 : FVec F S1x128 .f32) (v13 : FVec F S1x128 .f32) (v15 : FVec F S128x128 .bf16) (v17 : IVec S128x128 32) (v18 : IVec S128x128 1) (v20 : IVec S128x128 32) (v39 : IVec S128x128 1) (v41 : IVec S128x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (acc : FVec F S128x128 .f32) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v13 v15 v17 v18 v20 v39 v41 X_arg3 X_arg4 X_arg5 X_arg6 k acc
      = [⟨Rect.unit (k0_off1 k) S1x1024x128.size (k0_off1_inb k),
          A v11 v13 v15 (k0_pay112 v17 v18 v20 v39 v41) (View.readAt (Elt F) arg3.view (Rect.unit (s := S1x2048x128) (k0_off1 k) S1x1024x128.size (k0_off1_inb k)).toLoadRect X_arg3) (View.readAt (Elt F) arg4.view (Rect.unit (s := S1x2048x128) (k0_off1 k) S1x1024x128.size (k0_off1_inb k)).toLoadRect X_arg4) (View.readAt (Elt F) arg5.view (Rect.unit (s := S1x2048x128) (k0_off1 k) S1x1024x128.size (k0_off1_inb k)).toLoadRect X_arg5) (View.readAt (Elt F) arg6.view (Rect.unit (s := S1x2048x128) (k0_off1 k) S1x1024x128.size (k0_off1_inb k)).toLoadRect X_arg6) acc⟩] := by
  unfold tripL_k0_t1 trip_k0_t1
  rfl

/-- A trip yields the state after its last chunk. -/
theorem tripR_eq (𝒱 : Variants) (c : Dev nD) (bd : Option 𝒱.V) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole) (v11 : FVec F S1x128 .f32) (v13 : FVec F S1x128 .f32) (v15 : FVec F S128x128 .bf16) (v17 : IVec S128x128 32) (v18 : IVec S128x128 1) (v20 : IVec S128x128 32) (v39 : IVec S128x128 1) (v41 : IVec S128x128 32) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (k : Fin k0_t1_loop.trips) (acc : FVec F S128x128 .f32) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v11 v13 v15 v17 v18 v20 v39 v41 X_arg3 X_arg4 X_arg5 X_arg6 k acc
      = ST16 v11 v15 (View.readAt (Elt F) arg4.view (Rect.unit (s := S1x2048x128) (k0_off1 k) S1x1024x128.size (k0_off1_inb k)).toLoadRect X_arg4) (View.readAt (Elt F) arg5.view (Rect.unit (s := S1x2048x128) (k0_off1 k) S1x1024x128.size (k0_off1_inb k)).toLoadRect X_arg5) acc := by
  unfold tripR_k0_t1 trip_k0_t1
  rfl

end Cert.KernelIdeal.Hand

end
-- ==== Proof.Out.lean ====
module
public import proofs.«01_k».proof.Proof.TripRead
public import proofs.«01_k».proof.Proof.Gen.KernelIdeal.Frame
public import Idealize.ShloMosaic.Lib.Pointwise
public import Idealize.ShloMosaic.Lib.Pipeline.Value
/-! What one grid point leaves in each of the six output blocks, as a function of the contents of the
    fifteen input blocks. -/
@[expose] public section
set_option maxRecDepth 16384
noncomputable section
namespace Cert.KernelIdeal.Hand
open Cert.KernelIdeal Cert.KernelIdeal.Gen
open Idealize.ShloMosaic Idealize.ShloMosaic.TcCoe
variable {F : FTy → Type} [FloatOps F]

theorem hz2 : (![0, 0] : Fin 2 → Nat) = fun _ => 0 := by decide
theorem hz3 : (![0, 0, 0] : Fin 3 → Nat) = fun _ => 0 := by decide

/-- The two trips of the loop over the halves of the sequence. -/
def t0 : Fin k0_t1_loop.trips := ⟨0, by decide⟩
def t1 : Fin k0_t1_loop.trips := ⟨1, by decide⟩

/-- The 1024 rows trip `k` works on. -/
abbrev rows (k : Fin k0_t1_loop.trips) : Rect S1x2048x128 :=
  Rect.unit (k0_off1 k) S1x1024x128.size (k0_off1_inb k)
def half (k : Fin k0_t1_loop.trips) (x : Vec F S1x2048x128 .f32) : Vec F S1x1024x128 .f32 :=
  View.ld x (rows k)

/-- The mask of the pairs of rows in one chunk, the second not after the first. -/
def msk : IVec S128x128 1 :=
  k0_pay112 (iota .tc S128x128 32 [1] iota_S128x128_d1_w32) k0_pay108 k0_pay109 k0_pay110 k0_pay111

/-- The state after the first half. -/
def Smid (x0 : Vec F S128x128 .bf16) (x2 x3 : Vec F S1x2048x128 .f32) (x8 : Vec F S3x128 .f32) :
    Vec F S128x128 .f32 :=
  ST16 (k0_pay105 x8) (k0_pay107 x0) (half t0 x2) (half t0 x3) k0_pay113

/-- The gated output's block: the second half written over the first. -/
def aBlk (x0 : Vec F S128x128 .bf16) (x1 x2 x3 x4 : Vec F S1x2048x128 .f32) (x8 : Vec F S3x128 .f32)
    (x9 : Vec F S1x128 .f32) : Vec F S1x2048x128 .bf16 :=
  View.canon (Val := Elt F)
    [⟨rows t1, A (k0_pay105 x8) (k0_pay106 x9) (k0_pay107 x0) msk (half t1 x1) (half t1 x2)
        (half t1 x3) (half t1 x4) (Smid x0 x2 x3 x8)⟩,
     ⟨rows t0, A (k0_pay105 x8) (k0_pay106 x9) (k0_pay107 x0) msk (half t0 x1) (half t0 x2)
        (half t0 x3) (half t0 x4) k0_pay113⟩]

theorem out15 (c : Dev nD) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole)
    (x0 : Vec F S128x128 .bf16) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S3x128 .f32) (x9 : Vec F S1x128 .f32) (x10 : Vec F S3x128 .f32) (x11 : Vec F S32x2048 .f32) (x12 : Vec F S32x5632 .f32) (x13 : Vec F S32x5632 .f32) (x14 : Vec F S128x2048 .f32) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = aBlk x0 x1 x2 x3 x4 x8 x9 := by
  unfold out0_A_15
  rw [View.read_writes_eq_canon _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14)]
  unfold kernelRun0_A
  dsimp only
  rw [show Scf.trips (0#32) (Scalar.addi 0#32 2#32) 1#32 = t1.val + 1 from by decide,
    st_k0_t1_succ, show t1.val = t0.val + 1 from rfl, st_k0_t1_succ,
    show t0.val = 0 from rfl]
  dsimp only
  unfold kernelRun0_A.sl.r kernelRun0_A.sl.r_1 kernelRun0_A.sl.r_2 kernelRun0_A.sl.v17
  simp only [tripL_eq, tripR_eq, st_k0_t1_zero, View.readAt_eq_ld, Memref.IsWhole.read_unread,
    View.ld_unit_zero (S := S3x128) hz2, View.ld_unit_zero (S := S1x128) hz2,
    View.ld_unit_zero (S := S128x128) hz2]
  rfl

theorem out17 (c : Dev nD) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole)
    (x0 : Vec F S128x128 .bf16) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S3x128 .f32) (x9 : Vec F S1x128 .f32) (x10 : Vec F S3x128 .f32) (x11 : Vec F S32x2048 .f32) (x12 : Vec F S32x5632 .f32) (x13 : Vec F S32x5632 .f32) (x14 : Vec F S128x2048 .f32) :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = k0_pay119 x11 := by
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14)]
  unfold kernelRun0_A
  dsimp only
  rw [View.canon_unit_zero hz2]
  skip
  simp only [View.readAt_eq_ld, Memref.IsWhole.read_unread, View.ld_unit_zero (S := S32x2048) hz2]

theorem out18 (c : Dev nD) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole)
    (x0 : Vec F S128x128 .bf16) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S3x128 .f32) (x9 : Vec F S1x128 .f32) (x10 : Vec F S3x128 .f32) (x11 : Vec F S32x2048 .f32) (x12 : Vec F S32x5632 .f32) (x13 : Vec F S32x5632 .f32) (x14 : Vec F S128x2048 .f32) :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = k0_pay120 x12 := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14)]
  unfold kernelRun0_A
  dsimp only
  rw [View.canon_unit_zero hz2]
  skip
  simp only [View.readAt_eq_ld, Memref.IsWhole.read_unread, View.ld_unit_zero (S := S32x5632) hz2]

theorem out19 (c : Dev nD) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole)
    (x0 : Vec F S128x128 .bf16) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S3x128 .f32) (x9 : Vec F S1x128 .f32) (x10 : Vec F S3x128 .f32) (x11 : Vec F S32x2048 .f32) (x12 : Vec F S32x5632 .f32) (x13 : Vec F S32x5632 .f32) (x14 : Vec F S128x2048 .f32) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = k0_pay1 x13 := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14)]
  unfold kernelRun0_A
  dsimp only
  rw [View.canon_unit_zero hz2]
  unfold kernelRun0_A.sl.r_6
  simp only [View.readAt_eq_ld, Memref.IsWhole.read_unread, View.ld_unit_zero (S := S32x5632) hz2]

theorem out20 (c : Dev nD) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole)
    (x0 : Vec F S128x128 .bf16) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S3x128 .f32) (x9 : Vec F S1x128 .f32) (x10 : Vec F S3x128 .f32) (x11 : Vec F S32x2048 .f32) (x12 : Vec F S32x5632 .f32) (x13 : Vec F S32x5632 .f32) (x14 : Vec F S128x2048 .f32) :
    out0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = k0_pay2 x14 := by
  unfold out0_A_20
  rw [View.read_writes_eq_canon _ _ _ (cover0_A_20 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14)]
  unfold kernelRun0_A
  dsimp only
  rw [View.canon_unit_zero hz2]
  skip
  simp only [View.readAt_eq_ld, Memref.IsWhole.read_unread, View.ld_unit_zero (S := S128x2048) hz2]

theorem out16 (c : Dev nD) (i : grid0.Coords) (arg2 : Memref sig .tc .vmem S128x128 .bf16) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S1x2048x128 .f32) (harg9 : arg9.IsWhole) (arg10 : Memref sig .tc .vmem S3x128 .f32) (harg10 : arg10.IsWhole) (arg11 : Memref sig .tc .vmem S1x128 .f32) (harg11 : arg11.IsWhole) (arg12 : Memref sig .tc .vmem S3x128 .f32) (harg12 : arg12.IsWhole) (arg13 : Memref sig .tc .vmem S32x2048 .f32) (harg13 : arg13.IsWhole) (arg14 : Memref sig .tc .vmem S32x5632 .f32) (harg14 : arg14.IsWhole) (arg15 : Memref sig .tc .vmem S32x5632 .f32) (harg15 : arg15.IsWhole) (arg16 : Memref sig .tc .vmem S128x2048 .f32) (harg16 : arg16.IsWhole) (arg17 : Memref sig .tc .vmem S1x2048x128 .bf16) (harg17 : arg17.IsWhole) (arg18 : Memref sig .tc .vmem S1x2048x128 .bf16) (harg18 : arg18.IsWhole) (arg19 : Memref sig .tc .vmem S32x2048 .bf16) (harg19 : arg19.IsWhole) (arg20 : Memref sig .tc .vmem S32x5632 .bf16) (harg20 : arg20.IsWhole) (arg21 : Memref sig .tc .vmem S32x5632 .bf16) (harg21 : arg21.IsWhole) (arg22 : Memref sig .tc .vmem S128x2048 .bf16) (harg22 : arg22.IsWhole)
    (x0 : Vec F S128x128 .bf16) (x1 : Vec F S1x2048x128 .f32) (x2 : Vec F S1x2048x128 .f32) (x3 : Vec F S1x2048x128 .f32) (x4 : Vec F S1x2048x128 .f32) (x5 : Vec F S1x2048x128 .f32) (x6 : Vec F S1x2048x128 .f32) (x7 : Vec F S1x2048x128 .f32) (x8 : Vec F S3x128 .f32) (x9 : Vec F S1x128 .f32) (x10 : Vec F S3x128 .f32) (x11 : Vec F S32x2048 .f32) (x12 : Vec F S32x5632 .f32) (x13 : Vec F S32x5632 .f32) (x14 : Vec F S128x2048 .f32) :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 = k0_pay118 (k0_pay115 x6 x7) (iota .tc S2048x128 32 [0] iota_S2048x128_d0_w32) (k0_pay116 x10)
      (k0_pay117 x10) x5 := by
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14)]
  unfold kernelRun0_A
  dsimp only
  rw [View.canon_unit_zero hz3]
  unfold kernelRun0_A.sl.r_3 kernelRun0_A.sl.v77 kernelRun0_A.sl.r_4 kernelRun0_A.sl.r_5
  simp only [View.readAt_eq_ld, Memref.IsWhole.read_unread, View.ld_unit_zero (S := S1x2048x128) hz3, View.ld_unit_zero (S := S3x128) hz2]
-- ==== Proof.TripA.lean ====
module
public import proofs.«01_k».proof.Proof.Trip
public import proofs.«01_k».proof.Proof.Spec
public import Idealize.ShloMosaic.Lib.Pointwise
public import Idealize.ShloMosaic.Lib.Pipeline.Value
/-! One trip at the ideal values, up to the decayed keys: each named array at an index is the head's function of time. -/
@[expose] public section
set_option maxRecDepth 16384
noncomputable section
namespace Cert.KernelIdeal.Hand
open Cert.KernelIdeal Cert.KernelIdeal.Gen Hgrn
open Idealize.ShloMosaic Idealize.ShloMosaic.TcCoe

/-- Eight arrays of 128 rows joined: row `r` is row `r % 128` of array `r / 128`. -/
theorem cat8 {α : Type} (a : Fin 8 → (S128x128.Idx → α)) (h) (r : Fin 1024) (d : Fin 128) :
    concatenate S1024x128 0 [⟨S128x128, a 0⟩, ⟨S128x128, a 1⟩, ⟨S128x128, a 2⟩, ⟨S128x128, a 3⟩, ⟨S128x128, a 4⟩,
      ⟨S128x128, a 5⟩, ⟨S128x128, a 6⟩, ⟨S128x128, a 7⟩] h (ix2 r d)
      = a ⟨r.val / 128, by omega⟩ (ix2 ⟨r.val % 128, by omega⟩ d) :=
  concatenate_ofFn_apply (s₁ := S128x128) (t := S1024x128) 0 a h rfl 128 rfl (ix2 r d) ⟨r.val / 128, by omega⟩ rfl
    (ix2 ⟨r.val % 128, by omega⟩ d) rfl (by intro b hb; fin_cases b; exact absurd rfl hb; rfl)

/-- Sixteen arrays of 64 rows joined. -/
theorem cat16 {α : Type} (a : Fin 16 → (S64x128.Idx → α)) (h) (r : Fin 1024) (d : Fin 128) :
    concatenate S1024x128 0 [⟨S64x128, a 0⟩, ⟨S64x128, a 1⟩, ⟨S64x128, a 2⟩, ⟨S64x128, a 3⟩, ⟨S64x128, a 4⟩,
      ⟨S64x128, a 5⟩, ⟨S64x128, a 6⟩, ⟨S64x128, a 7⟩, ⟨S64x128, a 8⟩, ⟨S64x128, a 9⟩, ⟨S64x128, a 10⟩, ⟨S64x128, a 11⟩,
      ⟨S64x128, a 12⟩, ⟨S64x128, a 13⟩, ⟨S64x128, a 14⟩, ⟨S64x128, a 15⟩] h (ix2 r d)
      = a ⟨r.val / 64, by omega⟩ (ix2 ⟨r.val % 64, by omega⟩ d) :=
  concatenate_ofFn_apply (s₁ := S64x128) (t := S1024x128) 0 a h rfl 64 rfl (ix2 r d) ⟨r.val / 64, by omega⟩ rfl
    (ix2 ⟨r.val % 64, by omega⟩ d) rfl (by intro b hb; fin_cases b; exact absurd rfl hb; rfl)

theorem cat8' {α : Type} (a0 a1 a2 a3 a4 a5 a6 a7 : S128x128.Idx → α) (h) (r : Fin 1024) (d : Fin 128) :
    concatenate S1024x128 0 [⟨S128x128, a0⟩, ⟨S128x128, a1⟩, ⟨S128x128, a2⟩, ⟨S128x128, a3⟩, ⟨S128x128, a4⟩, ⟨S128x128, a5⟩, ⟨S128x128, a6⟩, ⟨S128x128, a7⟩] h (ix2 r d)
      = (![a0, a1, a2, a3, a4, a5, a6, a7] : Fin 8 → (S128x128.Idx → α)) ⟨r.val / 128, by omega⟩ (ix2 ⟨r.val % 128, by omega⟩ d) :=
  cat8 (α := α) ![a0, a1, a2, a3, a4, a5, a6, a7] h r d

theorem cat16' {α : Type} (a0 a1 a2 a3 a4 a5 a6 a7 a8 a9 a10 a11 a12 a13 a14 a15 : S64x128.Idx → α) (h) (r : Fin 1024) (d : Fin 128) :
    concatenate S1024x128 0 [⟨S64x128, a0⟩, ⟨S64x128, a1⟩, ⟨S64x128, a2⟩, ⟨S64x128, a3⟩, ⟨S64x128, a4⟩, ⟨S64x128, a5⟩, ⟨S64x128, a6⟩, ⟨S64x128, a7⟩, ⟨S64x128, a8⟩, ⟨S64x128, a9⟩, ⟨S64x128, a10⟩, ⟨S64x128, a11⟩, ⟨S64x128, a12⟩, ⟨S64x128, a13⟩, ⟨S64x128, a14⟩, ⟨S64x128, a15⟩] h (ix2 r d)
      = (![a0, a1, a2, a3, a4, a5, a6, a7, a8, a9, a10, a11, a12, a13, a14, a15] : Fin 16 → (S64x128.Idx → α)) ⟨r.val / 64, by omega⟩ (ix2 ⟨r.val % 64, by omega⟩ d) :=
  cat16 (α := α) ![a0, a1, a2, a3, a4, a5, a6, a7, a8, a9, a10, a11, a12, a13, a14, a15] h r d

section
variable {lb : FVec Ideal S1x128 .f32} {tri : FVec Ideal S128x128 .bf16} {xf xq : Vec Ideal S1x1024x128 .f32}
  {L : Fin 128 → EReal} {XF XQ : Sig} {C0 : Nat}

theorem pay4_apply (hlb : ∀ d, lb (ix2 0 d) = L d) (hf : ∀ (r : Fin 1024) d, xf (ix3 0 r d) = XF (64 * C0 + r.val) d)
    (r : Fin 1024) (d : Fin 128) : k0_pay4 lb xf (ix2 r d) = fg L XF (64 * C0 + r.val) d := by
  pointwise [k0_pay4]
  rw [hlb, hf, zero_sub]; rfl

theorem P_lo (hlb : ∀ d, lb (ix2 0 d) = L d) (hf : ∀ (r : Fin 1024) d, xf (ix3 0 r d) = XF (64 * C0 + r.val) d)
    (r : Fin 1024) (e : Fin 384) (d : Fin 128) (he : e.val = d.val) :
    P lb xf (ix2 r e) = lf L XF (64 * C0 + r.val) d := by
  obtain ⟨e, he'⟩ := e; subst he
  pointwise [P, k0_pay7]
  simp only [pay4_apply hlb hf]; rfl

theorem P_mid (hlb : ∀ d, lb (ix2 0 d) = L d) (hf : ∀ (r : Fin 1024) d, xf (ix3 0 r d) = XF (64 * C0 + r.val) d)
    (r : Fin 1024) (e : Fin 384) (d : Fin 128) (he : e.val = 128 + d.val) :
    P lb xf (ix2 r e) = lf L XF (64 * C0 + r.val) d - lf L XF (64 * C0 + r.val) d := by
  obtain ⟨e, he'⟩ := e; subst he
  pointwise [P, k0_pay7]
  simp only [pay4_apply hlb hf]; rfl

theorem P_hi (hlb : ∀ d, lb (ix2 0 d) = L d) (hf : ∀ (r : Fin 1024) d, xf (ix3 0 r d) = XF (64 * C0 + r.val) d)
    (r : Fin 1024) (e : Fin 384) (d : Fin 128) (he : e.val = 256 + d.val) :
    P lb xf (ix2 r e) = lf L XF (64 * C0 + r.val) d - lf L XF (64 * C0 + r.val) d
      - (lf L XF (64 * C0 + r.val) d - lf L XF (64 * C0 + r.val) d) := by
  obtain ⟨e, he'⟩ := e; subst he
  pointwise [P, k0_pay7]
  rw [dif_neg (by omega), dif_neg (by omega)]
  have e1 : 256 + d.val - 128 - 128 = d.val := by omega
  simp only [pay4_apply hlb hf, e1]; rfl

/-- Block `n`'s three products add up to the running sums of chunks `2 n` and `2 n + 1`. -/
theorem block_sum (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (n : Fin 8) (R : Fin 128 → Fin 1024) (hR : ∀ x, (R x).val = 128 * n.val + x.val) (r d : Fin 128) (e0 e1 e2 : Fin 384)
    (h0 : e0.val = d.val) (h1 : e1.val = 128 + d.val) (h2 : e2.val = 256 + d.val) :
    ∑ x : Fin 128, tri (ix2 r x) * P lb xf (ix2 (R x) e0) + ∑ x : Fin 128, tri (ix2 r x) * P lb xf (ix2 (R x) e1)
      + ∑ x : Fin 128, tri (ix2 r x) * P lb xf (ix2 (R x) e2)
      = cum L XF (C0 + (2 * n.val + r.val / 64)) ⟨r.val % 64, by omega⟩ d := by
  simp only [P_lo hlb hf _ e0 d h0, P_mid hlb hf _ e1 d h1, P_hi hlb hf _ e2 d h2]
  rw [sum_three (fun x => tri (ix2 r x)) (fun x => lf L XF (64 * C0 + (R x).val) d) r (fun _ => hl _ _) (htri r)]
  unfold cum
  refine Finset.sum_congr rfl fun j _ => ?_
  have e : (j ≤ (⟨r.val % 64, by omega⟩ : Fin 64)) ↔ j.val ≤ r.val % 64 := Iff.rfl
  simp only [e, hR]
  congr 2
  omega

theorem blk0 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay8 tri (P lb xf) (ix2 r d) = cum L XF (C0 + r.val / 64) ⟨r.val % 64, by omega⟩ d := by
  pointwise [k0_pay8]
  simpa using block_sum hlb htri hf hl 0 (fun x => ⟨x.val, by omega⟩) (fun x => by simp) r d ⟨d.val, by omega⟩ ⟨128 + d.val, by omega⟩ ⟨256 + d.val, by omega⟩ rfl rfl rfl

theorem blk1 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay9 tri (P lb xf) (ix2 r d) = cum L XF (C0 + (2 * 1 + r.val / 64)) ⟨r.val % 64, by omega⟩ d := by
  pointwise [k0_pay9]
  exact block_sum hlb htri hf hl 1 (fun x => ⟨128 + x.val, by omega⟩) (fun x => rfl) r d ⟨d.val, by omega⟩ ⟨128 + d.val, by omega⟩ ⟨256 + d.val, by omega⟩ rfl rfl rfl

theorem blk2 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay10 tri (P lb xf) (ix2 r d) = cum L XF (C0 + (2 * 2 + r.val / 64)) ⟨r.val % 64, by omega⟩ d := by
  pointwise [k0_pay10]
  exact block_sum hlb htri hf hl 2 (fun x => ⟨256 + x.val, by omega⟩) (fun x => rfl) r d ⟨d.val, by omega⟩ ⟨128 + d.val, by omega⟩ ⟨256 + d.val, by omega⟩ rfl rfl rfl

theorem blk3 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay11 tri (P lb xf) (ix2 r d) = cum L XF (C0 + (2 * 3 + r.val / 64)) ⟨r.val % 64, by omega⟩ d := by
  pointwise [k0_pay11]
  exact block_sum hlb htri hf hl 3 (fun x => ⟨384 + x.val, by omega⟩) (fun x => rfl) r d ⟨d.val, by omega⟩ ⟨128 + d.val, by omega⟩ ⟨256 + d.val, by omega⟩ rfl rfl rfl

theorem blk4 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay12 tri (P lb xf) (ix2 r d) = cum L XF (C0 + (2 * 4 + r.val / 64)) ⟨r.val % 64, by omega⟩ d := by
  pointwise [k0_pay12]
  exact block_sum hlb htri hf hl 4 (fun x => ⟨512 + x.val, by omega⟩) (fun x => rfl) r d ⟨d.val, by omega⟩ ⟨128 + d.val, by omega⟩ ⟨256 + d.val, by omega⟩ rfl rfl rfl

theorem blk5 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay13 tri (P lb xf) (ix2 r d) = cum L XF (C0 + (2 * 5 + r.val / 64)) ⟨r.val % 64, by omega⟩ d := by
  pointwise [k0_pay13]
  exact block_sum hlb htri hf hl 5 (fun x => ⟨640 + x.val, by omega⟩) (fun x => rfl) r d ⟨d.val, by omega⟩ ⟨128 + d.val, by omega⟩ ⟨256 + d.val, by omega⟩ rfl rfl rfl

theorem blk6 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    k0_pay14 tri (P lb xf) (ix2 r d) = cum L XF (C0 + (2 * 6 + r.val / 64)) ⟨r.val % 64, by omega⟩ d := by
  pointwise [k0_pay14]
  exact block_sum hlb htri hf hl 6 (fun x => ⟨768 + x.val, by omega⟩) (fun x => rfl) r d ⟨d.val, by omega⟩ ⟨128 + d.val, by omega⟩ ⟨256 + d.val, by omega⟩ rfl rfl rfl

theorem blk7 (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (r d : Fin 128) :
    addf (F := Ideal) (addf (F := Ideal) (k0_pay16 tri (P lb xf)) (extractStridedSlice S128x128 ![0, 128] (k0_pay15 tri (P lb xf)) slices_S128x384_o0_128_S128x128))
      (extractStridedSlice S128x128 ![0, 256] (k0_pay15 tri (P lb xf)) slices_S128x384_o0_256_S128x128) (ix2 r d)
      = cum L XF (C0 + (2 * 7 + r.val / 64)) ⟨r.val % 64, by omega⟩ d := by
  pointwise [k0_pay15, k0_pay16]
  exact block_sum hlb htri hf hl 7 (fun x => ⟨896 + x.val, by omega⟩) (fun x => rfl) r d ⟨d.val, by omega⟩ ⟨128 + d.val, by omega⟩ ⟨256 + d.val, by omega⟩ rfl rfl rfl

theorem cm_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (c : Fin 16) (i : Fin 64) (d : Fin 128) :
    k0_pay17 (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf)) (ix3 c i d) = cum L XF (C0 + c.val) i d := by
  have key : ∀ (n : Fin 8) (r d : Fin 128),
      (![k0_pay8 tri (P lb xf), k0_pay9 tri (P lb xf), k0_pay10 tri (P lb xf), k0_pay11 tri (P lb xf), k0_pay12 tri (P lb xf),
        k0_pay13 tri (P lb xf), k0_pay14 tri (P lb xf),
        addf (F := Ideal) (addf (F := Ideal) (k0_pay16 tri (P lb xf)) (extractStridedSlice S128x128 ![0, 128] (k0_pay15 tri (P lb xf)) slices_S128x384_o0_128_S128x128))
          (extractStridedSlice S128x128 ![0, 256] (k0_pay15 tri (P lb xf)) slices_S128x384_o0_256_S128x128)] : Fin 8 → FVec Ideal S128x128 .f32) n (ix2 r d)
        = cum L XF (C0 + (2 * n.val + r.val / 64)) ⟨r.val % 64, by omega⟩ d := by
    intro n r d
    match n with
    | 0 => exact (blk0 hlb htri hf hl r d).trans (by simp)
    | 1 => exact blk1 hlb htri hf hl r d
    | 2 => exact blk2 hlb htri hf hl r d
    | 3 => exact blk3 hlb htri hf hl r d
    | 4 => exact blk4 hlb htri hf hl r d
    | 5 => exact blk5 hlb htri hf hl r d
    | 6 => exact blk6 hlb htri hf hl r d
    | 7 => exact blk7 hlb htri hf hl r d
  unfold k0_pay17
  rw [shapeCast_apply _ shapeCasts_S1024x128_S16x64x128 (ix3 c i d) (ix2 (⟨64 * c.val + i.val, by omega⟩ : Fin 1024) d)
    (by rw [Shape.rowMajor_val_two, Shape.rowMajor_val_three]; show (64 * c.val + i.val) * 128 + d.val = (c.val * 64 + i.val) * 128 + d.val; omega)]
  rw [cat8']
  refine (key _ _ _).trans ?_
  congr 1
  · show C0 + (2 * ((64 * c.val + i.val) / 128) + (64 * c.val + i.val) % 128 / 64) = _; omega
  · apply Fin.ext; show (64 * c.val + i.val) % 128 % 64 = _; omega

theorem qe_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (hq : ∀ (r : Fin 1024) d, xq (ix3 0 r d) = XQ (64 * C0 + r.val) d)
    (r : Fin 1024) (d : Fin 128) :
    k0_pay22 (k0_pay3 xq) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf)) (ix2 r d) = qe L XF XQ (C0 + r.val / 64) ⟨r.val % 64, by omega⟩ d := by
  have e : 64 * (C0 + r.val / 64) + r.val % 64 = 64 * C0 + r.val := by omega
  pointwise [k0_pay22, k0_pay18, k0_pay20, k0_pay3]
  simp only [cm_apply hlb htri hf hl, hq, zero_sub]
  unfold qe qq
  rw [e]; rfl

theorem ke_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (r : Fin 1024) (d : Fin 128) :
    k0_pay23 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf)) (ix2 r d) = ke L XF (C0 + r.val / 64) ⟨r.val % 64, by omega⟩ d := by
  have e : 64 * (C0 + r.val / 64) + r.val % 64 = 64 * C0 + r.val := by omega
  pointwise [k0_pay23, k0_pay18, k0_pay21, k0_pay5]
  simp only [cm_apply hlb htri hf hl, pay4_apply hlb hf]
  unfold ke kk
  rw [e]

theorem qc_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (hq : ∀ (r : Fin 1024) d, xq (ix3 0 r d) = XQ (64 * C0 + r.val) d)
    (r : Fin 1024) (d : Fin 128) :
    k0_pay24 (k0_pay3 xq) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf)) (ix2 r d) = qc L XF XQ (C0 + r.val / 64) ⟨r.val % 64, by omega⟩ d := by
  have e : 64 * (C0 + r.val / 64) + r.val % 64 = 64 * C0 + r.val := by omega
  pointwise [k0_pay24, k0_pay20, k0_pay3]
  simp only [cm_apply hlb htri hf hl, hq, zero_sub]
  unfold qc qq
  rw [e]; rfl

theorem kd_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (r : Fin 1024) (d : Fin 128) :
    k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf)) (ix2 r d) = kd L XF (C0 + r.val / 64) ⟨r.val % 64, by omega⟩ d := by
  have e : 64 * (C0 + r.val / 64) + r.val % 64 = 64 * C0 + r.val := by omega
  pointwise [k0_pay25, k0_pay19, k0_pay21, k0_pay5]
  simp only [cm_apply hlb htri hf hl, pay4_apply hlb hf]
  unfold kd kk
  rw [e]

theorem dec_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (c : Fin 16) (d : Fin 128) :
    k0_pay26 (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf)) (ix3 c 0 d) = Ideal.exp (cum L XF (C0 + c.val) 63 d) := by
  pointwise [k0_pay26, k0_pay19]
  simp only [cm_apply hlb htri hf hl]

end
end Cert.KernelIdeal.Hand
-- ==== Proof.TripB.lean ====
module
public import proofs.«01_k».proof.Proof.TripA
public import proofs.«01_k».proof.Proof.Spec
public import Idealize.ShloMosaic.Lib.Pointwise
public import Idealize.ShloMosaic.Lib.Pipeline.Value
/-! One trip at the ideal values: the outer products, the states before each chunk, and the output from the states. -/
@[expose] public section
set_option maxRecDepth 16384
noncomputable section
namespace Cert.KernelIdeal.Hand
open Cert.KernelIdeal Cert.KernelIdeal.Gen Hgrn
open Idealize.ShloMosaic Idealize.ShloMosaic.TcCoe

section
variable {lb : FVec Ideal S1x128 .f32} {tri : FVec Ideal S128x128 .bf16} {xf xq xi : Vec Ideal S1x1024x128 .f32}
  {st : FVec Ideal S128x128 .f32} {L : Fin 128 → EReal} {XF XQ XI : Sig} {C0 : Nat}

theorem QE_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hq : ∀ (r : Fin 1024) d, xq (ix3 0 r d) = XQ (64 * C0 + r.val) d)
    (r : Fin 1024) (d : Fin 128) :
    QE lb tri xf xq (ix2 r d) = qe L XF XQ (C0 + r.val / 64) ⟨r.val % 64, by omega⟩ d := by
  unfold QE; exact qe_apply hlb htri hf hl hq r d

theorem KE_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (r : Fin 1024) (d : Fin 128) :
    KE lb tri xf  (ix2 r d) = ke L XF (C0 + r.val / 64) ⟨r.val % 64, by omega⟩ d := by
  unfold KE; exact ke_apply hlb htri hf hl r d

theorem QC_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hq : ∀ (r : Fin 1024) d, xq (ix3 0 r d) = XQ (64 * C0 + r.val) d)
    (r : Fin 1024) (d : Fin 128) :
    QC lb tri xf xq (ix2 r d) = qc L XF XQ (C0 + r.val / 64) ⟨r.val % 64, by omega⟩ d := by
  unfold QC; exact qc_apply hlb htri hf hl hq r d

theorem KD_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (r : Fin 1024) (d : Fin 128) :
    KD lb tri xf  (ix2 r d) = kd L XF (C0 + r.val / 64) ⟨r.val % 64, by omega⟩ d := by
  unfold KD; exact kd_apply hlb htri hf hl r d

theorem DEC_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤) (c : Fin 16) (d : Fin 128) :
    DEC lb tri xf (ix3 c 0 d) = Ideal.exp (cum L XF (C0 + c.val) 63 d) := by
  unfold DEC; exact dec_apply hlb htri hf hl c d

theorem pay6_apply
    (hi : ∀ (r : Fin 1024) d, xi (ix3 0 r d) = XI (64 * C0 + r.val) d) (r : Fin 1024) (d : Fin 128) :
    k0_pay6 xi (ix2 r d) = XI (64 * C0 + r.val) d := by
  pointwise [k0_pay6]
  exact hi r d

theorem kv_sum (V K : FVec Ideal S1024x128 .bf16) (hV : ∀ (r : Fin 1024) v, V (ix2 r v) = XI (64 * C0 + r.val) v)
    (hK : ∀ (r : Fin 1024) d, K (ix2 r d) = kd L XF (C0 + r.val / 64) ⟨r.val % 64, by omega⟩ d)
    (c : Nat) (R : Fin 64 → Fin 1024) (hR : ∀ x, (R x).val = 64 * c + x.val) (v d : Fin 128) :
    ∑ x : Fin 64, V (ix2 (R x) v) * K (ix2 (R x) d) = kv L XF XI (C0 + c) v d := by
  unfold kv
  refine Finset.sum_congr rfl fun x _ => ?_
  have e : 64 * C0 + (R x).val = 64 * (C0 + c) + x.val := by rw [hR]; omega
  have e1 : (R x).val / 64 = c := by rw [hR]; omega
  have e2 : (⟨(R x).val % 64, by omega⟩ : Fin 64) = x := by apply Fin.ext; show (R x).val % 64 = x.val; rw [hR]; omega
  rw [hV, hK, e, e1, e2]

theorem inter_sum (Q : FVec Ideal S1024x128 .bf16) (S : Fin 128 → Fin 128 → EReal)
    (hQ : ∀ (r : Fin 1024) d, Q (ix2 r d) = qc L XF XQ (C0 + r.val / 64) ⟨r.val % 64, by omega⟩ d)
    (c : Nat) (hS : ∀ v d, S v d = St L XF XI (C0 + c) v d) (i : Fin 64) (R : Fin 1024) (hR : R.val = 64 * c + i.val) (v : Fin 128) :
    ∑ d : Fin 128, Q (ix2 R d) * S v d = inter L XF XQ XI (C0 + c) i v := by
  unfold inter
  have e1 : R.val / 64 = c := by rw [hR]; omega
  have e2 : (⟨R.val % 64, by omega⟩ : Fin 64) = i := by apply Fin.ext; show R.val % 64 = i.val; rw [hR]; omega
  refine Finset.sum_congr rfl fun d _ => ?_
  rw [hQ, hS, e1, e2]

theorem kv0_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV0 lb tri xf xi (ix2 v d) = kv L XF XI (C0) v d := by
  pointwise [KV0, k0_pay27]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 0 (fun x => ⟨x.val, by omega⟩) (fun x => by simp) v d

theorem kv1_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV1 lb tri xf xi (ix2 v d) = kv L XF XI (C0 + 1) v d := by
  pointwise [KV1, k0_pay28]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 1 (fun x => ⟨64 + x.val, by omega⟩) (fun x => rfl) v d

theorem kv2_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV2 lb tri xf xi (ix2 v d) = kv L XF XI (C0 + 2) v d := by
  pointwise [KV2, k0_pay29]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 2 (fun x => ⟨128 + x.val, by omega⟩) (fun x => rfl) v d

theorem kv3_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV3 lb tri xf xi (ix2 v d) = kv L XF XI (C0 + 3) v d := by
  pointwise [KV3, k0_pay30]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 3 (fun x => ⟨192 + x.val, by omega⟩) (fun x => rfl) v d

theorem kv4_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV4 lb tri xf xi (ix2 v d) = kv L XF XI (C0 + 4) v d := by
  pointwise [KV4, k0_pay31]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 4 (fun x => ⟨256 + x.val, by omega⟩) (fun x => rfl) v d

theorem kv5_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV5 lb tri xf xi (ix2 v d) = kv L XF XI (C0 + 5) v d := by
  pointwise [KV5, k0_pay32]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 5 (fun x => ⟨320 + x.val, by omega⟩) (fun x => rfl) v d

theorem kv6_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV6 lb tri xf xi (ix2 v d) = kv L XF XI (C0 + 6) v d := by
  pointwise [KV6, k0_pay35, k0_pay33, k0_pay34]
  exact kv_sum (C0 := C0) (k0_pay6 xi) (k0_pay25 (k0_pay5 lb xf) (k0_pay8 tri (P lb xf)) (k0_pay9 tri (P lb xf)) (k0_pay10 tri (P lb xf)) (k0_pay11 tri (P lb xf)) (k0_pay12 tri (P lb xf)) (k0_pay13 tri (P lb xf)) (k0_pay14 tri (P lb xf)) (k0_pay15 tri (P lb xf)) (k0_pay16 tri (P lb xf))) (pay6_apply hi) (kd_apply hlb htri hf hl) 6 (fun x => ⟨384 + x.val, by omega⟩) (fun x => rfl) v d

theorem kv7_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV7 lb tri xf xi (ix2 v d) = kv L XF XI (C0 + 7) v d := by
  pointwise [KV7, k0_pay36]
  exact kv_sum (C0 := C0) (k0_pay6 xi) (KD lb tri xf) (pay6_apply hi) (KD_apply hlb htri hf hl) 7 (fun x => ⟨448 + x.val, by omega⟩) (fun x => rfl) v d

theorem kv8_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV8 lb tri xf xi (ix2 v d) = kv L XF XI (C0 + 8) v d := by
  pointwise [KV8, k0_pay37]
  exact kv_sum (C0 := C0) (k0_pay6 xi) (KD lb tri xf) (pay6_apply hi) (KD_apply hlb htri hf hl) 8 (fun x => ⟨512 + x.val, by omega⟩) (fun x => rfl) v d

theorem kv9_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV9 lb tri xf xi (ix2 v d) = kv L XF XI (C0 + 9) v d := by
  pointwise [KV9, k0_pay38]
  exact kv_sum (C0 := C0) (k0_pay6 xi) (KD lb tri xf) (pay6_apply hi) (KD_apply hlb htri hf hl) 9 (fun x => ⟨576 + x.val, by omega⟩) (fun x => rfl) v d

theorem kv10_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV10 lb tri xf xi (ix2 v d) = kv L XF XI (C0 + 10) v d := by
  pointwise [KV10, k0_pay39]
  exact kv_sum (C0 := C0) (k0_pay6 xi) (KD lb tri xf) (pay6_apply hi) (KD_apply hlb htri hf hl) 10 (fun x => ⟨640 + x.val, by omega⟩) (fun x => rfl) v d

theorem kv11_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV11 lb tri xf xi (ix2 v d) = kv L XF XI (C0 + 11) v d := by
  pointwise [KV11, k0_pay40]
  exact kv_sum (C0 := C0) (k0_pay6 xi) (KD lb tri xf) (pay6_apply hi) (KD_apply hlb htri hf hl) 11 (fun x => ⟨704 + x.val, by omega⟩) (fun x => rfl) v d

theorem kv12_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV12 lb tri xf xi (ix2 v d) = kv L XF XI (C0 + 12) v d := by
  pointwise [KV12, k0_pay41]
  exact kv_sum (C0 := C0) (k0_pay6 xi) (KD lb tri xf) (pay6_apply hi) (KD_apply hlb htri hf hl) 12 (fun x => ⟨768 + x.val, by omega⟩) (fun x => rfl) v d

theorem kv13_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV13 lb tri xf xi (ix2 v d) = kv L XF XI (C0 + 13) v d := by
  pointwise [KV13, k0_pay42]
  exact kv_sum (C0 := C0) (k0_pay6 xi) (KD lb tri xf) (pay6_apply hi) (KD_apply hlb htri hf hl) 13 (fun x => ⟨832 + x.val, by omega⟩) (fun x => rfl) v d

theorem kv14_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV14 lb tri xf xi (ix2 v d) = kv L XF XI (C0 + 14) v d := by
  pointwise [KV14, k0_pay43]
  exact kv_sum (C0 := C0) (k0_pay6 xi) (KD lb tri xf) (pay6_apply hi) (KD_apply hlb htri hf hl) 14 (fun x => ⟨896 + x.val, by omega⟩) (fun x => rfl) v d

theorem kv15_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (v d : Fin 128) : KV15 lb tri xf xi (ix2 v d) = kv L XF XI (C0 + 15) v d := by
  pointwise [KV15, k0_pay44]
  exact kv_sum (C0 := C0) (k0_pay6 xi) (KD lb tri xf) (pay6_apply hi) (KD_apply hlb htri hf hl) 15 (fun x => ⟨960 + x.val, by omega⟩) (fun x => rfl) v d

theorem st0_apply  (hs : ∀ v d, st (ix2 v d) = St L XF XI C0 v d) (v d : Fin 128) : st (ix2 v d) = St L XF XI C0 v d := hs v d

theorem st1_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay46 st (DEC lb tri xf) (KV0 lb tri xf xi) (ix2 v d) = St L XF XI (C0 + 1) v d := by
  pointwise [k0_pay46]
  rw [hs]
  rw [kv0_apply hlb htri hf hl hi]
  exact congrArg (· * _ + _) (DEC_apply hlb htri hf hl 0 d)

theorem st2_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay48 st (DEC lb tri xf) (KV0 lb tri xf xi) (KV1 lb tri xf xi) (ix2 v d) = St L XF XI (C0 + 2) v d := by
  pointwise [k0_pay48]
  rw [st1_apply hlb htri hf hl hi hs]
  rw [kv1_apply hlb htri hf hl hi]
  exact congrArg (· * _ + _) (DEC_apply hlb htri hf hl 1 d)

theorem st3_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay50 st (DEC lb tri xf) (KV0 lb tri xf xi) (KV1 lb tri xf xi) (KV2 lb tri xf xi) (ix2 v d) = St L XF XI (C0 + 3) v d := by
  pointwise [k0_pay50]
  rw [st2_apply hlb htri hf hl hi hs]
  rw [kv2_apply hlb htri hf hl hi]
  exact congrArg (· * _ + _) (DEC_apply hlb htri hf hl 2 d)

theorem m3_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : M3 lb tri xf xi st (ix2 v d) = Ideal.exp (cum L XF (C0 + 3) 63 d) * St L XF XI (C0 + 3) v d := by
  pointwise [M3, k0_pay52]
  rw [st3_apply hlb htri hf hl hi hs]
  exact congrArg (· * _) (DEC_apply hlb htri hf hl 3 d)

theorem st4_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay53 (KV3 lb tri xf xi) (M3 lb tri xf xi st) (ix2 v d) = St L XF XI (C0 + 4) v d := by
  pointwise [k0_pay53]
  rw [m3_apply hlb htri hf hl hi hs, kv3_apply hlb htri hf hl hi]; rfl

theorem st5_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay55 (DEC lb tri xf) (KV3 lb tri xf xi) (KV4 lb tri xf xi) (M3 lb tri xf xi st) (ix2 v d) = St L XF XI (C0 + 5) v d := by
  pointwise [k0_pay55]
  rw [st4_apply hlb htri hf hl hi hs]
  rw [kv4_apply hlb htri hf hl hi]
  exact congrArg (· * _ + _) (DEC_apply hlb htri hf hl 4 d)

theorem st6_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay57 (DEC lb tri xf) (KV3 lb tri xf xi) (KV4 lb tri xf xi) (KV5 lb tri xf xi) (M3 lb tri xf xi st) (ix2 v d) = St L XF XI (C0 + 6) v d := by
  pointwise [k0_pay57]
  rw [st5_apply hlb htri hf hl hi hs]
  rw [kv5_apply hlb htri hf hl hi]
  exact congrArg (· * _ + _) (DEC_apply hlb htri hf hl 5 d)

theorem st7_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay59 (DEC lb tri xf) (KV3 lb tri xf xi) (KV4 lb tri xf xi) (KV5 lb tri xf xi) (KV6 lb tri xf xi) (M3 lb tri xf xi st) (ix2 v d) = St L XF XI (C0 + 7) v d := by
  pointwise [k0_pay59]
  rw [st6_apply hlb htri hf hl hi hs]
  rw [kv6_apply hlb htri hf hl hi]
  exact congrArg (· * _ + _) (DEC_apply hlb htri hf hl 6 d)

theorem st8_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay61 (DEC lb tri xf) (KV3 lb tri xf xi) (KV4 lb tri xf xi) (KV5 lb tri xf xi) (KV6 lb tri xf xi) (KV7 lb tri xf xi) (M3 lb tri xf xi st) (ix2 v d) = St L XF XI (C0 + 8) v d := by
  pointwise [k0_pay61]
  rw [st7_apply hlb htri hf hl hi hs]
  rw [kv7_apply hlb htri hf hl hi]
  exact congrArg (· * _ + _) (DEC_apply hlb htri hf hl 7 d)

theorem st9_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay63 (DEC lb tri xf) (KV3 lb tri xf xi) (KV4 lb tri xf xi) (KV5 lb tri xf xi) (KV6 lb tri xf xi) (KV7 lb tri xf xi) (KV8 lb tri xf xi) (M3 lb tri xf xi st) (ix2 v d) = St L XF XI (C0 + 9) v d := by
  pointwise [k0_pay63]
  rw [st8_apply hlb htri hf hl hi hs]
  rw [kv8_apply hlb htri hf hl hi]
  exact congrArg (· * _ + _) (DEC_apply hlb htri hf hl 8 d)

theorem st10_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay65 (DEC lb tri xf) (KV3 lb tri xf xi) (KV4 lb tri xf xi) (KV5 lb tri xf xi) (KV6 lb tri xf xi) (KV7 lb tri xf xi) (KV8 lb tri xf xi) (KV9 lb tri xf xi) (M3 lb tri xf xi st) (ix2 v d) = St L XF XI (C0 + 10) v d := by
  pointwise [k0_pay65]
  rw [st9_apply hlb htri hf hl hi hs]
  rw [kv9_apply hlb htri hf hl hi]
  exact congrArg (· * _ + _) (DEC_apply hlb htri hf hl 9 d)

theorem st11_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay67 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (M3 lb tri xf xi st) (ix2 v d) = St L XF XI (C0 + 11) v d := by
  pointwise [k0_pay67]
  rw [st10_apply hlb htri hf hl hi hs]
  rw [kv10_apply hlb htri hf hl hi]
  exact congrArg (· * _ + _) (DEC_apply hlb htri hf hl 10 d)

theorem st12_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay69 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (M3 lb tri xf xi st) (ix2 v d) = St L XF XI (C0 + 12) v d := by
  pointwise [k0_pay69]
  rw [st11_apply hlb htri hf hl hi hs]
  rw [kv11_apply hlb htri hf hl hi]
  exact congrArg (· * _ + _) (DEC_apply hlb htri hf hl 11 d)

theorem st13_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay71 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (KV12 lb tri xf xi) (M3 lb tri xf xi st) (ix2 v d) = St L XF XI (C0 + 13) v d := by
  pointwise [k0_pay71]
  rw [st12_apply hlb htri hf hl hi hs]
  rw [kv12_apply hlb htri hf hl hi]
  exact congrArg (· * _ + _) (DEC_apply hlb htri hf hl 12 d)

theorem m13_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : M13 lb tri xf xi st (ix2 v d) = Ideal.exp (cum L XF (C0 + 13) 63 d) * St L XF XI (C0 + 13) v d := by
  pointwise [M13, k0_pay73]
  rw [st13_apply hlb htri hf hl hi hs]
  exact congrArg (· * _) (DEC_apply hlb htri hf hl 13 d)

theorem st14_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay74 (KV13 lb tri xf xi) (M13 lb tri xf xi st) (ix2 v d) = St L XF XI (C0 + 14) v d := by
  pointwise [k0_pay74]
  rw [m13_apply hlb htri hf hl hi hs, kv13_apply hlb htri hf hl hi]; rfl

theorem st15_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay75 (DEC lb tri xf) (KV13 lb tri xf xi) (KV14 lb tri xf xi) (M13 lb tri xf xi st) (ix2 v d) = St L XF XI (C0 + 15) v d := by
  pointwise [k0_pay75]
  rw [st14_apply hlb htri hf hl hi hs]
  rw [kv14_apply hlb htri hf hl hi]
  exact congrArg (· * _ + _) (DEC_apply hlb htri hf hl 14 d)

theorem st16_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d) (hs : ∀ v d, st (ix2 v d) = St L XF XI C0 v d)
    (v d : Fin 128) : k0_pay77 (DEC lb tri xf) (KV13 lb tri xf xi) (KV14 lb tri xf xi) (KV15 lb tri xf xi) (M13 lb tri xf xi st) (ix2 v d) = St L XF XI (C0 + 16) v d := by
  pointwise [k0_pay77]
  rw [st15_apply hlb htri hf hl hi hs]
  rw [kv15_apply hlb htri hf hl hi]
  exact congrArg (· * _ + _) (DEC_apply hlb htri hf hl 15 d)

theorem oc0_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC0 lb tri xf xq xi st (ix2 i v) = inter L XF XQ XI (C0) i v := by
  pointwise [OC0, k0_pay78, k0_pay45]
  exact inter_sum (C0 := C0) (QC lb tri xf xq) (fun v d => (st) (ix2 v d)) (QC_apply hlb htri hf hl hq) 0 hs i ⟨i.val, by omega⟩ (by simp) v

theorem oc1_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC1 lb tri xf xq xi st (ix2 i v) = inter L XF XQ XI (C0 + 1) i v := by
  pointwise [OC1, k0_pay79, k0_pay47]
  exact inter_sum (C0 := C0) (QC lb tri xf xq) (fun v d => (k0_pay46 st (DEC lb tri xf) (KV0 lb tri xf xi)) (ix2 v d)) (QC_apply hlb htri hf hl hq) 1 (st1_apply hlb htri hf hl hi hs) i ⟨64 + i.val, by omega⟩ rfl v

theorem oc2_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC2 lb tri xf xq xi st (ix2 i v) = inter L XF XQ XI (C0 + 2) i v := by
  pointwise [OC2, k0_pay80, k0_pay49]
  exact inter_sum (C0 := C0) (QC lb tri xf xq) (fun v d => (k0_pay48 st (DEC lb tri xf) (KV0 lb tri xf xi) (KV1 lb tri xf xi)) (ix2 v d)) (QC_apply hlb htri hf hl hq) 2 (st2_apply hlb htri hf hl hi hs) i ⟨128 + i.val, by omega⟩ rfl v

theorem oc3_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC3 lb tri xf xq xi st (ix2 i v) = inter L XF XQ XI (C0 + 3) i v := by
  pointwise [OC3, k0_pay81, k0_pay51]
  exact inter_sum (C0 := C0) (QC lb tri xf xq) (fun v d => (k0_pay50 st (DEC lb tri xf) (KV0 lb tri xf xi) (KV1 lb tri xf xi) (KV2 lb tri xf xi)) (ix2 v d)) (QC_apply hlb htri hf hl hq) 3 (st3_apply hlb htri hf hl hi hs) i ⟨192 + i.val, by omega⟩ rfl v

theorem oc4_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC4 lb tri xf xq xi st (ix2 i v) = inter L XF XQ XI (C0 + 4) i v := by
  pointwise [OC4, k0_pay82, k0_pay54]
  exact inter_sum (C0 := C0) (QC lb tri xf xq) (fun v d => (k0_pay53 (KV3 lb tri xf xi) (M3 lb tri xf xi st)) (ix2 v d)) (QC_apply hlb htri hf hl hq) 4 (st4_apply hlb htri hf hl hi hs) i ⟨256 + i.val, by omega⟩ rfl v

theorem oc5_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC5 lb tri xf xq xi st (ix2 i v) = inter L XF XQ XI (C0 + 5) i v := by
  pointwise [OC5, k0_pay83, k0_pay56]
  exact inter_sum (C0 := C0) (QC lb tri xf xq) (fun v d => (k0_pay55 (DEC lb tri xf) (KV3 lb tri xf xi) (KV4 lb tri xf xi) (M3 lb tri xf xi st)) (ix2 v d)) (QC_apply hlb htri hf hl hq) 5 (st5_apply hlb htri hf hl hi hs) i ⟨320 + i.val, by omega⟩ rfl v

theorem oc6_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC6 lb tri xf xq xi st (ix2 i v) = inter L XF XQ XI (C0 + 6) i v := by
  pointwise [OC6, k0_pay84, k0_pay58]
  exact inter_sum (C0 := C0) (QC lb tri xf xq) (fun v d => (k0_pay57 (DEC lb tri xf) (KV3 lb tri xf xi) (KV4 lb tri xf xi) (KV5 lb tri xf xi) (M3 lb tri xf xi st)) (ix2 v d)) (QC_apply hlb htri hf hl hq) 6 (st6_apply hlb htri hf hl hi hs) i ⟨384 + i.val, by omega⟩ rfl v

theorem oc7_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC7 lb tri xf xq xi st (ix2 i v) = inter L XF XQ XI (C0 + 7) i v := by
  pointwise [OC7, k0_pay85, k0_pay60]
  exact inter_sum (C0 := C0) (QC lb tri xf xq) (fun v d => (k0_pay59 (DEC lb tri xf) (KV3 lb tri xf xi) (KV4 lb tri xf xi) (KV5 lb tri xf xi) (KV6 lb tri xf xi) (M3 lb tri xf xi st)) (ix2 v d)) (QC_apply hlb htri hf hl hq) 7 (st7_apply hlb htri hf hl hi hs) i ⟨448 + i.val, by omega⟩ rfl v

theorem oc8_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC8 lb tri xf xq xi st (ix2 i v) = inter L XF XQ XI (C0 + 8) i v := by
  pointwise [OC8, k0_pay86, k0_pay62]
  exact inter_sum (C0 := C0) (QC lb tri xf xq) (fun v d => (k0_pay61 (DEC lb tri xf) (KV3 lb tri xf xi) (KV4 lb tri xf xi) (KV5 lb tri xf xi) (KV6 lb tri xf xi) (KV7 lb tri xf xi) (M3 lb tri xf xi st)) (ix2 v d)) (QC_apply hlb htri hf hl hq) 8 (st8_apply hlb htri hf hl hi hs) i ⟨512 + i.val, by omega⟩ rfl v

theorem oc9_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC9 lb tri xf xq xi st (ix2 i v) = inter L XF XQ XI (C0 + 9) i v := by
  pointwise [OC9, k0_pay87, k0_pay64]
  exact inter_sum (C0 := C0) (QC lb tri xf xq) (fun v d => (k0_pay63 (DEC lb tri xf) (KV3 lb tri xf xi) (KV4 lb tri xf xi) (KV5 lb tri xf xi) (KV6 lb tri xf xi) (KV7 lb tri xf xi) (KV8 lb tri xf xi) (M3 lb tri xf xi st)) (ix2 v d)) (QC_apply hlb htri hf hl hq) 9 (st9_apply hlb htri hf hl hi hs) i ⟨576 + i.val, by omega⟩ rfl v

theorem oc10_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC10 lb tri xf xq xi st (ix2 i v) = inter L XF XQ XI (C0 + 10) i v := by
  pointwise [OC10, k0_pay88, k0_pay66]
  exact inter_sum (C0 := C0) (QC lb tri xf xq) (fun v d => (k0_pay65 (DEC lb tri xf) (KV3 lb tri xf xi) (KV4 lb tri xf xi) (KV5 lb tri xf xi) (KV6 lb tri xf xi) (KV7 lb tri xf xi) (KV8 lb tri xf xi) (KV9 lb tri xf xi) (M3 lb tri xf xi st)) (ix2 v d)) (QC_apply hlb htri hf hl hq) 10 (st10_apply hlb htri hf hl hi hs) i ⟨640 + i.val, by omega⟩ rfl v

theorem oc11_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC11 lb tri xf xq xi st (ix2 i v) = inter L XF XQ XI (C0 + 11) i v := by
  pointwise [OC11, k0_pay89, k0_pay68]
  exact inter_sum (C0 := C0) (QC lb tri xf xq) (fun v d => (k0_pay67 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (M3 lb tri xf xi st)) (ix2 v d)) (QC_apply hlb htri hf hl hq) 11 (st11_apply hlb htri hf hl hi hs) i ⟨704 + i.val, by omega⟩ rfl v

theorem oc12_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC12 lb tri xf xq xi st (ix2 i v) = inter L XF XQ XI (C0 + 12) i v := by
  pointwise [OC12, k0_pay90, k0_pay70]
  exact inter_sum (C0 := C0) (QC lb tri xf xq) (fun v d => (k0_pay69 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (M3 lb tri xf xi st)) (ix2 v d)) (QC_apply hlb htri hf hl hq) 12 (st12_apply hlb htri hf hl hi hs) i ⟨768 + i.val, by omega⟩ rfl v

theorem oc13_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC13 lb tri xf xq xi st (ix2 i v) = inter L XF XQ XI (C0 + 13) i v := by
  pointwise [OC13, k0_pay91, k0_pay72]
  exact inter_sum (C0 := C0) (QC lb tri xf xq) (fun v d => (k0_pay71 (DEC lb tri xf) (KV3 lb tri xf xi) (KV4 lb tri xf xi) (KV5 lb tri xf xi) (KV6 lb tri xf xi) (KV7 lb tri xf xi) (KV8 lb tri xf xi) (KV9 lb tri xf xi) (KV10 lb tri xf xi) (KV11 lb tri xf xi) (KV12 lb tri xf xi) (M3 lb tri xf xi st)) (ix2 v d)) (QC_apply hlb htri hf hl hq) 13 (st13_apply hlb htri hf hl hi hs) i ⟨832 + i.val, by omega⟩ rfl v

theorem oc14_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : OC14 lb tri xf xq xi st (ix2 i v) = inter L XF XQ XI (C0 + 14) i v := by
  pointwise [OC14, k0_pay92]
  exact inter_sum (C0 := C0) (QC lb tri xf xq) (fun v d => (k0_pay74 (KV13 lb tri xf xi) (M13 lb tri xf xi st)) (ix2 v d)) (QC_apply hlb htri hf hl hq) 14 (st14_apply hlb htri hf hl hi hs) i ⟨896 + i.val, by omega⟩ rfl v

theorem oc15_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (i : Fin 64) (v : Fin 128) : matmul (F := Ideal) dot_S64x128_S128x128_S64x128_1_1_0_0_n_n none (k0_pay93 (QC lb tri xf xq)) (k0_pay76 (DEC lb tri xf) (KV13 lb tri xf xi) (KV14 lb tri xf xi) (M13 lb tri xf xi st)) (constant S64x128 .f32 0x00000000#32) (ix2 i v) = inter L XF XQ XI (C0 + 15) i v := by
  pointwise [k0_pay93, k0_pay76]
  exact inter_sum (C0 := C0) (QC lb tri xf xq) (fun v d => (k0_pay75 (DEC lb tri xf) (KV13 lb tri xf xi) (KV14 lb tri xf xi) (M13 lb tri xf xi st)) (ix2 v d)) (QC_apply hlb htri hf hl hq) 15 (st15_apply hlb htri hf hl hi hs) i ⟨960 + i.val, by omega⟩ rfl v

theorem OI_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (r : Fin 1024) (v : Fin 128) :
    OI lb tri xf xq xi st (ix2 r v) = inter L XF XQ XI (C0 + r.val / 64) ⟨r.val % 64, by omega⟩ v := by
  have key : ∀ (n : Fin 16) (i : Fin 64) (v : Fin 128),
      (![OC0 lb tri xf xq xi st, OC1 lb tri xf xq xi st, OC2 lb tri xf xq xi st, OC3 lb tri xf xq xi st, OC4 lb tri xf xq xi st, OC5 lb tri xf xq xi st, OC6 lb tri xf xq xi st, OC7 lb tri xf xq xi st, OC8 lb tri xf xq xi st, OC9 lb tri xf xq xi st, OC10 lb tri xf xq xi st, OC11 lb tri xf xq xi st, OC12 lb tri xf xq xi st, OC13 lb tri xf xq xi st, OC14 lb tri xf xq xi st, matmul (F := Ideal) dot_S64x128_S128x128_S64x128_1_1_0_0_n_n none (k0_pay93 (QC lb tri xf xq)) (k0_pay76 (DEC lb tri xf) (KV13 lb tri xf xi) (KV14 lb tri xf xi) (M13 lb tri xf xi st)) (constant S64x128 .f32 0x00000000#32)] : Fin 16 → FVec Ideal S64x128 .f32) n (ix2 i v)
        = inter L XF XQ XI (C0 + n.val) i v := by
    intro n i v
    match n with
    | 0 => exact oc0_apply hlb htri hf hl hi hq hs i v
    | 1 => exact oc1_apply hlb htri hf hl hi hq hs i v
    | 2 => exact oc2_apply hlb htri hf hl hi hq hs i v
    | 3 => exact oc3_apply hlb htri hf hl hi hq hs i v
    | 4 => exact oc4_apply hlb htri hf hl hi hq hs i v
    | 5 => exact oc5_apply hlb htri hf hl hi hq hs i v
    | 6 => exact oc6_apply hlb htri hf hl hi hq hs i v
    | 7 => exact oc7_apply hlb htri hf hl hi hq hs i v
    | 8 => exact oc8_apply hlb htri hf hl hi hq hs i v
    | 9 => exact oc9_apply hlb htri hf hl hi hq hs i v
    | 10 => exact oc10_apply hlb htri hf hl hi hq hs i v
    | 11 => exact oc11_apply hlb htri hf hl hi hq hs i v
    | 12 => exact oc12_apply hlb htri hf hl hi hq hs i v
    | 13 => exact oc13_apply hlb htri hf hl hi hq hs i v
    | 14 => exact oc14_apply hlb htri hf hl hi hq hs i v
    | 15 => exact oc15_apply hlb htri hf hl hi hq hs i v
    | ⟨n + 16, hn⟩ => exact absurd hn (by omega)
  unfold OI k0_pay94
  rw [cat16']
  exact key _ _ _

end
end Cert.KernelIdeal.Hand
-- ==== Proof.TripC.lean ====
module
public import proofs.«01_k».proof.Proof.TripB
public import proofs.«01_k».proof.Proof.Spec
public import Idealize.ShloMosaic.Lib.Pointwise
public import Idealize.ShloMosaic.Lib.Pipeline.Value
/-! One trip at the ideal values: the output from the pairs inside each chunk, the normalisation and the stored rows. -/
@[expose] public section
set_option maxRecDepth 16384
noncomputable section
namespace Cert.KernelIdeal.Hand
open Cert.KernelIdeal Cert.KernelIdeal.Gen Hgrn
open Idealize.ShloMosaic Idealize.ShloMosaic.TcCoe

/-- The mask's rounded-down quotient by 64. -/
theorem quot64 : ∀ n : Fin 128, (Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n.val) 64#32) 0#32))
          (IntOp.subi (IntOp.divsi ArithUnit.vector (BitVec.ofNat 32 n.val) 64#32) 1#32)
          (IntOp.divsi ArithUnit.vector (BitVec.ofNat 32 n.val) 64#32) : BitVec 32) = BitVec.ofNat 32 (n.val / 64) := by
  decide +kernel

theorem mask_bits : ∀ r x : Fin 128, IntOp.andi (IntOp.cmpi CmpIPredicate.sge (BitVec.ofNat 32 r.val) (BitVec.ofNat 32 x.val))
      (IntOp.cmpi CmpIPredicate.eq (BitVec.ofNat 32 (r.val / 64)) (BitVec.ofNat 32 (x.val / 64)))
      = if x.val ≤ r.val ∧ x.val / 64 = r.val / 64 then 1#1 else 0#1 := by
  decide +kernel

theorem maskVal (r x : Fin 128) :
    k0_pay112 (iota .tc S128x128 32 [1] iota_S128x128_d1_w32) k0_pay108 k0_pay109 k0_pay110 k0_pay111 (ix2 r x)
      = if x.val ≤ r.val ∧ x.val / 64 = r.val / 64 then 1#1 else 0#1 := by
  pointwise [k0_pay112, k0_pay108, k0_pay109, k0_pay110, k0_pay111]
  rw [quot64, quot64]
  exact mask_bits r x

section
variable {lb gain : FVec Ideal S1x128 .f32} {tri : FVec Ideal S128x128 .bf16} {mask : IVec S128x128 1}
  {xf xq xi xg : Vec Ideal S1x1024x128 .f32}
  {st : FVec Ideal S128x128 .f32} {L G : Fin 128 → EReal} {XF XQ XI XG : Sig} {C0 : Nat}

theorem intra_sum
    (hm : ∀ r x : Fin 128, mask (ix2 r x) = if x.val ≤ r.val ∧ x.val / 64 = r.val / 64 then 1#1 else 0#1) (V Q K : FVec Ideal S1024x128 .bf16)
    (hV : ∀ (r : Fin 1024) v, V (ix2 r v) = XI (64 * C0 + r.val) v)
    (hQ : ∀ (r : Fin 1024) d, Q (ix2 r d) = qe L XF XQ (C0 + r.val / 64) ⟨r.val % 64, by omega⟩ d)
    (hK : ∀ (r : Fin 1024) d, K (ix2 r d) = ke L XF (C0 + r.val / 64) ⟨r.val % 64, by omega⟩ d)
    (n : Nat) (R : Fin 128 → Fin 1024) (hR : ∀ x, (R x).val = 128 * n + x.val) (r w : Fin 128) :
    ∑ x : Fin 128, Scalar.select (mask (ix2 r x)) ((∑ d : Fin 128, Q (ix2 (R r) d) * K (ix2 (R x) d)) * V (ix2 (R x) w)) 0
      = intra L XF XQ XI (C0 + (2 * n + r.val / 64)) ⟨r.val % 64, by omega⟩ w := by
  rw [sum_mask _ r]
  · unfold intra
    refine Finset.sum_congr rfl fun j _ => ?_
    have e : (64 * (r.val / 64) + j.val ≤ r.val ∧ (64 * (r.val / 64) + j.val) / 64 = r.val / 64) ↔ j.val ≤ r.val % 64 := by
      omega
    have e' : (j ≤ (⟨r.val % 64, by omega⟩ : Fin 64)) ↔ j.val ≤ r.val % 64 := Iff.rfl
    rw [hm]
    simp only [e, e']
    by_cases hj : j.val ≤ r.val % 64
    · rw [if_pos hj, if_pos hj]
      have a1 : (R r).val / 64 = 2 * n + r.val / 64 := by rw [hR]; omega
      have a2 : (⟨(R r).val % 64, by omega⟩ : Fin 64) = ⟨r.val % 64, by omega⟩ := by
        apply Fin.ext; show (R r).val % 64 = r.val % 64; rw [hR]; omega
      generalize hy : R ⟨64 * (r.val / 64) + j.val, by omega⟩ = y
      have hy' : y.val = 128 * n + (64 * (r.val / 64) + j.val) := by rw [← hy, hR]
      have b1 : y.val / 64 = 2 * n + r.val / 64 := by omega
      have b2 : (⟨y.val % 64, by omega⟩ : Fin 64) = j := by apply Fin.ext; show y.val % 64 = j.val; omega
      have b3 : 64 * C0 + y.val = 64 * (C0 + (2 * n + r.val / 64)) + j.val := by omega
      show (∑ d : Fin 128, Q (ix2 (R r) d) * K (ix2 y d)) * V (ix2 y w) = _
      simp only [hQ, hK, hV, a1, a2, b1, b2, b3]
    · rw [if_neg hj, if_neg hj, zero_mul]; rfl
  · intro x hx
    rw [hm, if_neg hx]; rfl

theorem ib0_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : k0_pay95 mask (k0_pay6 xi) (QE lb tri xf xq) (KE lb tri xf) (ix2 r w)
      = intra L XF XQ XI (C0 + r.val / 64) ⟨r.val % 64, by omega⟩ w := by
  pointwise [k0_pay95]
  simpa using intra_sum (C0 := C0) hm (k0_pay6 xi) (QE lb tri xf xq) (KE lb tri xf) (pay6_apply hi) (QE_apply hlb htri hf hl hq) (KE_apply hlb htri hf hl)
    0 (fun x => ⟨x.val, by omega⟩) (fun x => by simp) r w

theorem ib1_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : k0_pay96 mask (k0_pay6 xi) (QE lb tri xf xq) (KE lb tri xf) (ix2 r w)
      = intra L XF XQ XI (C0 + (2 * 1 + r.val / 64)) ⟨r.val % 64, by omega⟩ w := by
  pointwise [k0_pay96]
  exact intra_sum (C0 := C0) hm (k0_pay6 xi) (QE lb tri xf xq) (KE lb tri xf) (pay6_apply hi) (QE_apply hlb htri hf hl hq) (KE_apply hlb htri hf hl)
    1 (fun x => ⟨128 + x.val, by omega⟩) (fun x => rfl) r w

theorem ib2_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : k0_pay97 mask (k0_pay6 xi) (QE lb tri xf xq) (KE lb tri xf) (ix2 r w)
      = intra L XF XQ XI (C0 + (2 * 2 + r.val / 64)) ⟨r.val % 64, by omega⟩ w := by
  pointwise [k0_pay97]
  exact intra_sum (C0 := C0) hm (k0_pay6 xi) (QE lb tri xf xq) (KE lb tri xf) (pay6_apply hi) (QE_apply hlb htri hf hl hq) (KE_apply hlb htri hf hl)
    2 (fun x => ⟨256 + x.val, by omega⟩) (fun x => rfl) r w

theorem ib3_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : k0_pay98 mask (k0_pay6 xi) (QE lb tri xf xq) (KE lb tri xf) (ix2 r w)
      = intra L XF XQ XI (C0 + (2 * 3 + r.val / 64)) ⟨r.val % 64, by omega⟩ w := by
  pointwise [k0_pay98]
  exact intra_sum (C0 := C0) hm (k0_pay6 xi) (QE lb tri xf xq) (KE lb tri xf) (pay6_apply hi) (QE_apply hlb htri hf hl hq) (KE_apply hlb htri hf hl)
    3 (fun x => ⟨384 + x.val, by omega⟩) (fun x => rfl) r w

theorem ib4_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : k0_pay99 mask (k0_pay6 xi) (QE lb tri xf xq) (KE lb tri xf) (ix2 r w)
      = intra L XF XQ XI (C0 + (2 * 4 + r.val / 64)) ⟨r.val % 64, by omega⟩ w := by
  pointwise [k0_pay99]
  exact intra_sum (C0 := C0) hm (k0_pay6 xi) (QE lb tri xf xq) (KE lb tri xf) (pay6_apply hi) (QE_apply hlb htri hf hl hq) (KE_apply hlb htri hf hl)
    4 (fun x => ⟨512 + x.val, by omega⟩) (fun x => rfl) r w

/-- Rows `640 …` of the output from the pairs inside a chunk. -/
def IB5 (mask : IVec S128x128 1) (v q k : FVec Ideal S1024x128 .bf16) : FVec Ideal S128x128 .f32 :=
  matmul dot_S128x128_S128x128_S128x128_1_0_0_1_n_n none
    (truncf .bf16 (select mask (matmul dot_S128x128_S128x128_S128x128_1_1_0_0_n_n none (k0_pay100 q)
        (k0_pay101 k) (constant S128x128 .f32 0x00000000#32))
      (broadcast S128x128 (Scalar.ofBits .f32 0x00000000#32))) bitsLt_bf16_f32)
    (extractStridedSlice S128x128 ![640, 0] v slices_S1024x128_o640_0_S128x128) (constant S128x128 .f32 0x00000000#32)

theorem ib5_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : IB5 mask (k0_pay6 xi) (QE lb tri xf xq) (KE lb tri xf) (ix2 r w)
      = intra L XF XQ XI (C0 + (2 * 5 + r.val / 64)) ⟨r.val % 64, by omega⟩ w := by
  pointwise [IB5, k0_pay100, k0_pay101]
  exact intra_sum (C0 := C0) hm (k0_pay6 xi) (QE lb tri xf xq) (KE lb tri xf) (pay6_apply hi) (QE_apply hlb htri hf hl hq) (KE_apply hlb htri hf hl)
    5 (fun x => ⟨640 + x.val, by omega⟩) (fun x => rfl) r w

/-- Rows `768 …` of the output from the pairs inside a chunk. -/
def IB6 (mask : IVec S128x128 1) (v q k : FVec Ideal S1024x128 .bf16) : FVec Ideal S128x128 .f32 :=
  matmul dot_S128x128_S128x128_S128x128_1_0_0_1_n_n none
    (truncf .bf16 (select mask (matmul dot_S128x128_S128x128_S128x128_1_1_0_0_n_n none (extractStridedSlice S128x128 ![768, 0] q slices_S1024x128_o768_0_S128x128)
        (extractStridedSlice S128x128 ![768, 0] k slices_S1024x128_o768_0_S128x128) (constant S128x128 .f32 0x00000000#32))
      (broadcast S128x128 (Scalar.ofBits .f32 0x00000000#32))) bitsLt_bf16_f32)
    (extractStridedSlice S128x128 ![768, 0] v slices_S1024x128_o768_0_S128x128) (constant S128x128 .f32 0x00000000#32)

theorem ib6_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : IB6 mask (k0_pay6 xi) (QE lb tri xf xq) (KE lb tri xf) (ix2 r w)
      = intra L XF XQ XI (C0 + (2 * 6 + r.val / 64)) ⟨r.val % 64, by omega⟩ w := by
  pointwise [IB6]
  exact intra_sum (C0 := C0) hm (k0_pay6 xi) (QE lb tri xf xq) (KE lb tri xf) (pay6_apply hi) (QE_apply hlb htri hf hl hq) (KE_apply hlb htri hf hl)
    6 (fun x => ⟨768 + x.val, by omega⟩) (fun x => rfl) r w

/-- Rows `896 …` of the output from the pairs inside a chunk. -/
def IB7 (mask : IVec S128x128 1) (v q k : FVec Ideal S1024x128 .bf16) : FVec Ideal S128x128 .f32 :=
  matmul dot_S128x128_S128x128_S128x128_1_0_0_1_n_n none
    (truncf .bf16 (select mask (matmul dot_S128x128_S128x128_S128x128_1_1_0_0_n_n none (extractStridedSlice S128x128 ![896, 0] q slices_S1024x128_o896_0_S128x128)
        (extractStridedSlice S128x128 ![896, 0] k slices_S1024x128_o896_0_S128x128) (constant S128x128 .f32 0x00000000#32))
      (broadcast S128x128 (Scalar.ofBits .f32 0x00000000#32))) bitsLt_bf16_f32)
    (extractStridedSlice S128x128 ![896, 0] v slices_S1024x128_o896_0_S128x128) (constant S128x128 .f32 0x00000000#32)

theorem ib7_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d)
    (r w : Fin 128) : IB7 mask (k0_pay6 xi) (QE lb tri xf xq) (KE lb tri xf) (ix2 r w)
      = intra L XF XQ XI (C0 + (2 * 7 + r.val / 64)) ⟨r.val % 64, by omega⟩ w := by
  pointwise [IB7]
  exact intra_sum (C0 := C0) hm (k0_pay6 xi) (QE lb tri xf xq) (KE lb tri xf) (pay6_apply hi) (QE_apply hlb htri hf hl hq) (KE_apply hlb htri hf hl)
    7 (fun x => ⟨896 + x.val, by omega⟩) (fun x => rfl) r w

/-- The output before the normalisation. -/
def OX (lb : FVec Ideal S1x128 .f32) (tri : FVec Ideal S128x128 .bf16) (mask : IVec S128x128 1)
    (xq xf xi : Vec Ideal S1x1024x128 .f32) (st : FVec Ideal S128x128 .f32) : FVec Ideal S1024x128 .f32 :=
  addf (concatenate S1024x128 0 [⟨S128x128, k0_pay95 mask (k0_pay6 xi) (QE lb tri xf xq) (KE lb tri xf)⟩, ⟨S128x128, k0_pay96 mask (k0_pay6 xi) (QE lb tri xf xq) (KE lb tri xf)⟩, ⟨S128x128, k0_pay97 mask (k0_pay6 xi) (QE lb tri xf xq) (KE lb tri xf)⟩, ⟨S128x128, k0_pay98 mask (k0_pay6 xi) (QE lb tri xf xq) (KE lb tri xf)⟩, ⟨S128x128, k0_pay99 mask (k0_pay6 xi) (QE lb tri xf xq) (KE lb tri xf)⟩, ⟨S128x128, IB5 mask (k0_pay6 xi) (QE lb tri xf xq) (KE lb tri xf)⟩, ⟨S128x128, IB6 mask (k0_pay6 xi) (QE lb tri xf xq) (KE lb tri xf)⟩, ⟨S128x128, IB7 mask (k0_pay6 xi) (QE lb tri xf xq) (KE lb tri xf)⟩]
    concatenates_S128x128_S128x128_S128x128_S128x128_S128x128_S128x128_S128x128_S128x128_S1024x128_d0)
    (OI lb tri xf xq xi st)

/-- The normalisation over a row's lanes. -/
def NX (gain : FVec Ideal S1x128 .f32) (X : FVec Ideal S1024x128 .f32) : FVec Ideal S1024x128 .f32 :=
  mulf (mulf X (broadcastTo S1024x128 (rsqrt (addf (divf (shapeCast S1024x1 (multiReduction .add [1] S1024 (mulf X X)
    0x00000000#32 reduces_S1024x128_S1024 (.inl rfl) rfl) shapeCasts_S1024_S1024x1)
    (broadcast S1024x1 (Scalar.ofBits .f32 0x43000000#32))) (broadcast S1024x1 (Scalar.ofBits .f32 0x358637BD#32))))
    broadcasts_S1024x1_S1024x128)) (broadcastTo S1024x128 gain broadcasts_S1x128_S1024x128)

theorem ON_eq : ON lb gain tri mask xq xf xi st = NX gain (OX lb tri mask xq xf xi st) := rfl

theorem OX_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (r : Fin 1024) (w : Fin 128) : OX lb tri mask xq xf xi st (ix2 r w)
      = oo L XF XQ XI (C0 + r.val / 64) ⟨r.val % 64, by omega⟩ w := by
  have key : ∀ (n : Fin 8) (r w : Fin 128),
      (![k0_pay95 mask (k0_pay6 xi) (QE lb tri xf xq) (KE lb tri xf), k0_pay96 mask (k0_pay6 xi) (QE lb tri xf xq) (KE lb tri xf), k0_pay97 mask (k0_pay6 xi) (QE lb tri xf xq) (KE lb tri xf), k0_pay98 mask (k0_pay6 xi) (QE lb tri xf xq) (KE lb tri xf), k0_pay99 mask (k0_pay6 xi) (QE lb tri xf xq) (KE lb tri xf), IB5 mask (k0_pay6 xi) (QE lb tri xf xq) (KE lb tri xf), IB6 mask (k0_pay6 xi) (QE lb tri xf xq) (KE lb tri xf), IB7 mask (k0_pay6 xi) (QE lb tri xf xq) (KE lb tri xf)] : Fin 8 → FVec Ideal S128x128 .f32) n (ix2 r w)
        = intra L XF XQ XI (C0 + (2 * n.val + r.val / 64)) ⟨r.val % 64, by omega⟩ w := by
    intro n r w
    match n with
    | 0 => exact (ib0_apply hlb htri hf hl hm hi hq r w).trans (by simp)
    | 1 => exact ib1_apply hlb htri hf hl hm hi hq r w
    | 2 => exact ib2_apply hlb htri hf hl hm hi hq r w
    | 3 => exact ib3_apply hlb htri hf hl hm hi hq r w
    | 4 => exact ib4_apply hlb htri hf hl hm hi hq r w
    | 5 => exact ib5_apply hlb htri hf hl hm hi hq r w
    | 6 => exact ib6_apply hlb htri hf hl hm hi hq r w
    | 7 => exact ib7_apply hlb htri hf hl hm hi hq r w
  unfold OX
  show HAdd.hAdd (α := EReal) (concatenate _ _ _ _ _) (OI _ _ _ _ _ _ _) = _
  rw [cat8', OI_apply hlb htri hf hl hi hq hs]
  unfold oo
  refine congrArg (· + _) ((key _ _ _).trans ?_)
  congr 1
  · show C0 + (2 * (r.val / 128) + r.val % 128 / 64) = _; omega
  · apply Fin.ext; show r.val % 128 % 64 = r.val % 64; omega

theorem A_apply (hlb : ∀ d, lb (ix2 0 d) = L d) (htri : ∀ r x : Fin 128, tri (ix2 r x) = if x.val ≤ r.val ∧ x.val / 64 = r.val / 64 then 1 else 0)
    (hf : ∀ (r : Fin 1024) d, xf (ix3 0 r d) = XF (64 * C0 + r.val) d) (hl : ∀ t d, lf L XF t d ≠ ⊤)
    (hm : ∀ r x : Fin 128, mask (ix2 r x) = if x.val ≤ r.val ∧ x.val / 64 = r.val / 64 then 1#1 else 0#1)
    (hi : ∀ (r : Fin 1024) d, xi (ix3 0 r d) = XI (64 * C0 + r.val) d)
    (hq : ∀ (r : Fin 1024) d, xq (ix3 0 r d) = XQ (64 * C0 + r.val) d) (hs : ∀ v d, st (ix2 v d) = St L XF XI C0 v d)
    (hg : ∀ (r : Fin 1024) d, xg (ix3 0 r d) = XG (64 * C0 + r.val) d) (hG : ∀ d, gain (ix2 0 d) = G d)
    (r : Fin 1024) (w : Fin 128) : A lb gain tri mask xq xf xi xg st (ix3 0 r w)
      = out L G XF XQ XI XG (C0 + r.val / 64) ⟨r.val % 64, by omega⟩ w := by
  unfold A
  rw [ON_eq]
  have e : 64 * (C0 + r.val / 64) + r.val % 64 = 64 * C0 + r.val := by omega
  pointwise [k0_pay114, k0_pay102, k0_pay104, NX]
  simp only [OX_apply hlb htri hf hl hm hi hq hs, hg, hG, zero_sub]
  unfold out nrm
  simp only [e]
  rfl

end
end Cert.KernelIdeal.Hand
-- ==== Proof.Block.lean ====
/-
  One grid point's stored blocks at an index, as functions of the blocks it reads: the recurrence's rows (two
  trips), the gated convolution, and the cast weights.
-/
module
public import proofs.«01_k».proof.Proof.Out
public import proofs.«01_k».proof.Proof.TripC
public import proofs.«01_k».proof.Proof.Head
public import Idealize.ShloMosaic.Lib.Pointwise
public import Idealize.ShloMosaic.Lib.Pipeline.ValueKit.Tiles
@[expose] public section
set_option maxRecDepth 16384
noncomputable section
namespace Cert.KernelIdeal.Hand
open Cert.KernelIdeal Cert.KernelIdeal.Gen Hgrn
open Idealize.ShloMosaic Idealize.ShloMosaic.TcCoe

theorem lb_apply (x8 : Vec Ideal S3x128 .f32) (T : Fin 3 → Nat → EReal) (h : Nat)
    (hT : ∀ x d, x8 (ix2 x d) = T x (128 * h + d.val)) (d : Fin 128) : k0_pay105 x8 (ix2 0 d) = lbf T h d := by
  pointwise [k0_pay105]
  simp only [hT]
  unfold lbf ev mx
  rw [Fin.sum_univ_one]

theorem off_val (k : Fin k0_t1_loop.trips) (a : Fin 3) : k0_off1 k a = (![0, 1024 * k.val, 0] : Fin 3 → Nat) a := by
  have h : ∀ (k : Fin k0_t1_loop.trips) (a : Fin 3), k0_off1 k a = (![0, 1024 * k.val, 0] : Fin 3 → Nat) a := by decide
  exact h k a

theorem half_apply (k : Fin k0_t1_loop.trips) (x : Vec Ideal S1x2048x128 .f32) (r : Fin 1024) (d : Fin 128)
    (hk : 1024 * k.val + r.val < 2048) : half k x (ix3 0 r d) = x (ix3 0 ⟨1024 * k.val + r.val, hk⟩ d) := by
  unfold half
  refine View.ld_unit_apply_of _ _ _ _ _ _ fun a => ?_
  rw [off_val]
  match a with
  | ⟨0, _⟩ => rfl
  | ⟨1, _⟩ => rfl
  | ⟨2, _⟩ => show d.val = 0 + d.val; omega

theorem rows_emb (k : Fin k0_t1_loop.trips) (r : Fin 1024) (d : Fin 128) (hk : 1024 * k.val + r.val < 2048) :
    (rows k).emb (ix3 0 r d) = ix3 0 ⟨1024 * k.val + r.val, hk⟩ d := by
  funext a
  apply Fin.ext
  refine (Rect.idx_unit_val _ _ _ _ a).trans ?_
  rw [off_val]
  match a with
  | ⟨0, _⟩ => rfl
  | ⟨1, _⟩ => rfl
  | ⟨2, _⟩ => show 0 + d.val = d.val; omega

theorem not_mem_rows (t : Fin 2048) (d : Fin 128) (ht : t.val < 1024) : (ix3 0 t d : S1x2048x128.Idx) ∉ (rows t1).set := by
  rw [Rect.mem_set_unit]
  intro h
  have h1 := (h 1).1
  rw [off_val] at h1
  have : 1024 * 1 ≤ t.val := h1
  omega

/-- The second half's rows written over the first's, read at a row of either half. -/
theorem two_lo (w1 w0 : S1x1024x128.Idx → Elt Ideal .bf16) (t : Fin 2048) (d : Fin 128) (ht : t.val < 1024) :
    View.canon (Val := Elt Ideal) (s := S1x2048x128) (e := .bf16) [⟨rows t1, w1⟩, ⟨rows t0, w0⟩] (ix3 0 t d) = w0 (ix3 0 ⟨t.val, ht⟩ d) := by
  rw [View.canon_cons_of_not_mem (Val := Elt Ideal) (s := S1x2048x128) (e := .bf16) ⟨rows t1, w1⟩ [⟨rows t0, w0⟩] (show _ from not_mem_rows t d ht)]
  have e : (ix3 0 t d : S1x2048x128.Idx) = (rows t0).emb (ix3 0 ⟨t.val, ht⟩ d) := by
    rw [rows_emb t0 ⟨t.val, ht⟩ d (by show 1024 * 0 + t.val < 2048; omega)]
    congr 1
    apply Fin.ext
    show t.val = 1024 * 0 + t.val
    omega
  rw [e, View.canon_cons_emb]

theorem two_hi (w1 w0 : S1x1024x128.Idx → Elt Ideal .bf16) (t : Fin 2048) (d : Fin 128) (ht : ¬t.val < 1024) :
    View.canon (Val := Elt Ideal) (s := S1x2048x128) (e := .bf16) [⟨rows t1, w1⟩, ⟨rows t0, w0⟩] (ix3 0 t d)
      = w1 (ix3 0 ⟨t.val - 1024, by omega⟩ d) := by
  have e : (ix3 0 t d : S1x2048x128.Idx) = (rows t1).emb (ix3 0 ⟨t.val - 1024, by omega⟩ d) := by
    rw [rows_emb t1 ⟨t.val - 1024, by omega⟩ d (by show 1024 * 1 + (t.val - 1024) < 2048; omega)]
    congr 1
    apply Fin.ext
    show t.val = 1024 * 1 + (t.val - 1024)
    omega
  rw [e, View.canon_cons_emb]

theorem aBlk_apply (x0 : Vec Ideal S128x128 .bf16) (x1 x2 x3 x4 : Vec Ideal S1x2048x128 .f32) (x8 : Vec Ideal S3x128 .f32)
    (x9 : Vec Ideal S1x128 .f32) (U : Nat → Nat → EReal) (T : Fin 3 → Nat → EReal) (Gn : Nat → EReal) (b h : Nat)
    (h0 : ∀ r x : Fin 128, x0 (ix2 r x) = if x.val ≤ r.val ∧ x.val / 64 = r.val / 64 then 1 else 0)
    (h1 : ∀ t d, x1 (ix3 0 t d) = chan U b 0 h t.val d) (h2 : ∀ t d, x2 (ix3 0 t d) = chan U b 1024 h t.val d)
    (h3 : ∀ t d, x3 (ix3 0 t d) = chan U b 2048 h t.val d) (h4 : ∀ t d, x4 (ix3 0 t d) = chan U b 3072 h t.val d)
    (h8 : ∀ x d, x8 (ix2 x d) = T x (128 * h + d.val)) (h9 : ∀ d, x9 (ix2 0 d) = Gn (128 * h + d.val))
    (t : Fin 2048) (d : Fin 128) : aBlk x0 x1 x2 x3 x4 x8 x9 (ix3 0 t d)
      = out (lbf T h) (fun d => Gn (128 * h + d.val)) (chan U b 1024 h) (chan U b 0 h) (chan U b 2048 h) (chan U b 3072 h)
          (t.val / 64) ⟨t.val % 64, by omega⟩ d := by
  have hlb := lb_apply x8 T h h8
  have hG : ∀ d, k0_pay106 x9 (ix2 0 d) = Gn (128 * h + d.val) := by
    intro d
    pointwise [k0_pay106]
    exact h9 d
  have htri : ∀ r x : Fin 128, k0_pay107 x0 (ix2 r x) = if x.val ≤ r.val ∧ x.val / 64 = r.val / 64 then 1 else 0 := by
    intro r x
    pointwise [k0_pay107]
    exact h0 r x
  have hl : ∀ t d, lf (lbf T h) (chan U b 1024 h) t d ≠ ⊤ := fun t d => lf_ne_top _ _ _ _ (lbf_ne_top T h d)
  have hz : ∀ v d, (k0_pay113 : FVec Ideal S128x128 .f32) (ix2 v d) = St (lbf T h) (chan U b 1024 h) (chan U b 2048 h) 0 v d := by
    intro v d
    pointwise [k0_pay113]
    rfl
  have lo : ∀ (x : Vec Ideal S1x2048x128 .f32) (X : Sig), (∀ t d, x (ix3 0 t d) = X t.val d) →
      ∀ (r : Fin 1024) d, half t0 x (ix3 0 r d) = X (64 * 0 + r.val) d := by
    intro x X hx r d
    rw [half_apply t0 x r d (by show 1024 * 0 + r.val < 2048; omega), hx]
    rfl
  have hi : ∀ (x : Vec Ideal S1x2048x128 .f32) (X : Sig), (∀ t d, x (ix3 0 t d) = X t.val d) →
      ∀ (r : Fin 1024) d, half t1 x (ix3 0 r d) = X (64 * 16 + r.val) d := by
    intro x X hx r d
    rw [half_apply t1 x r d (by show 1024 * 1 + r.val < 2048; omega), hx]
    rfl
  have hmid : ∀ v d, Smid x0 x2 x3 x8 (ix2 v d) = St (lbf T h) (chan U b 1024 h) (chan U b 2048 h) 16 v d := by
    intro v d
    unfold Smid ST16
    exact st16_apply (C0 := 0) hlb htri (lo x2 _ h2) hl (lo x3 _ h3) hz v d
  unfold aBlk
  by_cases ht : t.val < 1024
  · refine (two_lo _ _ t d ht).trans ?_
    refine (A_apply (C0 := 0) hlb htri (lo x2 _ h2) hl maskVal (lo x3 _ h3) (lo x1 _ h1) hz (lo x4 _ h4) hG ⟨t.val, ht⟩ d).trans ?_
    congr 1
    show 0 + t.val / 64 = t.val / 64
    omega
  · refine (two_hi _ _ t d ht).trans ?_
    refine (A_apply (C0 := 16) hlb htri (hi x2 _ h2) hl maskVal (hi x3 _ h3) (hi x1 _ h1) hmid (hi x4 _ h4) hG ⟨t.val - 1024, by omega⟩ d).trans ?_
    congr 1
    · show 16 + (t.val - 1024) / 64 = t.val / 64
      omega
    · apply Fin.ext
      show (t.val - 1024) % 64 = t.val % 64
      omega

theorem conv_bits : ∀ r : Fin 2048, (IntOp.cmpi CmpIPredicate.sge (BitVec.ofNat 32 r.val) 1#32 = if 1 ≤ r.val then 1#1 else 0#1)
    ∧ (IntOp.cmpi CmpIPredicate.sge (BitVec.ofNat 32 r.val) 2#32 = if 2 ≤ r.val then 1#1 else 0#1) := by
  decide +kernel

theorem conv_apply (x5 x6 x7 : Vec Ideal S1x2048x128 .f32) (x10 : Vec Ideal S3x128 .f32) (U : Nat → Nat → EReal)
    (CW : Fin 3 → Nat → EReal) (b h : Nat)
    (h5 : ∀ t d, x5 (ix3 0 t d) = U (2048 * b + t.val) (4096 + (128 * h + d.val)))
    (h6 : ∀ t d, x6 (ix3 0 t d) = U (2048 * b + t.val) (5120 + (128 * h + d.val)))
    (h7 : ∀ t d, x7 (ix3 0 t d) = U (2048 * b + t.val) (6144 + (128 * h + d.val)))
    (hC : ∀ x d, x10 (ix2 x d) = CW x (128 * h + d.val)) (r : Fin 2048) (d : Fin 128) :
    k0_pay118 (k0_pay115 x6 x7) (iota .tc S2048x128 32 [0] iota_S2048x128_d0_w32) (k0_pay116 x10) (k0_pay117 x10) x5 (ix3 0 r d)
      = bVal U CW b r.val (128 * h + d.val) := by
  pointwise [k0_pay118, k0_pay115, k0_pay116, k0_pay117]
  rw [(conv_bits r).1, (conv_bits r).2]
  simp only [h5, h6, h7, hC]
  unfold bVal
  have e1 : 1 ≤ r.val → (r.val + 2048 - 1) % 2048 = r.val - 1 := by omega
  have e2 : 2 ≤ r.val → (r.val + 2048 - 2) % 2048 = r.val - 2 := by omega
  have s1 : ∀ (p : Prop) [Decidable p] (x y : EReal), Scalar.select (if p then 1#1 else 0#1) x y = if p then x else y := by
    intro p _ x y
    by_cases hp : p <;> simp [hp, Scalar.select]
  rw [s1, s1]
  have a1 : (if 1 ≤ r.val then U (2048 * b + (r.val + 2048 - 1) % 2048) (5120 + (128 * h + d.val))
      * U (2048 * b + (r.val + 2048 - 1) % 2048) (6144 + (128 * h + d.val)) * CW 1 (128 * h + d.val) else 0)
      = if 1 ≤ r.val then U (2048 * b + (r.val - 1)) (5120 + (128 * h + d.val))
      * U (2048 * b + (r.val - 1)) (6144 + (128 * h + d.val)) * CW 1 (128 * h + d.val) else 0 := by
    split
    · rename_i hr; rw [e1 hr]
    · rfl
  have a2 : (if 2 ≤ r.val then U (2048 * b + (r.val + 2048 - 2) % 2048) (5120 + (128 * h + d.val))
      * U (2048 * b + (r.val + 2048 - 2) % 2048) (6144 + (128 * h + d.val)) * CW 0 (128 * h + d.val) else 0)
      = if 2 ≤ r.val then U (2048 * b + (r.val - 2)) (5120 + (128 * h + d.val))
      * U (2048 * b + (r.val - 2)) (6144 + (128 * h + d.val)) * CW 0 (128 * h + d.val) else 0 := by
    split
    · rename_i hr; rw [e2 hr]
    · rfl
  exact congrArg _ (congrArg₂ _ (congrArg _ a1) a2)

end Cert.KernelIdeal.Hand
-- ==== Proof.Arrays.lean ====
/-
  The six result arrays after the run, at an index, from the arguments.
-/
module
public import proofs.«01_k».proof.Proof.Iblk
public import proofs.«01_k».proof.Proof.Block
public import Idealize.ShloMosaic.Lib.Pointwise
public import Idealize.ShloMosaic.Lib.Pipeline.Value
@[expose] public section
set_option maxRecDepth 16384
noncomputable section
namespace Cert.KernelIdeal.Hand
open Cert.KernelIdeal Cert.KernelIdeal.Gen Cert.KernelIdeal.Value Hgrn
open Idealize.ShloMosaic Idealize.ShloMosaic.TcCoe

theorem idx15 : ∀ t : Fin cfg0.N, win0_15.index t 0 = t.val / 8 ∧ win0_15.index t 1 = 0 ∧ win0_15.index t 2 = t.val % 8 :=
  (by decide +kernel : ∀ t : Fin grid0.N, win0_15.index t 0 = t.val / 8 ∧ win0_15.index t 1 = 0 ∧ win0_15.index t 2 = t.val % 8)
theorem idx16 : ∀ t : Fin cfg0.N, win0_16.index t 0 = t.val / 8 ∧ win0_16.index t 1 = 0 ∧ win0_16.index t 2 = t.val % 8 :=
  (by decide +kernel : ∀ t : Fin grid0.N, win0_16.index t 0 = t.val / 8 ∧ win0_16.index t 1 = 0 ∧ win0_16.index t 2 = t.val % 8)
theorem idx17 : ∀ t : Fin cfg0.N, win0_17.index t 0 = t.val ∧ win0_17.index t 1 = 0 :=
  (by decide +kernel : ∀ t : Fin grid0.N, win0_17.index t 0 = t.val ∧ win0_17.index t 1 = 0)
theorem idx18 : ∀ t : Fin cfg0.N, win0_18.index t 0 = t.val ∧ win0_18.index t 1 = 0 :=
  (by decide +kernel : ∀ t : Fin grid0.N, win0_18.index t 0 = t.val ∧ win0_18.index t 1 = 0)
theorem idx19 : ∀ t : Fin cfg0.N, win0_19.index t 0 = t.val ∧ win0_19.index t 1 = 0 :=
  (by decide +kernel : ∀ t : Fin grid0.N, win0_19.index t 0 = t.val ∧ win0_19.index t 1 = 0)
theorem idx20 : ∀ t : Fin cfg0.N, win0_20.index t 0 = min t.val 43 ∧ win0_20.index t 1 = 0 :=
  (by decide +kernel : ∀ t : Fin grid0.N, win0_20.index t 0 = min t.val 43 ∧ win0_20.index t 1 = 0)
theorem flush20 : ∀ t : Fin cfg0.N, (t.val < 43 ∨ t.val = 63) → (cfg0.win 20).flush t = true :=
  (by decide +kernel : ∀ t : Fin grid0.N, (t.val < 43 ∨ t.val = 63) → win0_20.flush t = true)

variable (m : (ℓ : Loc nD τ sig) → Buf (Elt Ideal) ℓ) (c : Dev nD)

def resA : S8x2048x1024.Idx → EReal := fun i =>
  aVal (flatU (m (c.tc.loc main_arg0))) (flatT (m (c.tc.loc main_arg1))) (flatG (m (c.tc.loc main_arg2))) (i 0).val (i 1).val (i 2).val
def resB : S8x2048x1024.Idx → EReal := fun i =>
  bVal (flatU (m (c.tc.loc main_arg0))) (flatC (m (c.tc.loc main_arg3))) (i 0).val (i 1).val (i 2).val
def resO : S2048x2048.Idx → EReal := fun i => (m (c.tc.loc main_arg4) : Vec Ideal S1x2048x2048 .f32) (ix3 0 (i 0) (i 1))
def resG : S2048x5632.Idx → EReal := fun i => (m (c.tc.loc main_arg5) : Vec Ideal S1x2048x5632 .f32) (ix3 0 (i 0) (i 1))
def resU : S2048x5632.Idx → EReal := fun i => (m (c.tc.loc main_arg6) : Vec Ideal S1x2048x5632 .f32) (ix3 0 (i 0) (i 1))
def resD : S5632x2048.Idx → EReal := fun i => (m (c.tc.loc main_arg7) : Vec Ideal S1x5632x2048 .f32) (ix3 0 (i 0) (i 1))

theorem blkA (t : Fin cfg0.N) (y : S1x2048x128.Idx) (i : S8x2048x1024.Idx) (h0 : (i 0).val = t.val / 8)
    (h1 : (i 1).val = (y 1).val) (h2 : (i 2).val = 128 * (t.val % 8) + (y 2).val) :
    aBlk (iblk m c 0 t) (iblk m c 1 t) (iblk m c 2 t) (iblk m c 3 t) (iblk m c 4 t) (iblk m c 8 t) (iblk m c 9 t) y = resA m c i := by
  have e : y = ix3 0 (y 1) (y 2) := by
    rw [eq_ix3 y]
    congr 1
    exact Subsingleton.elim (α := Fin 1) _ _
  rw [e]
  refine (aBlk_apply _ _ _ _ _ _ _ (flatU (m (c.tc.loc main_arg0))) (flatT (m (c.tc.loc main_arg1))) (flatG (m (c.tc.loc main_arg2)))
    (t.val / 8) (t.val % 8) (iblk0 m c t) (iblk1 m c t) (iblk2 m c t) (iblk3 m c t) (iblk4 m c t) (iblk8 m c t) (iblk9 m c t) (y 1) (y 2)).trans ?_
  have hy : (y 2).val < 128 := (y 2).isLt
  unfold resA aVal
  have q : (i 2).val / 128 = t.val % 8 := by omega
  have r : (⟨(i 2).val % 128, Nat.mod_lt _ (by decide)⟩ : Fin 128) = y 2 := Fin.ext (by show (i 2).val % 128 = (y 2).val; omega)
  rw [q, r, h0]
  congr 1
  · rw [h1]
  · apply Fin.ext
    show (y 1).val % 64 = (i 1).val % 64
    rw [h1]

theorem blkB (t : Fin cfg0.N) (y : S1x2048x128.Idx) (i : S8x2048x1024.Idx) (h0 : (i 0).val = t.val / 8)
    (h1 : (i 1).val = (y 1).val) (h2 : (i 2).val = 128 * (t.val % 8) + (y 2).val) :
    k0_pay118 (k0_pay115 (iblk m c 6 t) (iblk m c 7 t)) (iota .tc S2048x128 32 [0] iota_S2048x128_d0_w32) (k0_pay116 (iblk m c 10 t)) (k0_pay117 (iblk m c 10 t)) (iblk m c 5 t) y = resB m c i := by
  have e : y = ix3 0 (y 1) (y 2) := by
    rw [eq_ix3 y]
    congr 1
    exact Subsingleton.elim (α := Fin 1) _ _
  rw [e]
  refine (conv_apply (iblk m c 5 t) (iblk m c 6 t) (iblk m c 7 t) (iblk m c 10 t) (flatU (m (c.tc.loc main_arg0))) (flatC (m (c.tc.loc main_arg3)))
    (t.val / 8) (t.val % 8) ?_ ?_ ?_ (iblk10 m c t) (y 1) (y 2)).trans ?_
  · intro s d; rw [iblk5 m c t s d, Nat.add_assoc]
  · intro s d; rw [iblk6 m c t s d, Nat.add_assoc]
  · intro s d; rw [iblk7 m c t s d, Nat.add_assoc]
  unfold resB
  rw [h0, h1, h2]

theorem blkO (t : Fin cfg0.N) (y : S32x2048.Idx) (i : S2048x2048.Idx) (h0 : (i 0).val = 32 * (t.val) + (y 0).val)
    (h1 : (i 1).val = (y 1).val) : k0_pay119 (F := Ideal) (iblk m c 11 t) y = resO m c i := by
  rw [eq_ix2 y]
  refine Eq.trans ?_ (iblk11 m c t (y 0) (y 1) i h0 h1)
  pointwise [k0_pay119]

theorem blkG (t : Fin cfg0.N) (y : S32x5632.Idx) (i : S2048x5632.Idx) (h0 : (i 0).val = 32 * (t.val) + (y 0).val)
    (h1 : (i 1).val = (y 1).val) : k0_pay120 (F := Ideal) (iblk m c 12 t) y = resG m c i := by
  rw [eq_ix2 y]
  refine Eq.trans ?_ (iblk12 m c t (y 0) (y 1) i h0 h1)
  pointwise [k0_pay120]

theorem blkU (t : Fin cfg0.N) (y : S32x5632.Idx) (i : S2048x5632.Idx) (h0 : (i 0).val = 32 * (t.val) + (y 0).val)
    (h1 : (i 1).val = (y 1).val) : k0_pay1 (F := Ideal) (iblk m c 13 t) y = resU m c i := by
  rw [eq_ix2 y]
  refine Eq.trans ?_ (iblk13 m c t (y 0) (y 1) i h0 h1)
  pointwise [k0_pay1]

theorem blkD (t : Fin cfg0.N) (y : S128x2048.Idx) (i : S5632x2048.Idx) (h0 : (i 0).val = 128 * (min t.val 43) + (y 0).val)
    (h1 : (i 1).val = (y 1).val) : k0_pay2 (F := Ideal) (iblk m c 14 t) y = resD m c i := by
  rw [eq_ix2 y]
  refine Eq.trans ?_ (iblk14 m c t (y 0) (y 1) i h0 h1)
  pointwise [k0_pay2]

theorem flushed_A (t : Fin cfg0.N) : (dats m 0 c).flushed 15 t = ((cfg0.win 15).blk t).view.read (Elt Ideal) (resA m c) := by
  rw [flushed15_A, out15]
  funext j
  obtain ⟨e0, e1, e2⟩ := idx15 t
  rw [View.read_apply]
  refine blkA m c t ((cfg0.win 15).xinj (grid0.coords t) j) _ ?_ ?_ ?_
  · show win0_15.index t 0 * 1 + 1 * (j 0).val = t.val / 8
    have hj : (j 0).val < 1 := ((cfg0.win 15).xinj (grid0.coords t) j 0).isLt
    rw [e0]; omega
  · show win0_15.index t 1 * 2048 + 1 * (j 1).val = (j 1).val
    rw [e1]; omega
  · show win0_15.index t 2 * 128 + 1 * (j 2).val = 128 * (t.val % 8) + (j 2).val
    rw [e2]; omega

theorem final_A : (dats m 0 c).arrAt 15 cfg0.N = resA m c := by
  refine (dats m 0 c).arrAt_eq_of_cover 15 (resA m c) (fun t _ => flushed_A m c t) fun i => ?_
  have b0 : (i 0).val < 8 := (i 0).isLt
  have b1 : (i 1).val < 2048 := (i 1).isLt
  have b2 : (i 2).val < 1024 := (i 2).isLt
  obtain ⟨t, ht⟩ : ∃ t : Fin cfg0.N, t.val = 8 * (i 0).val + (i 2).val / 128 :=
    ⟨⟨8 * (i 0).val + (i 2).val / 128, by show _ < 64; omega⟩, rfl⟩
  obtain ⟨e0, e1, e2⟩ := idx15 t
  refine ⟨t, flush0_15 _, ?_⟩
  show i ∈ ((View.whole main_v27_0).slice (win0_15.rect t)).set
  rw [View.set_slice_whole, Rect.mem_set_unit]
  intro a
  match a with
  | ⟨0, _⟩ =>
    show win0_15.index t 0 * 1 ≤ (i 0).val ∧ (i 0).val < win0_15.index t 0 * 1 + 1
    rw [e0]; omega
  | ⟨1, _⟩ =>
    show win0_15.index t 1 * 2048 ≤ (i 1).val ∧ (i 1).val < win0_15.index t 1 * 2048 + 2048
    rw [e1]; omega
  | ⟨2, _⟩ =>
    show win0_15.index t 2 * 128 ≤ (i 2).val ∧ (i 2).val < win0_15.index t 2 * 128 + 128
    rw [e2]; omega

theorem flushed_B (t : Fin cfg0.N) : (dats m 0 c).flushed 16 t = ((cfg0.win 16).blk t).view.read (Elt Ideal) (resB m c) := by
  rw [flushed16_A, out16]
  funext j
  obtain ⟨e0, e1, e2⟩ := idx16 t
  rw [View.read_apply]
  refine blkB m c t ((cfg0.win 16).xinj (grid0.coords t) j) _ ?_ ?_ ?_
  · show win0_16.index t 0 * 1 + 1 * (j 0).val = t.val / 8
    have hj : (j 0).val < 1 := ((cfg0.win 16).xinj (grid0.coords t) j 0).isLt
    rw [e0]; omega
  · show win0_16.index t 1 * 2048 + 1 * (j 1).val = (j 1).val
    rw [e1]; omega
  · show win0_16.index t 2 * 128 + 1 * (j 2).val = 128 * (t.val % 8) + (j 2).val
    rw [e2]; omega

theorem final_B : (dats m 0 c).arrAt 16 cfg0.N = resB m c := by
  refine (dats m 0 c).arrAt_eq_of_cover 16 (resB m c) (fun t _ => flushed_B m c t) fun i => ?_
  have b0 : (i 0).val < 8 := (i 0).isLt
  have b1 : (i 1).val < 2048 := (i 1).isLt
  have b2 : (i 2).val < 1024 := (i 2).isLt
  obtain ⟨t, ht⟩ : ∃ t : Fin cfg0.N, t.val = 8 * (i 0).val + (i 2).val / 128 :=
    ⟨⟨8 * (i 0).val + (i 2).val / 128, by show _ < 64; omega⟩, rfl⟩
  obtain ⟨e0, e1, e2⟩ := idx16 t
  refine ⟨t, flush0_16 _, ?_⟩
  show i ∈ ((View.whole main_v27_1).slice (win0_16.rect t)).set
  rw [View.set_slice_whole, Rect.mem_set_unit]
  intro a
  match a with
  | ⟨0, _⟩ =>
    show win0_16.index t 0 * 1 ≤ (i 0).val ∧ (i 0).val < win0_16.index t 0 * 1 + 1
    rw [e0]; omega
  | ⟨1, _⟩ =>
    show win0_16.index t 1 * 2048 ≤ (i 1).val ∧ (i 1).val < win0_16.index t 1 * 2048 + 2048
    rw [e1]; omega
  | ⟨2, _⟩ =>
    show win0_16.index t 2 * 128 ≤ (i 2).val ∧ (i 2).val < win0_16.index t 2 * 128 + 128
    rw [e2]; omega

theorem flushed_O (t : Fin cfg0.N) : (dats m 0 c).flushed 17 t = ((cfg0.win 17).blk t).view.read (Elt Ideal) (resO m c) := by
  rw [flushed17_A, out17]
  funext j
  obtain ⟨e0, e1⟩ := idx17 t
  rw [View.read_apply]
  refine blkO m c t ((cfg0.win 17).xinj (grid0.coords t) j) _ ?_ ?_
  · show win0_17.index t 0 * 32 + 1 * (j 0).val = 32 * (t.val) + (j 0).val
    rw [e0]; omega
  · show win0_17.index t 1 * 2048 + 1 * (j 1).val = (j 1).val
    rw [e1]; omega

theorem final_O : (dats m 0 c).arrAt 17 cfg0.N = resO m c := by
  refine (dats m 0 c).arrAt_eq_of_cover 17 (resO m c) (fun t _ => flushed_O m c t) fun i => ?_
  have b0 : (i 0).val < 2048 := (i 0).isLt
  have b1 : (i 1).val < 2048 := (i 1).isLt
  obtain ⟨t, ht⟩ : ∃ t : Fin cfg0.N, t.val = (i 0).val / 32 :=
    ⟨⟨(i 0).val / 32, by show _ < 64; omega⟩, rfl⟩
  obtain ⟨e0, e1⟩ := idx17 t
  refine ⟨t, flush0_17 _, ?_⟩
  show i ∈ ((View.whole main_v27_2).slice (win0_17.rect t)).set
  rw [View.set_slice_whole, Rect.mem_set_unit]
  intro a
  match a with
  | ⟨0, _⟩ =>
    show win0_17.index t 0 * 32 ≤ (i 0).val ∧ (i 0).val < win0_17.index t 0 * 32 + 32
    rw [e0]; omega
  | ⟨1, _⟩ =>
    show win0_17.index t 1 * 2048 ≤ (i 1).val ∧ (i 1).val < win0_17.index t 1 * 2048 + 2048
    rw [e1]; omega

theorem flushed_G (t : Fin cfg0.N) : (dats m 0 c).flushed 18 t = ((cfg0.win 18).blk t).view.read (Elt Ideal) (resG m c) := by
  rw [flushed18_A, out18]
  funext j
  obtain ⟨e0, e1⟩ := idx18 t
  rw [View.read_apply]
  refine blkG m c t ((cfg0.win 18).xinj (grid0.coords t) j) _ ?_ ?_
  · show win0_18.index t 0 * 32 + 1 * (j 0).val = 32 * (t.val) + (j 0).val
    rw [e0]; omega
  · show win0_18.index t 1 * 5632 + 1 * (j 1).val = (j 1).val
    rw [e1]; omega

theorem final_G : (dats m 0 c).arrAt 18 cfg0.N = resG m c := by
  refine (dats m 0 c).arrAt_eq_of_cover 18 (resG m c) (fun t _ => flushed_G m c t) fun i => ?_
  have b0 : (i 0).val < 2048 := (i 0).isLt
  have b1 : (i 1).val < 5632 := (i 1).isLt
  obtain ⟨t, ht⟩ : ∃ t : Fin cfg0.N, t.val = (i 0).val / 32 :=
    ⟨⟨(i 0).val / 32, by show _ < 64; omega⟩, rfl⟩
  obtain ⟨e0, e1⟩ := idx18 t
  refine ⟨t, flush0_18 _, ?_⟩
  show i ∈ ((View.whole main_v27_3).slice (win0_18.rect t)).set
  rw [View.set_slice_whole, Rect.mem_set_unit]
  intro a
  match a with
  | ⟨0, _⟩ =>
    show win0_18.index t 0 * 32 ≤ (i 0).val ∧ (i 0).val < win0_18.index t 0 * 32 + 32
    rw [e0]; omega
  | ⟨1, _⟩ =>
    show win0_18.index t 1 * 5632 ≤ (i 1).val ∧ (i 1).val < win0_18.index t 1 * 5632 + 5632
    rw [e1]; omega

theorem flushed_U (t : Fin cfg0.N) : (dats m 0 c).flushed 19 t = ((cfg0.win 19).blk t).view.read (Elt Ideal) (resU m c) := by
  rw [flushed19_A, out19]
  funext j
  obtain ⟨e0, e1⟩ := idx19 t
  rw [View.read_apply]
  refine blkU m c t ((cfg0.win 19).xinj (grid0.coords t) j) _ ?_ ?_
  · show win0_19.index t 0 * 32 + 1 * (j 0).val = 32 * (t.val) + (j 0).val
    rw [e0]; omega
  · show win0_19.index t 1 * 5632 + 1 * (j 1).val = (j 1).val
    rw [e1]; omega

theorem final_U : (dats m 0 c).arrAt 19 cfg0.N = resU m c := by
  refine (dats m 0 c).arrAt_eq_of_cover 19 (resU m c) (fun t _ => flushed_U m c t) fun i => ?_
  have b0 : (i 0).val < 2048 := (i 0).isLt
  have b1 : (i 1).val < 5632 := (i 1).isLt
  obtain ⟨t, ht⟩ : ∃ t : Fin cfg0.N, t.val = (i 0).val / 32 :=
    ⟨⟨(i 0).val / 32, by show _ < 64; omega⟩, rfl⟩
  obtain ⟨e0, e1⟩ := idx19 t
  refine ⟨t, flush0_19 _, ?_⟩
  show i ∈ ((View.whole main_v27_4).slice (win0_19.rect t)).set
  rw [View.set_slice_whole, Rect.mem_set_unit]
  intro a
  match a with
  | ⟨0, _⟩ =>
    show win0_19.index t 0 * 32 ≤ (i 0).val ∧ (i 0).val < win0_19.index t 0 * 32 + 32
    rw [e0]; omega
  | ⟨1, _⟩ =>
    show win0_19.index t 1 * 5632 ≤ (i 1).val ∧ (i 1).val < win0_19.index t 1 * 5632 + 5632
    rw [e1]; omega

theorem flushed_D (t : Fin cfg0.N) : (dats m 0 c).flushed 20 t = ((cfg0.win 20).blk t).view.read (Elt Ideal) (resD m c) := by
  rw [flushed20_A, out20]
  funext j
  obtain ⟨e0, e1⟩ := idx20 t
  rw [View.read_apply]
  refine blkD m c t ((cfg0.win 20).xinj (grid0.coords t) j) _ ?_ ?_
  · show win0_20.index t 0 * 128 + 1 * (j 0).val = 128 * (min t.val 43) + (j 0).val
    rw [e0]; omega
  · show win0_20.index t 1 * 2048 + 1 * (j 1).val = (j 1).val
    rw [e1]; omega

theorem final_D : (dats m 0 c).arrAt 20 cfg0.N = resD m c := by
  refine (dats m 0 c).arrAt_eq_of_cover 20 (resD m c) (fun t _ => flushed_D m c t) fun i => ?_
  have b0 : (i 0).val < 5632 := (i 0).isLt
  have b1 : (i 1).val < 2048 := (i 1).isLt
  obtain ⟨t, ht⟩ : ∃ t : Fin cfg0.N, t.val = if (i 0).val / 128 < 43 then (i 0).val / 128 else 63 :=
    ⟨⟨if (i 0).val / 128 < 43 then (i 0).val / 128 else 63, by show _ < 64; split <;> omega⟩, rfl⟩
  obtain ⟨e0, e1⟩ := idx20 t
  refine ⟨t, flush20 t (by rw [ht]; split <;> omega), ?_⟩
  show i ∈ ((View.whole main_v27_5).slice (win0_20.rect t)).set
  rw [View.set_slice_whole, Rect.mem_set_unit]
  intro a
  match a with
  | ⟨0, _⟩ =>
    show win0_20.index t 0 * 128 ≤ (i 0).val ∧ (i 0).val < win0_20.index t 0 * 128 + 128
    rw [e0]; split at ht <;> omega
  | ⟨1, _⟩ =>
    show win0_20.index t 1 * 2048 ≤ (i 1).val ∧ (i 1).val < win0_20.index t 1 * 2048 + 2048
    rw [e1]; omega

end Cert.KernelIdeal.Hand
-- ==== Proof.Win.lean ====
module
public import proofs.«01_k».proof.Proof.Head
public import Idealize.ShloMosaic.Lib.Pointwise
@[expose] public section
noncomputable section

/-! Running sums of extended reals as windows padded low, read at an index. -/

namespace Hgrn
open Idealize.ShloMosaic

theorem foldl_add_sum {α : Type} (g : α → EReal) : ∀ (l : List α) (a : EReal), l.foldl (fun r n => r + g n) a = a + (l.map g).sum
  | [], a => by simp
  | x :: l, a => by
    rw [List.foldl_cons, foldl_add_sum g l, List.map_cons, List.sum_cons, add_assoc]

/-- A window sum from zero is the sum over the window's positions, padding counting zero. -/
theorem window_sum {s t u : Shape} (window strides lo hi : Fin s.rank → Nat) (x : s.Idx → EReal) (init : u.Idx → EReal)
    (h : s.ReduceWindows window strides lo hi t) (hu : 0 < u.numel) (h0 : init (Shape.Idx.first hu) = 0) (j : t.Idx) :
    (Host.reduceWindowAdd (F := Ideal) (φ := .f32) window strides lo hi x init h hu : t.Idx → EReal) j
      = ∑ k : (⟨s.rank, window⟩ : Shape).Idx,
          (if hin : ∀ a, lo a ≤ (j (a.cast h.1.symm)).val * strides a + (k a).val ∧ (j (a.cast h.1.symm)).val * strides a + (k a).val - lo a < s.size a
            then x (fun a => ⟨(j (a.cast h.1.symm)).val * strides a + (k a).val - lo a, (hin a).2⟩) else 0) := by
  unfold Host.reduceWindowAdd
  show Host.reduceWindow (· + ·) window strides lo hi x (fun _ : (⟨0, ![]⟩ : Shape).Idx => init (Shape.Idx.first hu)) h (by decide) j = _
  unfold Host.reduceWindow
  rw [h0]
  dsimp only
  refine (foldl_add_sum _ _ _).trans ?_
  rw [zero_add, ← Fin.sum_univ_def]
  refine Eq.trans (Finset.sum_congr rfl fun i _ => ?_) (Equiv.sum_comp (⟨s.rank, window⟩ : Shape).rowMajor.symm (fun k => if hin : ∀ a, lo a ≤ (j (a.cast h.1.symm)).val * strides a + (k a).val ∧ (j (a.cast h.1.symm)).val * strides a + (k a).val - lo a < s.size a
            then x (fun a => ⟨(j (a.cast h.1.symm)).val * strides a + (k a).val - lo a, (hin a).2⟩) else 0))
  congr

theorem sum_shift (f : Fin 64 → EReal) (i : Fin 64) :
    (∑ w : Fin 64, if h : 63 ≤ i.val + w.val then f ⟨i.val + w.val - 63, by omega⟩ else 0) = ∑ j : Fin 64, if j ≤ i then f j else 0 := by
  rw [← Finset.sum_filter]
  rw [← Finset.sum_subset (Finset.subset_univ (Finset.univ.filter fun w : Fin 64 => 63 ≤ i.val + w.val)) (fun w _ hw => dif_neg fun h => hw (Finset.mem_filter.mpr ⟨Finset.mem_univ _, h⟩))]
  refine Finset.sum_bij' (fun w _ => (⟨(i.val + w.val - 63) % 64, Nat.mod_lt _ (by norm_num)⟩ : Fin 64)) (fun j _ => (⟨(j.val + 63 - i.val) % 64, Nat.mod_lt _ (by norm_num)⟩ : Fin 64)) ?_ ?_ ?_ ?_ ?_
  · intro w hw
    rw [Finset.mem_filter] at hw ⊢
    refine ⟨Finset.mem_univ _, ?_⟩
    show (i.val + w.val - 63) % 64 ≤ i.val
    omega
  · intro w hw
    rw [Finset.mem_filter] at hw ⊢
    refine ⟨Finset.mem_univ _, ?_⟩
    have : w.val ≤ i.val := hw.2
    show 63 ≤ i.val + (w.val + 63 - i.val) % 64
    omega
  · intro w hw
    rw [Finset.mem_filter] at hw
    apply Fin.ext
    show ((i.val + w.val - 63) % 64 + 63 - i.val) % 64 = w.val
    omega
  · intro w hw
    rw [Finset.mem_filter] at hw
    have : w.val ≤ i.val := hw.2
    apply Fin.ext
    show (i.val + (w.val + 63 - i.val) % 64 - 63) % 64 = w.val
    omega
  · intro w hw
    rw [Finset.mem_filter] at hw
    rw [dif_pos hw.2]
    congr 1
    apply Fin.ext
    show i.val + w.val - 63 = (i.val + w.val - 63) % 64
    omega

/-- The running sum down the fourth axis of five. -/
theorem cum5 (x : (⟨5, ![8, 8, 32, 64, 128]⟩ : Shape).Idx → EReal) {u : Shape} (init : u.Idx → EReal)
    (h : (⟨5, ![8, 8, 32, 64, 128]⟩ : Shape).ReduceWindows ![1, 1, 1, 64, 1] ![1, 1, 1, 1, 1] ![0, 0, 0, 63, 0] ![0, 0, 0, 0, 0] ⟨5, ![8, 8, 32, 64, 128]⟩)
    (hu : 0 < u.numel) (h0 : init (Shape.Idx.first hu) = 0) (b g : Fin 8) (c : Fin 32) (i : Fin 64) (d : Fin 128) :
    (Host.reduceWindowAdd (F := Ideal) (φ := .f32) ![1, 1, 1, 64, 1] ![1, 1, 1, 1, 1] ![0, 0, 0, 63, 0] ![0, 0, 0, 0, 0] x init h hu : (⟨5, ![8, 8, 32, 64, 128]⟩ : Shape).Idx → EReal) (ix5 b g c i d)
      = ∑ j : Fin 64, if j ≤ i then x (ix5 b g c j d) else 0 := by
  refine (window_sum _ _ _ _ x init h hu h0 _).trans ?_
  rw [← sum_shift (fun j => x (ix5 b g c j d)) i]
  refine Finset.sum_bij' (fun k _ => (k 3 : Fin 64)) (fun w _ => (ix5 (0 : Fin 1) (0 : Fin 1) (0 : Fin 1) w (0 : Fin 1) : (⟨5, ![1, 1, 1, 64, 1]⟩ : Shape).Idx)) (fun _ _ => Finset.mem_univ _) (fun _ _ => Finset.mem_univ _) ?_ ?_ ?_
  · intro k _
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _
  · intro w _
    rfl
  · intro k _
    have k0 : (k 0).val = 0 := Nat.lt_one_iff.mp (k 0).isLt
    have k1 : (k 1).val = 0 := Nat.lt_one_iff.mp (k 1).isLt
    have k2 : (k 2).val = 0 := Nat.lt_one_iff.mp (k 2).isLt
    have k4 : (k 4).val = 0 := Nat.lt_one_iff.mp (k 4).isLt
    have k3 : (k 3).val < 64 := (k 3).isLt
    by_cases hc : 63 ≤ i.val + (k 3).val
    · rw [dif_pos hc, dif_pos]
      · refine congrArg x (funext fun a => Fin.ext ?_)
        match a with
        | ⟨0, _⟩ => show b.val * 1 + (k 0).val - 0 = b.val; omega
        | ⟨1, _⟩ => show g.val * 1 + (k 1).val - 0 = g.val; omega
        | ⟨2, _⟩ => show c.val * 1 + (k 2).val - 0 = c.val; omega
        | ⟨3, _⟩ => show i.val * 1 + (k 3).val - 63 = i.val + (k 3).val - 63; omega
        | ⟨4, _⟩ => show d.val * 1 + (k 4).val - 0 = d.val; omega
      · intro a
        match a with
        | ⟨0, _⟩ => show 0 ≤ b.val * 1 + (k 0).val ∧ b.val * 1 + (k 0).val - 0 < 8; omega
        | ⟨1, _⟩ => show 0 ≤ g.val * 1 + (k 1).val ∧ g.val * 1 + (k 1).val - 0 < 8; omega
        | ⟨2, _⟩ => show 0 ≤ c.val * 1 + (k 2).val ∧ c.val * 1 + (k 2).val - 0 < 32; omega
        | ⟨3, _⟩ => show 63 ≤ i.val * 1 + (k 3).val ∧ i.val * 1 + (k 3).val - 63 < 64; omega
        | ⟨4, _⟩ => show 0 ≤ d.val * 1 + (k 4).val ∧ d.val * 1 + (k 4).val - 0 < 128; omega
    · rw [dif_neg hc, dif_neg]
      intro hin
      have h3 : 63 ≤ i.val * 1 + (k 3).val := (hin 3).1
      omega

/-- The running sum down the rows of a matrix of three rows, at its first row. -/
theorem cum_row0 (x : (⟨2, ![3, 1024]⟩ : Shape).Idx → EReal) {u : Shape} (init : u.Idx → EReal)
    (h : (⟨2, ![3, 1024]⟩ : Shape).ReduceWindows ![3, 1] ![1, 1] ![2, 0] ![0, 0] ⟨2, ![3, 1024]⟩)
    (hu : 0 < u.numel) (h0 : init (Shape.Idx.first hu) = 0) (l : Fin 1024) :
    (Host.reduceWindowAdd (F := Ideal) (φ := .f32) ![3, 1] ![1, 1] ![2, 0] ![0, 0] x init h hu : (⟨2, ![3, 1024]⟩ : Shape).Idx → EReal) (ix2 (0 : Fin 3) l)
      = x (ix2 (0 : Fin 3) l) := by
  refine (window_sum _ _ _ _ x init h hu h0 _).trans ?_
  rw [Finset.sum_eq_single (ix2 (2 : Fin 3) (0 : Fin 1) : (⟨2, ![3, 1]⟩ : Shape).Idx)]
  · rw [dif_pos]
    · refine congrArg x (funext fun a => Fin.ext ?_)
      match a with
      | ⟨0, _⟩ => rfl
      | ⟨1, _⟩ => show l.val * 1 + 0 - 0 = l.val; omega
    · intro a
      match a with
      | ⟨0, _⟩ => show 2 ≤ 0 * 1 + 2 ∧ 0 * 1 + 2 - 2 < 3; omega
      | ⟨1, _⟩ => show 0 ≤ l.val * 1 + 0 ∧ l.val * 1 + 0 - 0 < 1024; omega
  · intro k _ hk
    rw [dif_neg]
    intro hin
    apply hk
    have h2 : 2 ≤ 0 * 1 + (k 0).val := (hin 0).1
    have k0 : (k 0).val < 3 := (k 0).isLt
    have k1 : (k 1).val = 0 := Nat.lt_one_iff.mp (k 1).isLt
    funext a
    match a with
    | ⟨0, _⟩ => exact Fin.ext (show (k 0).val = 2 by omega)
    | ⟨1, _⟩ => exact Fin.ext (show (k 1).val = 0 from k1)
  · intro h; exact absurd (Finset.mem_univ _) h

end Hgrn
-- ==== Proof.RefPre.lean ====
module
public import proofs.«01_k».proof.Proof.Win
public import proofs.«01_k».proof.Proof.Gen.ReferenceIdeal.Run
public import Idealize.ShloMosaic.Lib.Pointwise
public import Idealize.ShloMosaic.Lib.StableHlo.ReadAt
@[expose] public section
set_option maxRecDepth 16384
noncomputable section

/-! The reference before its loop, stretch by stretch: what each stretch leaves in the buffers the later ones read. -/

namespace Cert.ReferenceIdeal.Hand
open Cert.ReferenceIdeal Cert.ReferenceIdeal.Gen Cert.ReferenceIdeal.Value Hgrn
open Idealize.ShloMosaic Idealize.ShloMosaic.TcCoe Idealize.ShloMosaic.StableHlo

variable (V : Valuation τ sig (Elt Ideal))

theorem bot_le (y : EReal) : Ideal.ofBits .f32 0xFF800000#32 ≤ y := by
  have : Ideal.ofBits .f32 0xFF800000#32 = (⊥ : EReal) := by
    simp [Ideal.ofBits, Ideal.ieee]
  rw [this]; exact _root_.bot_le

theorem zero_bits : Ideal.ofBits .f32 0#32 = (0 : EReal) := by
  simp [Ideal.ofBits, Ideal.ieee]

theorem s0_v11 (T : Fin 3 → Nat → EReal) (hT : ∀ (x : Fin 3) (l : Fin 1024), (V (Proc.devRef .tc main_arg1) : Vec Ideal S3x1024 .f32) (ix2 x l) = T x l.val)
    (x : Fin 3) (l : Fin 1024) : (after hostOps0 V (Proc.devRef .tc main_v11) : Vec Ideal S3x1024 .f32) (ix2 x l)
      = Ideal.div (ev T x l.val) (∑ y : Fin 3, ev T y l.val) := by
  simp only [hostOps0]
  after_reads_at
  simp only [hT]
  rw [max_eq_right (bot_le _)]
  rfl

theorem s0_v0 (U : Nat → Nat → EReal) (hU : ∀ (r : Fin 16384) (l : Fin 7168), (V (Proc.devRef .tc main_arg0) : Vec Ideal S16384x7168 .f32) (ix2 r l) = U r.val l.val)
    (b : Fin 8) (t : Fin 2048) (l : Fin 7168) : (after hostOps0 V (Proc.devRef .tc main_v0) : Vec Ideal S8x2048x7168 .f32) (ix3 b t l)
      = U (2048 * b.val + t.val) l.val := by
  simp only [hostOps0]
  after_reads_at
  rw [hU]
  congr 1
  show b.val * 2048 + t.val = _
  omega

theorem s1_v12 (l : Fin 1024) (y : EReal) (hy : (V (Proc.devRef .tc main_v11) : Vec Ideal S3x1024 .f32) (ix2 0 l) = y) :
    (after hostOps0_1 V (Proc.devRef .tc main_v12) : Vec Ideal S3x1024 .f32) (ix2 0 l) = y := by
  simp only [hostOps0_1]
  after_reads_at
  refine Eq.trans (cum_row0 _ _ _ _ ?_ l) hy
  exact zero_bits

section two
variable (W : Nat → Nat → Nat → EReal) (hW : ∀ (b : Fin 8) (t : Fin 2048) (l : Fin 7168), (V (Proc.devRef .tc main_v0) : Vec Ideal S8x2048x7168 .f32) (ix3 b t l) = W b.val t.val l.val)
include hW
theorem s2_v37 (Lb : Nat → EReal) (hL : ∀ l : Fin 1024, (V (Proc.devRef .tc main_v12) : Vec Ideal S3x1024 .f32) (ix2 0 l) = Lb l.val)
    (b : Fin 8) (t : Fin 2048) (l : Fin 1024) : (after hostOps0_2 V (Proc.devRef .tc main_v37) : Vec Ideal S8x2048x1024 .f32) (ix3 b t l)
      = Lb l.val + (1 - Lb l.val) * sg (W b.val t.val (1024 + l.val)) := by
  simp only [hostOps0_2]
  after_reads_at
  simp only [hL, hW]
  rfl
theorem s2_v17 (b : Fin 8) (t : Fin 2048) (l : Fin 1024) : (after hostOps0_2 V (Proc.devRef .tc main_v17) : Vec Ideal S8x2048x1024 .f32) (ix3 b t l)
      = W b.val t.val l.val := by
  simp only [hostOps0_2]
  after_reads_at
  simp only [hW]
theorem s2_v19 (b : Fin 8) (t : Fin 2048) (l : Fin 1024) : (after hostOps0_2 V (Proc.devRef .tc main_v19) : Vec Ideal S8x2048x1024 .f32) (ix3 b t l)
      = W b.val t.val (2048 + l.val) := by
  simp only [hostOps0_2]
  after_reads_at
  simp only [hW]
theorem s2_v20 (b : Fin 8) (t : Fin 2048) (l : Fin 1024) : (after hostOps0_2 V (Proc.devRef .tc main_v20) : Vec Ideal S8x2048x1024 .f32) (ix3 b t l)
      = W b.val t.val (3072 + l.val) := by
  simp only [hostOps0_2]
  after_reads_at
  simp only [hW]
theorem s2_v21 (b : Fin 8) (t : Fin 2048) (l : Fin 1024) : (after hostOps0_2 V (Proc.devRef .tc main_v21) : Vec Ideal S8x2048x1024 .f32) (ix3 b t l)
      = W b.val t.val (4096 + l.val) := by
  simp only [hostOps0_2]
  after_reads_at
  simp only [hW]
theorem s2_v22 (b : Fin 8) (t : Fin 2048) (l : Fin 1024) : (after hostOps0_2 V (Proc.devRef .tc main_v22) : Vec Ideal S8x2048x1024 .f32) (ix3 b t l)
      = W b.val t.val (5120 + l.val) := by
  simp only [hostOps0_2]
  after_reads_at
  simp only [hW]
theorem s2_v23 (b : Fin 8) (t : Fin 2048) (l : Fin 1024) : (after hostOps0_2 V (Proc.devRef .tc main_v23) : Vec Ideal S8x2048x1024 .f32) (ix3 b t l)
      = W b.val t.val (6144 + l.val) := by
  simp only [hostOps0_2]
  after_reads_at
  simp only [hW]
end two

theorem s2_v15 (l : Fin 1024) (y : EReal) (hy : (V (Proc.devRef .tc main_arg2) : Vec Ideal S1x1024 .f32) (ix2 0 l) = y) :
    (after hostOps0_2 V (Proc.devRef .tc main_v15) : Vec Ideal S1024 .f32) (ix1 l) = y := by
  simp only [hostOps0_2]
  after_reads_at
  exact hy
theorem s2_v16 (i : Fin 3) (l : Fin 1024) (y : EReal) (hy : (V (Proc.devRef .tc main_arg3) : Vec Ideal S1x3x1024 .f32) (ix3 0 i l) = y) :
    (after hostOps0_2 V (Proc.devRef .tc main_v16) : Vec Ideal S3x1024 .f32) (ix2 i l) = y := by
  simp only [hostOps0_2]
  after_reads_at
  exact hy

theorem s3_v38 (b : Fin 8) (t : Fin 2048) (l : Fin 1024) (y : EReal) (hy : (V (Proc.devRef .tc main_v17) : Vec Ideal S8x2048x1024 .f32) (ix3 b t l) = y) :
    (after hostOps0_3 V (Proc.devRef .tc main_v38) : Vec Ideal S8x2048x1024 .f32) (ix3 b t l) = y * sg y := by
  simp only [hostOps0_3]
  after_reads_at
  simp only [hy]
  rfl

section four
variable (Fg Q I : Nat → Nat → Nat → EReal)
theorem s4_v47 (hQ : ∀ (b : Fin 8) (t : Fin 2048) (l : Fin 1024), (V (Proc.devRef .tc main_v38) : Vec Ideal S8x2048x1024 .f32) (ix3 b t l) = Q b.val t.val l.val)
    (b h : Fin 8) (c : Fin 32) (i : Fin 64) (d : Fin 128) : (after hostOps0_4 V (Proc.devRef .tc main_v47) : Vec Ideal S8x8x32x64x128 .f32) (ix5 b h c i d)
      = Q b.val (c.val * 64 + i.val) (h.val * 128 + d.val) := by
  simp only [hostOps0_4]
  after_reads_at
  simp only [hQ]
theorem s4_v51 (hI : ∀ (b : Fin 8) (t : Fin 2048) (l : Fin 1024), (V (Proc.devRef .tc main_v19) : Vec Ideal S8x2048x1024 .f32) (ix3 b t l) = I b.val t.val l.val)
    (b h : Fin 8) (c : Fin 32) (i : Fin 64) (d : Fin 128) : (after hostOps0_4 V (Proc.devRef .tc main_v51) : Vec Ideal S8x8x32x64x128 .f32) (ix5 b h c i d)
      = I b.val (c.val * 64 + i.val) (h.val * 128 + d.val) := by
  simp only [hostOps0_4]
  after_reads_at
  simp only [hI]
theorem s4_v49 (hF : ∀ (b : Fin 8) (t : Fin 2048) (l : Fin 1024), (V (Proc.devRef .tc main_v37) : Vec Ideal S8x2048x1024 .f32) (ix3 b t l) = Fg b.val t.val l.val)
    (b h : Fin 8) (c : Fin 32) (i : Fin 64) (d : Fin 128) : (after hostOps0_4 V (Proc.devRef .tc main_v49) : Vec Ideal S8x8x32x64x128 .f32) (ix5 b h c i d)
      = 1 - Fg b.val (c.val * 64 + i.val) (h.val * 128 + d.val) := by
  simp only [hostOps0_4]
  after_reads_at
  simp only [hF]
theorem s4_v53 (hF : ∀ (b : Fin 8) (t : Fin 2048) (l : Fin 1024), (V (Proc.devRef .tc main_v37) : Vec Ideal S8x2048x1024 .f32) (ix3 b t l) = Fg b.val t.val l.val)
    (b h : Fin 8) (c : Fin 32) (i : Fin 64) (d : Fin 128) : (after hostOps0_4 V (Proc.devRef .tc main_v53) : Vec Ideal S8x8x32x64x128 .f32) (ix5 b h c i d)
      = Ideal.log (Fg b.val (c.val * 64 + i.val) (h.val * 128 + d.val)) := by
  simp only [hostOps0_4]
  after_reads_at
  simp only [hF]
end four

theorem s5_v54 (b h : Fin 8) (c : Fin 32) (i : Fin 64) (d : Fin 128) (f : Fin 64 → EReal)
    (hf : ∀ j : Fin 64, (V (Proc.devRef .tc main_v53) : Vec Ideal S8x8x32x64x128 .f32) (ix5 b h c j d) = f j) :
    (after hostOps0_5 V (Proc.devRef .tc main_v54) : Vec Ideal S8x8x32x64x128 .f32) (ix5 b h c i d) = ∑ j : Fin 64, if j ≤ i then f j else 0 := by
  simp only [hostOps0_5]
  after_reads_at
  refine Eq.trans (cum5 _ _ _ _ ?_ b h c i d) ?_
  · exact zero_bits
  · exact Finset.sum_congr rfl fun j _ => by rw [hf j]

end Cert.ReferenceIdeal.Hand
-- ==== Proof.RefMid.lean ====
module
public import proofs.«01_k».proof.Proof.RefPre
@[expose] public section
set_option maxRecDepth 16384
noncomputable section

/-! The reference's stretches around its loop, from the decays to what the loop carries, and from the loop to the results. -/

namespace Cert.ReferenceIdeal.Hand
open Cert.ReferenceIdeal Cert.ReferenceIdeal.Gen Cert.ReferenceIdeal.Value Hgrn
open Idealize.ShloMosaic Idealize.ShloMosaic.TcCoe Idealize.ShloMosaic.StableHlo

variable (V : Valuation τ sig (Elt Ideal))

section six
variable (b h : Fin 8) (c : Fin 32) (q k g : Fin 64 → Fin 128 → EReal)
theorem s6_v65 (hq : ∀ i d, (V (Proc.devRef .tc main_v47) : Vec Ideal S8x8x32x64x128 .f32) (ix5 b h c i d) = q i d)
    (hk : ∀ i d, (V (Proc.devRef .tc main_v49) : Vec Ideal S8x8x32x64x128 .f32) (ix5 b h c i d) = k i d)
    (hg : ∀ i d, (V (Proc.devRef .tc main_v54) : Vec Ideal S8x8x32x64x128 .f32) (ix5 b h c i d) = g i d) (i j : Fin 64) :
    (after hostOps0_6 V (Proc.devRef .tc main_v65) : Vec Ideal S8x8x32x64x64 .f32) (ix5 b h c i j)
      = ∑ d : Fin 128, (q i d * Ideal.exp (g i d - g 32 d)) * (k j d * Ideal.exp (g 32 d - g j d)) := by
  simp only [hostOps0_6]
  after_reads_at
  simp only [hq, hk, hg]
theorem s6_v56 (hg : ∀ i d, (V (Proc.devRef .tc main_v54) : Vec Ideal S8x8x32x64x128 .f32) (ix5 b h c i d) = g i d) (d : Fin 128) :
    (after hostOps0_6 V (Proc.devRef .tc main_v56) : Vec Ideal S8x8x32x1x128 .f32) (ix5 b h c 0 d) = g 63 d := by
  simp only [hostOps0_6]
  after_reads_at
  simp only [hg]
theorem s6_v66 (i j : Fin 64) : (after hostOps0_6 V (Proc.devRef .tc main_v66) : IVec S64x64 1) (ix2 i j) = 1#1 := by
  simp only [hostOps0_6]
  after_reads_at
theorem s7_v67 (h1 : ∀ i j : Fin 64, (V (Proc.devRef .tc main_v66) : IVec S64x64 1) (ix2 i j) = 1#1) (i j : Fin 64) :
    (after hostOps0_7 V (Proc.devRef .tc main_v67) : IVec S64x64 1) (ix2 i j) = if j ≤ i then 1#1 else 0#1 := by
  simp only [hostOps0_7]
  after_reads_at
  simp only [h1]
  revert i j
  decide +kernel
theorem s8_cst : (after hostOps0_8 V (Proc.devRef .tc main_cst_6) : Vec Ideal S_ .f32) ix0 = (0 : EReal) := by
  simp only [hostOps0_8]
  after_reads_at
theorem s9_v68 (i j : Fin 64) (p : EReal) (hp : (V (Proc.devRef .tc main_v65) : Vec Ideal S8x8x32x64x64 .f32) (ix5 b h c i j) = p)
    (hm : (V (Proc.devRef .tc main_v67) : IVec S64x64 1) (ix2 i j) = if j ≤ i then 1#1 else 0#1)
    (hz : (V (Proc.devRef .tc main_cst_6) : Vec Ideal S_ .f32) ix0 = (0 : EReal)) :
    (after hostOps0_9 V (Proc.devRef .tc main_v68) : Vec Ideal S8x8x32x64x64 .f32) (ix5 b h c i j) = if j ≤ i then p else 0 := by
  simp only [hostOps0_9]
  after_reads_at
  rw [hm, hp]
  simp only [id, hz]
  by_cases hji : j ≤ i
  · rw [if_pos hji, if_pos hji]; rfl
  · rw [if_neg hji, if_neg hji]; rfl
theorem s10_v69 (a : Fin 64 → Fin 64 → EReal) (x : Fin 64 → Fin 128 → EReal)
    (ha : ∀ i j, (V (Proc.devRef .tc main_v68) : Vec Ideal S8x8x32x64x64 .f32) (ix5 b h c i j) = a i j)
    (hx : ∀ i v, (V (Proc.devRef .tc main_v51) : Vec Ideal S8x8x32x64x128 .f32) (ix5 b h c i v) = x i v) (i : Fin 64) (v : Fin 128) :
    (after hostOps0_10 V (Proc.devRef .tc main_v69) : Vec Ideal S8x8x32x64x128 .f32) (ix5 b h c i v) = ∑ j : Fin 64, a i j * x j v := by
  simp only [hostOps0_10]
  after_reads_at
  simp only [ha, hx]
theorem s10_v81_0 (e : Fin 128 → EReal) (he : ∀ d, (V (Proc.devRef .tc main_v56) : Vec Ideal S8x8x32x1x128 .f32) (ix5 b h c 0 d) = e d) (d : Fin 128) :
    (after hostOps0_10 V (Proc.devRef .tc main_v81_0) : Vec Ideal S32x8x8x128 .f32) (ix4 c b h d) = Ideal.exp (e d) := by
  simp only [hostOps0_10]
  after_reads_at
  simp only [id]
  pointwise
  simp only [he]
theorem s10_v81_1 (e : Fin 128 → EReal) (he : ∀ d, (V (Proc.devRef .tc main_v56) : Vec Ideal S8x8x32x1x128 .f32) (ix5 b h c 0 d) = e d)
    (hk : ∀ i d, (V (Proc.devRef .tc main_v49) : Vec Ideal S8x8x32x64x128 .f32) (ix5 b h c i d) = k i d)
    (hg : ∀ i d, (V (Proc.devRef .tc main_v54) : Vec Ideal S8x8x32x64x128 .f32) (ix5 b h c i d) = g i d) (x : Fin 64 → Fin 128 → EReal)
    (hx : ∀ i v, (V (Proc.devRef .tc main_v51) : Vec Ideal S8x8x32x64x128 .f32) (ix5 b h c i v) = x i v) (d v : Fin 128) :
    (after hostOps0_10 V (Proc.devRef .tc main_v81_1) : Vec Ideal S32x8x8x128x128 .f32) (ix5 c b h d v)
      = ∑ i : Fin 64, (k i d * Ideal.exp (e d - g i d)) * x i v := by
  simp only [hostOps0_10]
  after_reads_at
  simp only [id]
  pointwise
  simp only [he, hk, hg, hx]
theorem s10_v81_3 (d v : Fin 128) : (after hostOps0_10 V (Proc.devRef .tc main_v81_3) : Vec Ideal S8x8x128x128 .f32) (ix4 b h d v) = (0 : EReal) := by
  simp only [hostOps0_10]
  after_reads_at
  simp only [id]
  pointwise
end six

theorem p11_v101 (b : Fin 8) (t : Fin 2048) (l : Fin 1024) (o q g : Fin 128 → EReal) (s : Fin 128 → Fin 128 → EReal) (gn : EReal)
    (ho : ∀ v, (V (Proc.devRef .tc main_v69) : Vec Ideal S8x8x32x64x128 .f32) (ix5 b ⟨l.val / 128, by omega⟩ ⟨t.val / 64, by omega⟩ ⟨t.val % 64, by omega⟩ v) = o v)
    (hq : ∀ v, (V (Proc.devRef .tc main_v47) : Vec Ideal S8x8x32x64x128 .f32) (ix5 b ⟨l.val / 128, by omega⟩ ⟨t.val / 64, by omega⟩ ⟨t.val % 64, by omega⟩ v) = q v)
    (hg : ∀ v, (V (Proc.devRef .tc main_v54) : Vec Ideal S8x8x32x64x128 .f32) (ix5 b ⟨l.val / 128, by omega⟩ ⟨t.val / 64, by omega⟩ ⟨t.val % 64, by omega⟩ v) = g v)
    (hs : ∀ d v, (V (Proc.devRef .tc main_v81_4) : Vec Ideal S32x8x8x128x128 .f32) (ix5 ⟨t.val / 64, by omega⟩ b ⟨l.val / 128, by omega⟩ d v) = s d v)
    (hgn : (V (Proc.devRef .tc main_v15) : Vec Ideal S1024 .f32) (ix1 l) = gn) :
    (after hostOps0_11 V (Proc.devRef .tc main_v101) : Vec Ideal S8x2048x1024 .f32) (ix3 b t l)
      = (o ⟨l.val % 128, Nat.mod_lt _ (by decide)⟩ + ∑ d, q d * Ideal.exp (g d) * s d ⟨l.val % 128, Nat.mod_lt _ (by decide)⟩)
        * Ideal.rsqrt (Ideal.div (∑ w, (o w + ∑ d, q d * Ideal.exp (g d) * s d w) * (o w + ∑ d, q d * Ideal.exp (g d) * s d w)) (Ideal.ofBits .f32 0x43000000#32) + Ideal.ofBits .f32 0x358637BD#32)
        * gn := by
  simp only [hostOps0_11]
  after_reads_at
  simp only [ho, hq, hg, hs, hgn]
theorem p12_v102 (b : Fin 8) (t : Fin 2048) (l : Fin 1024) (y : EReal) (hy : (V (Proc.devRef .tc main_v20) : Vec Ideal S8x2048x1024 .f32) (ix3 b t l) = y) :
    (after hostOps0_12 V (Proc.devRef .tc main_v102) : Vec Ideal S8x2048x1024 .f32) (ix3 b t l) = y * sg y := by
  simp only [hostOps0_12]
  after_reads_at
  simp only [hy]
  rfl
theorem p13_v103 (b : Fin 8) (t : Fin 2048) (l : Fin 1024) (y z : EReal) (hy : (V (Proc.devRef .tc main_v101) : Vec Ideal S8x2048x1024 .f32) (ix3 b t l) = y)
    (hz : (V (Proc.devRef .tc main_v102) : Vec Ideal S8x2048x1024 .f32) (ix3 b t l) = z) :
    (after hostOps0_13 V (Proc.devRef .tc main_v103) : Vec Ideal S8x2048x1024 .f32) (ix3 b t l) = y * z := by
  simp only [hostOps0_13]
  after_reads_at
  simp only [hy, hz]
theorem p13_v104 (b : Fin 8) (t : Fin 2048) (l : Fin 1024) (y z : EReal) (hy : (V (Proc.devRef .tc main_v22) : Vec Ideal S8x2048x1024 .f32) (ix3 b t l) = y)
    (hz : (V (Proc.devRef .tc main_v23) : Vec Ideal S8x2048x1024 .f32) (ix3 b t l) = z) :
    (after hostOps0_13 V (Proc.devRef .tc main_v104) : Vec Ideal S8x2048x1024 .f32) (ix3 b t l) = y * z := by
  simp only [hostOps0_13]
  after_reads_at
  simp only [hy, hz]
theorem p13_c : (after hostOps0_13 V (Proc.devRef .tc main_c_13) : IVec S_ 32) = fun _ => 0#32 := by
  simp only [hostOps0_13]
  after_reads_at
  rfl
theorem p14_v105 (y : Fin 8 → Nat → Nat → EReal) (hy : ∀ (b : Fin 8) (t : Fin 2048) (l : Fin 1024), (V (Proc.devRef .tc main_v104) : Vec Ideal S8x2048x1024 .f32) (ix3 b t l) = y b t.val l.val)
    (hc : V (Proc.devRef .tc main_c_13) = fun _ => 0#32) (b : Fin 8) (t : Fin 2050) (l : Fin 1024) :
    (after hostOps0_14 V (Proc.devRef .tc main_v105) : Vec Ideal S8x2050x1024 .f32) (ix3 b t l) = if 2 ≤ t.val then y b (t.val - 2) l.val else 0 := by
  simp only [hostOps0_14]
  after_reads_at
  simp only [hc, hy]
  by_cases h : 2 ≤ t.val
  · rw [dif_pos ⟨h, by omega⟩, if_pos h]
  · rw [dif_neg (fun q => h q.1), if_neg h]
    show (((0#32 : BitVec 32).toInt : ℝ) : EReal) = 0
    simp
theorem p15_v129 (b : Fin 8) (t : Fin 2048) (l : Fin 1024) (y : EReal) (hy : (V (Proc.devRef .tc main_v103) : Vec Ideal S8x2048x1024 .f32) (ix3 b t l) = y) :
    (after hostOps0_15 V (Proc.devRef .tc main_v129) : Vec Ideal S8x2048x1024 .bf16) (ix3 b t l) = y := by
  simp only [hostOps0_15]
  after_reads_at
  exact hy
theorem p15_v130 (b : Fin 8) (t : Fin 2048) (l : Fin 1024) (y : Nat → EReal) (hy : ∀ (t : Fin 2050), (V (Proc.devRef .tc main_v105) : Vec Ideal S8x2050x1024 .f32) (ix3 b t l) = y t.val)
    (w : Fin 3 → EReal) (hw : ∀ i, (V (Proc.devRef .tc main_v16) : Vec Ideal S3x1024 .f32) (ix2 i l) = w i) (z : EReal)
    (hz : (V (Proc.devRef .tc main_v21) : Vec Ideal S8x2048x1024 .f32) (ix3 b t l) = z) :
    (after hostOps0_15 V (Proc.devRef .tc main_v130) : Vec Ideal S8x2048x1024 .bf16) (ix3 b t l) = z * (y t.val * w 0 + y (1 + t.val) * w 1 + y (2 + t.val) * w 2) := by
  simp only [hostOps0_15]
  after_reads_at
  simp only [hy, hw, hz]
theorem p15_v132 (i : Fin 2048) (j : Fin 2048) (y : EReal) (hy : (V (Proc.devRef .tc main_arg4) : Vec Ideal S1x2048x2048 .f32) (ix3 0 i j) = y) :
    (after hostOps0_15 V (Proc.devRef .tc main_v132) : Vec Ideal S2048x2048 .bf16) (ix2 i j) = y := by
  simp only [hostOps0_15]
  after_reads_at
  exact hy
theorem p15_v134 (i : Fin 2048) (j : Fin 5632) (y : EReal) (hy : (V (Proc.devRef .tc main_arg5) : Vec Ideal S1x2048x5632 .f32) (ix3 0 i j) = y) :
    (after hostOps0_15 V (Proc.devRef .tc main_v134) : Vec Ideal S2048x5632 .bf16) (ix2 i j) = y := by
  simp only [hostOps0_15]
  after_reads_at
  exact hy
theorem p15_v136 (i : Fin 2048) (j : Fin 5632) (y : EReal) (hy : (V (Proc.devRef .tc main_arg6) : Vec Ideal S1x2048x5632 .f32) (ix3 0 i j) = y) :
    (after hostOps0_15 V (Proc.devRef .tc main_v136) : Vec Ideal S2048x5632 .bf16) (ix2 i j) = y := by
  simp only [hostOps0_15]
  after_reads_at
  exact hy
theorem p15_v138 (i : Fin 5632) (j : Fin 2048) (y : EReal) (hy : (V (Proc.devRef .tc main_arg7) : Vec Ideal S1x5632x2048 .f32) (ix3 0 i j) = y) :
    (after hostOps0_15 V (Proc.devRef .tc main_v138) : Vec Ideal S5632x2048 .bf16) (ix2 i j) = y := by
  simp only [hostOps0_15]
  after_reads_at
  exact hy

end Cert.ReferenceIdeal.Hand
-- ==== Proof.RefLoop.lean ====
module
public import proofs.«01_k».proof.Proof.Head
public import proofs.«01_k».proof.Proof.Gen.ReferenceIdeal.Run
public import Idealize.ShloMosaic.Lib.Pointwise
public import Idealize.ShloMosaic.Lib.DynamicIndex
public import Idealize.ShloMosaic.Lib.WordCmp
public import Idealize.ShloMosaic.Lib.StableHlo.ReadAt
@[expose] public section
set_option maxRecDepth 16384
noncomputable section

/-! The reference's loop over chunks: its carried state and its array of states before each trip. -/

namespace Cert.ReferenceIdeal.Hand
open Cert.ReferenceIdeal Cert.ReferenceIdeal.Gen Cert.ReferenceIdeal.Value
open Idealize.ShloMosaic Idealize.ShloMosaic.TcCoe Idealize.ShloMosaic.StableHlo
open Idealize.ShloMosaic.WordCmp (dynamicUpdateSlice_eq_update)

theorem iv_toInt (k : Fin 32) : (Scf.iv 0#32 1#32 k.val).toInt = (k.val : Int) := by
  revert k; decide +kernel

theorem clamp0 (k : Fin 32) : (min (max (Scf.iv 0#32 1#32 k.val).toInt 0) ((32 - 1 : Nat) : Int)).toNat = k.val := by
  rw [iv_toInt]; omega

/-- The trip's state, after its body. -/
theorem step3 (V : Valuation τ sig (Elt Ideal)) (k : Fin 32) (hk : V (Proc.devRef .tc main_v81_2) = fun _ => Scf.iv 0#32 1#32 k.val)
    (D : Fin 32 → Fin 8 → Fin 8 → Fin 128 → EReal) (hD : ∀ c b h d, (V (Proc.devRef .tc main_v81_0) : Vec Ideal S32x8x8x128 .f32) (ix4 c b h d) = D c b h d)
    (KV : Fin 32 → Fin 8 → Fin 8 → Fin 128 → Fin 128 → EReal) (hKV : ∀ c b h d v, (V (Proc.devRef .tc main_v81_1) : Vec Ideal S32x8x8x128x128 .f32) (ix5 c b h d v) = KV c b h d v)
    (S : Fin 8 → Fin 8 → Fin 128 → Fin 128 → EReal) (hS : ∀ b h d v, (V (Proc.devRef .tc main_v81_3) : Vec Ideal S8x8x128x128 .f32) (ix4 b h d v) = S b h d v)
    (b h : Fin 8) (d v : Fin 128) :
    (afterL bodyI V (Proc.devRef .tc main_v81_3) : Vec Ideal S8x8x128x128 .f32) (ix4 b h d v)
      = D k b h d * S b h d v + KV k b h d v := by
  rw [trip_main_v81_3]
  simp only [id, hk]
  pointwise
  refine congrArg₂ (· + ·) (congrArg₂ (· * ·) (Eq.trans (congrArg _ ?_) (hD k b h d)) (hS b h d v)) (Eq.trans (congrArg _ ?_) (hKV k b h d v))
  · funext a
    apply Fin.ext
    match a with
    | ⟨0, _⟩ => exact clamp0 k
    | ⟨1, _⟩ => exact Nat.zero_add _
    | ⟨2, _⟩ => exact Nat.zero_add _
    | ⟨3, _⟩ => exact Nat.zero_add _
  · funext a
    apply Fin.ext
    match a with
    | ⟨0, _⟩ => exact clamp0 k
    | ⟨1, _⟩ => exact Nat.zero_add _
    | ⟨2, _⟩ => exact Nat.zero_add _
    | ⟨3, _⟩ => exact Nat.zero_add _
    | ⟨4, _⟩ => exact Nat.zero_add _

theorem step4 (V : Valuation τ sig (Elt Ideal)) (k : Fin 32) (hk : V (Proc.devRef .tc main_v81_2) = fun _ => Scf.iv 0#32 1#32 k.val)
    (S : Fin 8 → Fin 8 → Fin 128 → Fin 128 → EReal) (hS : ∀ b h d v, (V (Proc.devRef .tc main_v81_3) : Vec Ideal S8x8x128x128 .f32) (ix4 b h d v) = S b h d v)
    (c : Fin 32) (b h : Fin 8) (d v : Fin 128) :
    (afterL bodyI V (Proc.devRef .tc main_v81_4) : Vec Ideal S32x8x8x128x128 .f32) (ix5 c b h d v)
      = if c = k then S b h d v
        else (V (Proc.devRef .tc main_v81_4) : Vec Ideal S32x8x8x128x128 .f32) (ix5 c b h d v) := by
  rw [trip_main_v81_4]
  refine (congrFun (dynamicUpdateSlice_eq_update (s := S32x8x8x128x128) (u := S1x8x8x128x128) (V (Proc.devRef .tc main_v81_4))
    (broadcastInDim S1x8x8x128x128 ![1, 2, 3, 4] bcast_S8x8x128x128_S1x8x8x128x128_1_2_3_4 (V (Proc.devRef .tc main_v81_3)))
    (fun k => (((![V (Proc.devRef .tc main_v81_2), constantI S_ 32 0#32, constantI S_ 32 0#32, constantI S_ 32 0#32, constantI S_ 32 0#32] : Fin 5 → (⟨S_, .i32⟩ : BufTy).Contents (Elt Ideal))) k (Shape.Idx.first h_S_)).toInt)
    updateFits_S32x8x8x128x128_S1x8x8x128x128 (![k.val, 0, 0, 0, 0] : Fin 5 → Nat) ⟨rfl, fun a => by
      match a with
      | ⟨0, _⟩ => show k.val + 1 ≤ 32; omega
      | ⟨1, _⟩ => show 0 + 8 ≤ 8; omega
      | ⟨2, _⟩ => show 0 + 8 ≤ 8; omega
      | ⟨3, _⟩ => show 0 + 128 ≤ 128; omega
      | ⟨4, _⟩ => show 0 + 128 ≤ 128; omega⟩ (fun a => by
      match a with
      | ⟨0, _⟩ => exact (congrArg BitVec.toInt (congrFun hk _)).trans (iv_toInt k)
      | ⟨1, _⟩ => rfl
      | ⟨2, _⟩ => rfl
      | ⟨3, _⟩ => rfl
      | ⟨4, _⟩ => rfl)) _).trans ?_
  unfold updateSlice
  split
  · next hin =>
    have h0 := hin 0
    change k.val ≤ c.val ∧ c.val < k.val + 1 at h0
    rw [if_pos (Fin.ext (by omega))]
    rw [← hS b h d v]
    refine broadcastInDim_apply _ _ _ _ _ (fun a => ?_)
    match a with
    | ⟨0, _⟩ => rfl
    | ⟨1, _⟩ => rfl
    | ⟨2, _⟩ => rfl
    | ⟨3, _⟩ => rfl
  · next hin =>
    rw [if_neg]
    rintro rfl
    apply hin
    intro a
    match a with
    | ⟨0, _⟩ => show c.val ≤ c.val ∧ c.val < c.val + 1; omega
    | ⟨1, _⟩ => show 0 ≤ b.val ∧ b.val < 0 + 8; omega
    | ⟨2, _⟩ => show 0 ≤ h.val ∧ h.val < 0 + 8; omega
    | ⟨3, _⟩ => show 0 ≤ d.val ∧ d.val < 0 + 128; omega
    | ⟨4, _⟩ => show 0 ≤ v.val ∧ v.val < 0 + 128; omega

end Cert.ReferenceIdeal.Hand
-- ==== Proof.RefVal.lean ====
module
public import proofs.«01_k».proof.Proof.RefMid
public import proofs.«01_k».proof.Proof.RefLoop
@[expose] public section
set_option maxRecDepth 16384
noncomputable section

/-! The reference's results, from the arguments. -/

namespace Cert.ReferenceIdeal.Hand
open Cert.ReferenceIdeal Cert.ReferenceIdeal.Gen Cert.ReferenceIdeal.Value Hgrn
open Idealize.ShloMosaic Idealize.ShloMosaic.TcCoe Idealize.ShloMosaic.StableHlo

abbrev W11 : List (Ref sig .tc) := [main_v82, main_v83, main_v84, main_v85, main_v86, main_v87, main_v88, main_cst_10, main_v89, main_v90, main_cst_11, main_v91, main_v92, main_cst_12, main_v93, main_v94, main_v95, main_v96, main_v97, main_v98, main_v99, main_v100, main_v101]
theorem writes11 : (hostOps0_11 : List (HloOp τ sig (Elt Ideal))).Forall fun op => op.writes ⊆ (W11.map (Proc.devRef (τ := τ) .tc)).toFinset :=
  StableHlo.forall_writes_sub_of_map rfl
abbrev W12 : List (Ref sig .tc) := [main_call8_v0, main_call8_v1, main_call8_cst, main_call8_v2, main_call8_v3, main_call8_cst_0, main_call8_v4, main_call8_v5, main_v102]
theorem writes12 : (hostOps0_12 : List (HloOp τ sig (Elt Ideal))).Forall fun op => op.writes ⊆ (W12.map (Proc.devRef (τ := τ) .tc)).toFinset :=
  StableHlo.forall_writes_sub_of_map rfl
abbrev W13 : List (Ref sig .tc) := [main_v103, main_v104, main_c_13]
theorem writes13 : (hostOps0_13 : List (HloOp τ sig (Elt Ideal))).Forall fun op => op.writes ⊆ (W13.map (Proc.devRef (τ := τ) .tc)).toFinset :=
  StableHlo.forall_writes_sub_of_map rfl
abbrev W14 : List (Ref sig .tc) := [main_call9_v0, main_v105]
theorem writes14 : (hostOps0_14 : List (HloOp τ sig (Elt Ideal))).Forall fun op => op.writes ⊆ (W14.map (Proc.devRef (τ := τ) .tc)).toFinset :=
  StableHlo.forall_writes_sub_of_map rfl

variable (m : (ℓ : Loc nD τ sig) → Buf (Elt Ideal) ℓ) (c : Dev nD)

/-- The buffers after each stretch before the loop. -/
def P0 : Valuation τ sig (Elt Ideal) := after hostOps0 (launchContents m c)
def P1 : Valuation τ sig (Elt Ideal) := after hostOps0_1 (P0 m c)
def P2 : Valuation τ sig (Elt Ideal) := after hostOps0_2 (P1 m c)
def P3 : Valuation τ sig (Elt Ideal) := after hostOps0_3 (P2 m c)
def P4 : Valuation τ sig (Elt Ideal) := after hostOps0_4 (P3 m c)
def P5 : Valuation τ sig (Elt Ideal) := after hostOps0_5 (P4 m c)
def P6 : Valuation τ sig (Elt Ideal) := after hostOps0_6 (P5 m c)
def P7 : Valuation τ sig (Elt Ideal) := after hostOps0_7 (P6 m c)
def P8 : Valuation τ sig (Elt Ideal) := after hostOps0_8 (P7 m c)
def P9 : Valuation τ sig (Elt Ideal) := after hostOps0_9 (P8 m c)
def P10 : Valuation τ sig (Elt Ideal) := after hostOps0_10 (P9 m c)
theorem entry_eq : entryContents preI m c = P10 m c := rfl
theorem k0 {r : Ref sig .tc} (h : r ∉ hostOps0_W) : P0 m c (Proc.devRef .tc r) = launchContents m c (Proc.devRef .tc r) :=
  after_of_writes_sub hostOps0 _ hostOps0_writes h
theorem k1 {r : Ref sig .tc} (h : r ∉ hostOps0_1_W) : P1 m c (Proc.devRef .tc r) = P0 m c (Proc.devRef .tc r) :=
  after_of_writes_sub hostOps0_1 _ hostOps0_1_writes h
theorem k2 {r : Ref sig .tc} (h : r ∉ hostOps0_2_W) : P2 m c (Proc.devRef .tc r) = P1 m c (Proc.devRef .tc r) :=
  after_of_writes_sub hostOps0_2 _ hostOps0_2_writes h
theorem k3 {r : Ref sig .tc} (h : r ∉ hostOps0_3_W) : P3 m c (Proc.devRef .tc r) = P2 m c (Proc.devRef .tc r) :=
  after_of_writes_sub hostOps0_3 _ hostOps0_3_writes h
theorem k4 {r : Ref sig .tc} (h : r ∉ hostOps0_4_W) : P4 m c (Proc.devRef .tc r) = P3 m c (Proc.devRef .tc r) :=
  after_of_writes_sub hostOps0_4 _ hostOps0_4_writes h
theorem k5 {r : Ref sig .tc} (h : r ∉ hostOps0_5_W) : P5 m c (Proc.devRef .tc r) = P4 m c (Proc.devRef .tc r) :=
  after_of_writes_sub hostOps0_5 _ hostOps0_5_writes h
theorem k6 {r : Ref sig .tc} (h : r ∉ hostOps0_6_W) : P6 m c (Proc.devRef .tc r) = P5 m c (Proc.devRef .tc r) :=
  after_of_writes_sub hostOps0_6 _ hostOps0_6_writes h
theorem k7 {r : Ref sig .tc} (h : r ∉ hostOps0_7_W) : P7 m c (Proc.devRef .tc r) = P6 m c (Proc.devRef .tc r) :=
  after_of_writes_sub hostOps0_7 _ hostOps0_7_writes h
theorem k8 {r : Ref sig .tc} (h : r ∉ hostOps0_8_W) : P8 m c (Proc.devRef .tc r) = P7 m c (Proc.devRef .tc r) :=
  after_of_writes_sub hostOps0_8 _ hostOps0_8_writes h
theorem k9 {r : Ref sig .tc} (h : r ∉ hostOps0_9_W) : P9 m c (Proc.devRef .tc r) = P8 m c (Proc.devRef .tc r) :=
  after_of_writes_sub hostOps0_9 _ hostOps0_9_writes h
theorem k10 {r : Ref sig .tc} (h : r ∉ hostOps0_10_W) : P10 m c (Proc.devRef .tc r) = P9 m c (Proc.devRef .tc r) :=
  after_of_writes_sub hostOps0_10 _ hostOps0_10_writes h

/-- A buffer that no stretch before the loop writes. -/
theorem kAll {r : Ref sig .tc} (h : r ∉ hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W) :
    P10 m c (Proc.devRef .tc r) = launchContents m c (Proc.devRef .tc r) := by
  simp only [List.mem_append, not_or] at h
  obtain ⟨⟨⟨⟨⟨⟨⟨⟨⟨⟨h0, h1⟩, h2⟩, h3⟩, h4⟩, h5⟩, h6⟩, h7⟩, h8⟩, h9⟩, h10⟩ := h
  rw [k10 m c h10, k9 m c h9, k8 m c h8, k7 m c h7, k6 m c h6, k5 m c h5, k4 m c h4, k3 m c h3, k2 m c h2, k1 m c h1, k0 m c h0]
/-- A buffer that the stretches from the fourth on leave alone. -/
theorem k3to10 {r : Ref sig .tc} (h : r ∉ hostOps0_3_W ++ hostOps0_4_W ++ hostOps0_5_W ++ hostOps0_6_W ++ hostOps0_7_W ++ hostOps0_8_W ++ hostOps0_9_W ++ hostOps0_10_W) :
    P10 m c (Proc.devRef .tc r) = P2 m c (Proc.devRef .tc r) := by
  simp only [List.mem_append, not_or] at h
  obtain ⟨⟨⟨⟨⟨⟨⟨h3, h4⟩, h5⟩, h6⟩, h7⟩, h8⟩, h9⟩, h10⟩ := h
  rw [k10 m c h10, k9 m c h9, k8 m c h8, k7 m c h7, k6 m c h6, k5 m c h5, k4 m c h4, k3 m c h3]
theorem k5to9 {r : Ref sig .tc} (h : r ∉ hostOps0_5_W ++ hostOps0_6_W ++ hostOps0_7_W ++ hostOps0_8_W ++ hostOps0_9_W) :
    P9 m c (Proc.devRef .tc r) = P4 m c (Proc.devRef .tc r) := by
  simp only [List.mem_append, not_or] at h
  obtain ⟨⟨⟨⟨h5, h6⟩, h7⟩, h8⟩, h9⟩ := h
  rw [k9 m c h9, k8 m c h8, k7 m c h7, k6 m c h6, k5 m c h5]
theorem k6to9 {r : Ref sig .tc} (h : r ∉ hostOps0_6_W ++ hostOps0_7_W ++ hostOps0_8_W ++ hostOps0_9_W) :
    P9 m c (Proc.devRef .tc r) = P5 m c (Proc.devRef .tc r) := by
  simp only [List.mem_append, not_or] at h
  obtain ⟨⟨⟨h6, h7⟩, h8⟩, h9⟩ := h
  rw [k9 m c h9, k8 m c h8, k7 m c h7, k6 m c h6]
theorem k7to9 {r : Ref sig .tc} (h : r ∉ hostOps0_7_W ++ hostOps0_8_W ++ hostOps0_9_W) :
    P9 m c (Proc.devRef .tc r) = P6 m c (Proc.devRef .tc r) := by
  simp only [List.mem_append, not_or] at h
  obtain ⟨⟨h7, h8⟩, h9⟩ := h
  rw [k9 m c h9, k8 m c h8, k7 m c h7]

section vals
variable (U : Nat → Nat → EReal) (hU : ∀ (r : Fin 16384) (l : Fin 7168), (launchContents m c (Proc.devRef .tc main_arg0) : Vec Ideal S16384x7168 .f32) (ix2 r l) = U r.val l.val)
  (T : Fin 3 → Nat → EReal) (hT : ∀ (x : Fin 3) (l : Fin 1024), (launchContents m c (Proc.devRef .tc main_arg1) : Vec Ideal S3x1024 .f32) (ix2 x l) = T x l.val)

/-- The forget gate's floor at a lane. -/
def lb (T : Fin 3 → Nat → EReal) (l : Nat) : EReal := Ideal.div (ev T 0 l) (∑ y : Fin 3, ev T y l)

include hU in
theorem f1_v0 (b : Fin 8) (t : Fin 2048) (l : Fin 7168) : (P1 m c (Proc.devRef .tc main_v0) : Vec Ideal S8x2048x7168 .f32) (ix3 b t l) = (fun b t l => U (2048 * b + t) l) b.val t.val l.val := by
  rw [k1 m c (by decide)]
  exact s0_v0 _ U hU b t l
include hT in
theorem f1_v12 (l : Fin 1024) : (P1 m c (Proc.devRef .tc main_v12) : Vec Ideal S3x1024 .f32) (ix2 0 l) = lb T l.val :=
  s1_v12 _ l _ (s0_v11 _ T hT 0 l)
include hU hT in
theorem f3_v37 (b : Fin 8) (t : Fin 2048) (l : Fin 1024) : (P3 m c (Proc.devRef .tc main_v37) : Vec Ideal S8x2048x1024 .f32) (ix3 b t l)
    = (fun b t l => lb T l + (1 - lb T l) * sg (U (2048 * b + t) (1024 + l))) b.val t.val l.val := by
  rw [k3 m c (by decide)]
  exact s2_v37 _ (fun b t l => U (2048 * b + t) l) (f1_v0 m c U hU) _ (f1_v12 m c T hT) b t l
include hU in
theorem f3_v38 (b : Fin 8) (t : Fin 2048) (l : Fin 1024) : (P3 m c (Proc.devRef .tc main_v38) : Vec Ideal S8x2048x1024 .f32) (ix3 b t l)
    = (fun b t l => U (2048 * b + t) l * sg (U (2048 * b + t) l)) b.val t.val l.val :=
  s3_v38 _ b t l _ (s2_v17 _ (fun b t l => U (2048 * b + t) l) (f1_v0 m c U hU) b t l)
include hU in
theorem f3_v19 (b : Fin 8) (t : Fin 2048) (l : Fin 1024) : (P3 m c (Proc.devRef .tc main_v19) : Vec Ideal S8x2048x1024 .f32) (ix3 b t l)
    = (fun b t l => U (2048 * b + t) (2048 + l)) b.val t.val l.val := by
  rw [k3 m c (by decide)]
  exact s2_v19 _ (fun b t l => U (2048 * b + t) l) (f1_v0 m c U hU) b t l

variable (b h : Fin 8) (cc : Fin 32)

theorem lane (X : Nat → Nat → EReal) (r l r' l' : Nat) (hr : r = r') (hl : l = l') : X r l = X r' l' := by rw [hr, hl]

include hU in
theorem f4_v47 (i : Fin 64) (d : Fin 128) : (P4 m c (Proc.devRef .tc main_v47) : Vec Ideal S8x8x32x64x128 .f32) (ix5 b h cc i d)
    = qq (chan U b.val 0 h.val) (64 * cc.val + i.val) d := by
  refine (s4_v47 _ (fun b t l => U (2048 * b + t) l * sg (U (2048 * b + t) l)) (f3_v38 m c U hU) b h cc i d).trans ?_
  show U _ _ * sg (U _ _) = U _ _ * sg (U _ _)
  rw [lane U _ _ (2048 * b.val + (64 * cc.val + i.val)) (0 + 128 * h.val + d.val) (by omega) (by omega)]
include hU in
theorem f4_v51 (i : Fin 64) (d : Fin 128) : (P4 m c (Proc.devRef .tc main_v51) : Vec Ideal S8x8x32x64x128 .f32) (ix5 b h cc i d)
    = chan U b.val 2048 h.val (64 * cc.val + i.val) d := by
  refine (s4_v51 _ (fun b t l => U (2048 * b + t) (2048 + l)) (f3_v19 m c U hU) b h cc i d).trans ?_
  exact lane U _ _ (2048 * b.val + (64 * cc.val + i.val)) (2048 + 128 * h.val + d.val) (by omega) (by omega)

theorem gate (i : Fin 64) (d : Fin 128) : (fun b t l => lb T l + (1 - lb T l) * sg (U (2048 * b + t) (1024 + l))) b.val (cc.val * 64 + i.val) (h.val * 128 + d.val)
    = fg (lbf T h.val) (chan U b.val 1024 h.val) (64 * cc.val + i.val) d := by
  show lb T (h.val * 128 + d.val) + (1 - lb T (h.val * 128 + d.val)) * sg (U _ _) = lb T (128 * h.val + d.val) + (1 - lb T (128 * h.val + d.val)) * sg (U _ _)
  rw [lane U _ _ (2048 * b.val + (64 * cc.val + i.val)) (1024 + 128 * h.val + d.val) (by omega) (by omega), show h.val * 128 + d.val = 128 * h.val + d.val by omega]
include hU hT in
theorem f4_v49 (i : Fin 64) (d : Fin 128) : (P4 m c (Proc.devRef .tc main_v49) : Vec Ideal S8x8x32x64x128 .f32) (ix5 b h cc i d)
    = kk (lbf T h.val) (chan U b.val 1024 h.val) (64 * cc.val + i.val) d :=
  (s4_v49 _ (fun b t l => lb T l + (1 - lb T l) * sg (U (2048 * b + t) (1024 + l))) (f3_v37 m c U hU T hT) b h cc i d).trans (congrArg (fun x => 1 - x) (gate U T b h cc i d))
include hU hT in
theorem f4_v53 (i : Fin 64) (d : Fin 128) : (P4 m c (Proc.devRef .tc main_v53) : Vec Ideal S8x8x32x64x128 .f32) (ix5 b h cc i d)
    = lf (lbf T h.val) (chan U b.val 1024 h.val) (64 * cc.val + i.val) d :=
  (s4_v53 _ (fun b t l => lb T l + (1 - lb T l) * sg (U (2048 * b + t) (1024 + l))) (f3_v37 m c U hU T hT) b h cc i d).trans (congrArg Ideal.log (gate U T b h cc i d))
include hU hT in
theorem f5_v54 (i : Fin 64) (d : Fin 128) : (P5 m c (Proc.devRef .tc main_v54) : Vec Ideal S8x8x32x64x128 .f32) (ix5 b h cc i d)
    = cum (lbf T h.val) (chan U b.val 1024 h.val) cc.val i d :=
  s5_v54 _ b h cc i d _ fun j => f4_v53 m c U hU T hT b h cc j d
include hU in
theorem f9_v47 (i : Fin 64) (d : Fin 128) : (P9 m c (Proc.devRef .tc main_v47) : Vec Ideal S8x8x32x64x128 .f32) (ix5 b h cc i d)
    = qq (chan U b.val 0 h.val) (64 * cc.val + i.val) d := by
  rw [k5to9 m c (by decide)]; exact f4_v47 m c U hU b h cc i d
include hU in
theorem f9_v51 (i : Fin 64) (d : Fin 128) : (P9 m c (Proc.devRef .tc main_v51) : Vec Ideal S8x8x32x64x128 .f32) (ix5 b h cc i d)
    = chan U b.val 2048 h.val (64 * cc.val + i.val) d := by
  rw [k5to9 m c (by decide)]; exact f4_v51 m c U hU b h cc i d
include hU hT in
theorem f9_v49 (i : Fin 64) (d : Fin 128) : (P9 m c (Proc.devRef .tc main_v49) : Vec Ideal S8x8x32x64x128 .f32) (ix5 b h cc i d)
    = kk (lbf T h.val) (chan U b.val 1024 h.val) (64 * cc.val + i.val) d := by
  rw [k5to9 m c (by decide)]; exact f4_v49 m c U hU T hT b h cc i d
include hU hT in
theorem f9_v54 (i : Fin 64) (d : Fin 128) : (P9 m c (Proc.devRef .tc main_v54) : Vec Ideal S8x8x32x64x128 .f32) (ix5 b h cc i d)
    = cum (lbf T h.val) (chan U b.val 1024 h.val) cc.val i d := by
  rw [k6to9 m c (by decide)]; exact f5_v54 m c U hU T hT b h cc i d
include hU hT in
theorem f9_v56 (d : Fin 128) : (P9 m c (Proc.devRef .tc main_v56) : Vec Ideal S8x8x32x1x128 .f32) (ix5 b h cc 0 d)
    = cum (lbf T h.val) (chan U b.val 1024 h.val) cc.val 63 d := by
  rw [k7to9 m c (by decide)]; exact s6_v56 _ b h cc _ (f5_v54 m c U hU T hT b h cc) d
include hU hT in
theorem f9_v68 (i j : Fin 64) : (P9 m c (Proc.devRef .tc main_v68) : Vec Ideal S8x8x32x64x64 .f32) (ix5 b h cc i j)
    = if j ≤ i then ∑ d : Fin 128, qe (lbf T h.val) (chan U b.val 1024 h.val) (chan U b.val 0 h.val) cc.val i d * ke (lbf T h.val) (chan U b.val 1024 h.val) cc.val j d else 0 := by
  refine s9_v68 _ b h cc i j _ ?_ ?_ (s8_cst _)
  · rw [k8 m c (by decide), k7 m c (by decide)]
    exact s6_v65 _ b h cc _ _ _ (fun i d => (congrFun (k5 m c (by decide)) _).trans (f4_v47 m c U hU b h cc i d))
      (fun i d => (congrFun (k5 m c (by decide)) _).trans (f4_v49 m c U hU T hT b h cc i d)) (f5_v54 m c U hU T hT b h cc) i j
  · rw [k8 m c (by decide)]
    exact s7_v67 _ (s6_v66 _) i j
include hU hT in
theorem f10_v69 (i : Fin 64) (v : Fin 128) : (P10 m c (Proc.devRef .tc main_v69) : Vec Ideal S8x8x32x64x128 .f32) (ix5 b h cc i v)
    = intra (lbf T h.val) (chan U b.val 1024 h.val) (chan U b.val 0 h.val) (chan U b.val 2048 h.val) cc.val i v :=
  s10_v69 _ b h cc _ _ (f9_v68 m c U hU T hT b h cc) (f9_v51 m c U hU b h cc) i v
include hU hT in
theorem f10_v81_0 (d : Fin 128) : (P10 m c (Proc.devRef .tc main_v81_0) : Vec Ideal S32x8x8x128 .f32) (ix4 cc b h d)
    = Ideal.exp (cum (lbf T h.val) (chan U b.val 1024 h.val) cc.val 63 d) :=
  s10_v81_0 _ b h cc _ (f9_v56 m c U hU T hT b h cc) d
include hU hT in
theorem f10_v81_1 (d v : Fin 128) : (P10 m c (Proc.devRef .tc main_v81_1) : Vec Ideal S32x8x8x128x128 .f32) (ix5 cc b h d v)
    = kv (lbf T h.val) (chan U b.val 1024 h.val) (chan U b.val 2048 h.val) cc.val v d := by
  refine (s10_v81_1 _ b h cc _ _ _ (f9_v56 m c U hU T hT b h cc) (f9_v49 m c U hU T hT b h cc) (f9_v54 m c U hU T hT b h cc) _ (f9_v51 m c U hU b h cc) d v).trans ?_
  show (∑ i : Fin 64, (_ : EReal)) = ∑ i : Fin 64, (_ : EReal)
  exact Finset.sum_congr rfl fun i _ => EReal.mul_comm _ _
end vals

/-! ### Through the loop -/

theorem kTrip {r : Ref sig .tc} (V : Valuation τ sig (Elt Ideal)) (h : r ∉ condOps_W ++ while0Ops0_W ++ while0Ops0_1_W ++ while0Ops0_2_W ++ while0Ops0_3_W ++ while0Ops0_4_W) :
    afterL bodyI (after condOps V) (Proc.devRef .tc r) = V (Proc.devRef .tc r) := by
  simp only [List.mem_append, not_or] at h
  obtain ⟨⟨⟨⟨⟨h0, h1⟩, h2⟩, h3⟩, h4⟩, h5⟩ := h
  simp only [bodyI, afterL_cons, afterL_nil]
  rw [after_of_writes_sub _ _ while0Ops0_4_writes h5, after_of_writes_sub _ _ while0Ops0_3_writes h4, after_of_writes_sub _ _ while0Ops0_2_writes h3,
    after_of_writes_sub _ _ while0Ops0_1_writes h2, after_of_writes_sub _ _ while0Ops0_writes h1, after_of_writes_sub _ _ condOps_writes h0]
theorem kLoop {r : Ref sig .tc} (h : r ∉ condOps_W ++ while0Ops0_W ++ while0Ops0_1_W ++ while0Ops0_2_W ++ while0Ops0_3_W ++ while0Ops0_4_W) :
    ∀ k, atK m k c (Proc.devRef .tc r) = P10 m c (Proc.devRef .tc r)
  | 0 => rfl
  | k + 1 => (kTrip (atK m k c) h).trans (kLoop h k)

theorem inv (D : Fin 32 → Fin 8 → Fin 8 → Fin 128 → EReal) (hD : ∀ c' b h d, (P10 m c (Proc.devRef .tc main_v81_0) : Vec Ideal S32x8x8x128 .f32) (ix4 c' b h d) = D c' b h d)
    (KV : Fin 32 → Fin 8 → Fin 8 → Fin 128 → Fin 128 → EReal) (hKV : ∀ c' b h d v, (P10 m c (Proc.devRef .tc main_v81_1) : Vec Ideal S32x8x8x128x128 .f32) (ix5 c' b h d v) = KV c' b h d v)
    (S : Nat → Fin 8 → Fin 8 → Fin 128 → Fin 128 → EReal) (hS0 : ∀ b h d v, S 0 b h d v = 0)
    (hS : ∀ (k : Fin 32) b h d v, S (k.val + 1) b h d v = D k b h d * S k.val b h d v + KV k b h d v) :
    ∀ k, k ≤ 32 → (∀ c' b h d, (atK m k c (Proc.devRef .tc main_v81_0) : Vec Ideal S32x8x8x128 .f32) (ix4 c' b h d) = D c' b h d)
      ∧ (∀ c' b h d v, (atK m k c (Proc.devRef .tc main_v81_1) : Vec Ideal S32x8x8x128x128 .f32) (ix5 c' b h d v) = KV c' b h d v)
      ∧ (∀ b h d v, (atK m k c (Proc.devRef .tc main_v81_3) : Vec Ideal S8x8x128x128 .f32) (ix4 b h d v) = S k b h d v)
      ∧ (∀ (c' : Fin 32) b h d v, c'.val < k → (atK m k c (Proc.devRef .tc main_v81_4) : Vec Ideal S32x8x8x128x128 .f32) (ix5 c' b h d v) = S c'.val b h d v)
  | 0, _ => ⟨hD, hKV, fun b h d v => (s10_v81_3 (P9 m c) b h d v).trans (hS0 b h d v).symm, fun c' _ _ _ _ h => absurd h (Nat.not_lt_zero _)⟩
  | k + 1, hk => by
    obtain ⟨h0, h1, h3, h4⟩ := inv D hD KV hKV S hS0 hS k (by omega)
    have kc : ∀ {r : Ref sig .tc}, r ∉ condOps_W → after condOps (atK m k c) (Proc.devRef .tc r) = atK m k c (Proc.devRef .tc r) :=
      fun hr => after_of_writes_sub _ _ condOps_writes hr
    have hctr : after condOps (atK m k c) (Proc.devRef .tc main_v81_2) = fun _ => Scf.iv 0#32 1#32 (⟨k, by omega⟩ : Fin 32).val :=
      (kc (by decide)).trans (atK_ctr m c k)
    have h3' : ∀ b h d v, (after condOps (atK m k c) (Proc.devRef .tc main_v81_3) : Vec Ideal S8x8x128x128 .f32) (ix4 b h d v) = S k b h d v :=
      fun b h d v => (congrFun (kc (by decide)) _).trans (h3 b h d v)
    refine ⟨fun c' b h d => ?_, fun c' b h d v => ?_, fun b h d v => ?_, fun c' b h d v hc => ?_⟩
    · exact (congrFun ((trip_main_v81_0 (after condOps (atK m k c))).trans (kc (by decide))) _).trans (h0 c' b h d)
    · exact (congrFun ((trip_main_v81_1 (after condOps (atK m k c))).trans (kc (by decide))) _).trans (h1 c' b h d v)
    · rw [hS ⟨k, by omega⟩]
      exact step3 (after condOps (atK m k c)) ⟨k, by omega⟩ hctr D (fun c' b h d => (congrFun (kc (by decide)) _).trans (h0 c' b h d)) KV
        (fun c' b h d v => (congrFun (kc (by decide)) _).trans (h1 c' b h d v)) (S k) h3' b h d v
    · refine (step4 (after condOps (atK m k c)) ⟨k, by omega⟩ hctr (S k) h3' c' b h d v).trans ?_
      by_cases e : c' = ⟨k, by omega⟩
      · rw [if_pos e, e]
      · rw [if_neg e]
        exact (congrFun (kc (by decide)) _).trans (h4 c' b h d v (by
          have : c'.val ≠ k := fun q => e (Fin.ext q)
          omega))

/-- The buffers at the loop's end, and after the stretches behind it. -/
def L : Valuation τ sig (Elt Ideal) := after condOps (atK m 32 c)
def Q11 : Valuation τ sig (Elt Ideal) := after hostOps0_11 (L m c)
def Q12 : Valuation τ sig (Elt Ideal) := after hostOps0_12 (Q11 m c)
def Q13 : Valuation τ sig (Elt Ideal) := after hostOps0_13 (Q12 m c)
def Q14 : Valuation τ sig (Elt Ideal) := after hostOps0_14 (Q13 m c)
theorem final_eq : finalContents condOps preI bodyI postI 32 m c = after hostOps0_15 (Q14 m c) := rfl
theorem kL {r : Ref sig .tc} (h : r ∉ condOps_W ++ while0Ops0_W ++ while0Ops0_1_W ++ while0Ops0_2_W ++ while0Ops0_3_W ++ while0Ops0_4_W) :
    L m c (Proc.devRef .tc r) = P10 m c (Proc.devRef .tc r) :=
  (after_of_writes_sub _ _ condOps_writes (fun q => h (by simp only [List.mem_append]; exact Or.inl (Or.inl (Or.inl (Or.inl (Or.inl q))))))).trans (kLoop m c h 32)
theorem q11 {r : Ref sig .tc} (h : r ∉ W11) : Q11 m c (Proc.devRef .tc r) = L m c (Proc.devRef .tc r) := after_of_writes_sub _ _ writes11 h
theorem q12 {r : Ref sig .tc} (h : r ∉ W12) : Q12 m c (Proc.devRef .tc r) = Q11 m c (Proc.devRef .tc r) := after_of_writes_sub _ _ writes12 h
theorem q13 {r : Ref sig .tc} (h : r ∉ W13) : Q13 m c (Proc.devRef .tc r) = Q12 m c (Proc.devRef .tc r) := after_of_writes_sub _ _ writes13 h
theorem q14 {r : Ref sig .tc} (h : r ∉ W14) : Q14 m c (Proc.devRef .tc r) = Q13 m c (Proc.devRef .tc r) := after_of_writes_sub _ _ writes14 h

section res
variable (U : Nat → Nat → EReal) (hU : ∀ (r : Fin 16384) (l : Fin 7168), (launchContents m c (Proc.devRef .tc main_arg0) : Vec Ideal S16384x7168 .f32) (ix2 r l) = U r.val l.val)
  (T : Fin 3 → Nat → EReal) (hT : ∀ (x : Fin 3) (l : Fin 1024), (launchContents m c (Proc.devRef .tc main_arg1) : Vec Ideal S3x1024 .f32) (ix2 x l) = T x l.val)

include hU hT in
theorem slots (b h : Fin 8) (cc : Fin 32) (d v : Fin 128) : (L m c (Proc.devRef .tc main_v81_4) : Vec Ideal S32x8x8x128x128 .f32) (ix5 cc b h d v)
    = St (lbf T h.val) (chan U b.val 1024 h.val) (chan U b.val 2048 h.val) cc.val v d :=
  (congrFun (after_of_writes_sub (r := main_v81_4) condOps _ condOps_writes (by decide)) _).trans
    ((inv m c _ (fun c' b h d => f10_v81_0 m c U hU T hT b h c' d) _ (fun c' b h d v => f10_v81_1 m c U hU T hT b h c' d v)
      (fun k b h d v => St (lbf T h.val) (chan U b.val 1024 h.val) (chan U b.val 2048 h.val) k v d) (fun _ _ _ _ => rfl) (fun _ _ _ _ _ => rfl) 32 (le_refl _)).2.2.2
      cc b h d v cc.isLt)

include hU hT in
theorem res_A (Gn : Nat → EReal) (hG : ∀ l : Fin 1024, (launchContents m c (Proc.devRef .tc main_arg2) : Vec Ideal S1x1024 .f32) (ix2 0 l) = Gn l.val)
    (b : Fin 8) (t : Fin 2048) (l : Fin 1024) :
    (finalContents condOps preI bodyI postI 32 m c (Proc.devRef .tc main_v129) : Vec Ideal S8x2048x1024 .bf16) (ix3 b t l) = aVal U T Gn b.val t.val l.val := by
  rw [final_eq]
  refine p15_v129 _ b t l _ ?_
  rw [q14 m c (by decide)]
  refine (p13_v103 _ b t l (nrm (lbf T (l.val / 128)) (fun d => Gn (128 * (l.val / 128) + d.val)) (chan U b.val 1024 (l.val / 128)) (chan U b.val 0 (l.val / 128)) (chan U b.val 2048 (l.val / 128)) (t.val / 64) ⟨t.val % 64, Nat.mod_lt _ (by decide)⟩ ⟨l.val % 128, Nat.mod_lt _ (by decide)⟩) _ ?_ (p12_v102 _ b t l (U (2048 * b.val + t.val) (3072 + l.val)) ?_)).trans ?_
  rotate_left
  · rw [q11 m c (by decide), kL m c (by decide), k3to10 m c (by decide)]
    exact s2_v20 _ (fun b t l => U (2048 * b + t) l) (f1_v0 m c U hU) b t l
  rotate_left
  · refine (congrFun (q12 m c (by decide)) _).trans ?_
    have e1 : 128 * (l.val / 128) + l.val % 128 = l.val := by omega
    refine (p11_v101 _ b t l
      (intra (lbf T (l.val / 128)) (chan U b.val 1024 (l.val / 128)) (chan U b.val 0 (l.val / 128)) (chan U b.val 2048 (l.val / 128)) (t.val / 64) ⟨t.val % 64, Nat.mod_lt _ (by decide)⟩)
      (qq (chan U b.val 0 (l.val / 128)) (64 * (t.val / 64) + t.val % 64))
      (cum (lbf T (l.val / 128)) (chan U b.val 1024 (l.val / 128)) (t.val / 64) ⟨t.val % 64, Nat.mod_lt _ (by decide)⟩)
      (fun d v => St (lbf T (l.val / 128)) (chan U b.val 1024 (l.val / 128)) (chan U b.val 2048 (l.val / 128)) (t.val / 64) v d) (Gn l.val)
      (fun v => ?_) (fun v => ?_) (fun v => ?_) (fun d v => ?_) ?_).trans ?_
    · rw [kL m c (by decide)]
      exact f10_v69 m c U hU T hT _ _ _ _ v
    · rw [kL m c (by decide), k10 m c (by decide)]
      exact f9_v47 m c U hU _ _ _ _ v
    · rw [kL m c (by decide), k10 m c (by decide)]
      exact f9_v54 m c U hU T hT _ _ _ _ v
    · exact slots m c U hU T hT _ _ _ d v
    · rw [kL m c (by decide), k3to10 m c (by decide)]
      refine s2_v15 _ l _ ?_
      rw [k1 m c (by decide), k0 m c (by decide)]
      exact hG l
    · unfold nrm
      exact congrArg₂ (fun x y : EReal => x * y) rfl (congrArg Gn e1.symm)
  · have e2 : 64 * (t.val / 64) + t.val % 64 = t.val := by omega
    refine congrArg₂ (fun x y : EReal => x * y) rfl ?_
    show _ = U (2048 * b.val + (64 * (t.val / 64) + t.val % 64)) (3072 + 128 * (l.val / 128) + l.val % 128) * sg (U (2048 * b.val + (64 * (t.val / 64) + t.val % 64)) (3072 + 128 * (l.val / 128) + l.val % 128))
    rw [e2, show 3072 + 128 * (l.val / 128) + l.val % 128 = 3072 + l.val by omega]

include hU in
theorem res_B (CW : Fin 3 → Nat → EReal) (hC : ∀ (i : Fin 3) (l : Fin 1024), (launchContents m c (Proc.devRef .tc main_arg3) : Vec Ideal S1x3x1024 .f32) (ix3 0 i l) = CW i l.val)
    (b : Fin 8) (t : Fin 2048) (l : Fin 1024) :
    (finalContents condOps preI bodyI postI 32 m c (Proc.devRef .tc main_v130) : Vec Ideal S8x2048x1024 .bf16) (ix3 b t l) = bVal U CW b.val t.val l.val := by
  rw [final_eq]
  refine (p15_v130 _ b t l (fun s => if 2 ≤ s then (fun (b : Fin 8) t l => U (2048 * b.val + t) (5120 + l) * U (2048 * b.val + t) (6144 + l)) b (s - 2) l.val else 0) (fun s => ?_)
    (fun i => CW i l.val) (fun i => ?_) (U (2048 * b.val + t.val) (4096 + l.val)) ?_).trans ?_
  · refine p14_v105 _ (fun (b : Fin 8) t l => U (2048 * b.val + t) (5120 + l) * U (2048 * b.val + t) (6144 + l)) (fun b t l => p13_v104 _ b t l _ _ ?_ ?_) (p13_c _) b s l
    · rw [q12 m c (by decide), q11 m c (by decide), kL m c (by decide), k3to10 m c (by decide)]
      exact s2_v22 _ (fun b t l => U (2048 * b + t) l) (f1_v0 m c U hU) b t l
    · rw [q12 m c (by decide), q11 m c (by decide), kL m c (by decide), k3to10 m c (by decide)]
      exact s2_v23 _ (fun b t l => U (2048 * b + t) l) (f1_v0 m c U hU) b t l
  · rw [q14 m c (by decide), q13 m c (by decide), q12 m c (by decide), q11 m c (by decide), kL m c (by decide), k3to10 m c (by decide)]
    refine s2_v16 _ i l _ ?_
    rw [k1 m c (by decide), k0 m c (by decide)]
    exact hC i l
  · rw [q14 m c (by decide), q13 m c (by decide), q12 m c (by decide), q11 m c (by decide), kL m c (by decide), k3to10 m c (by decide)]
    exact s2_v21 _ (fun b t l => U (2048 * b + t) l) (f1_v0 m c U hU) b t l
  · unfold bVal
    congr 1
    dsimp only
    rw [if_pos (show 2 ≤ 2 + t.val by omega), show 2 + t.val - 2 = t.val by omega]
    have e1 : (if 2 ≤ 1 + t.val then U (2048 * b.val + (1 + t.val - 2)) (5120 + l.val) * U (2048 * b.val + (1 + t.val - 2)) (6144 + l.val) else 0) * CW 1 l.val
        = if 1 ≤ t.val then U (2048 * b.val + (t.val - 1)) (5120 + l.val) * U (2048 * b.val + (t.val - 1)) (6144 + l.val) * CW 1 l.val else 0 := by
      by_cases q : 1 ≤ t.val
      · rw [if_pos (show 2 ≤ 1 + t.val by omega), if_pos q, show 1 + t.val - 2 = t.val - 1 by omega]
      · rw [if_neg (show ¬ 2 ≤ 1 + t.val by omega), if_neg q, zero_mul]
    have e0 : (if 2 ≤ t.val then U (2048 * b.val + (t.val - 2)) (5120 + l.val) * U (2048 * b.val + (t.val - 2)) (6144 + l.val) else 0) * CW 0 l.val
        = if 2 ≤ t.val then U (2048 * b.val + (t.val - 2)) (5120 + l.val) * U (2048 * b.val + (t.val - 2)) (6144 + l.val) * CW 0 l.val else 0 := by
      by_cases q : 2 ≤ t.val
      · rw [if_pos q, if_pos q]
      · rw [if_neg q, if_neg q, zero_mul]
    rw [e1, e0, add_comm, ← add_assoc, add_right_comm]
end res

theorem kFin {r : Ref sig .tc} (h : r ∉ hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W)
    (h' : r ∉ condOps_W ++ while0Ops0_W ++ while0Ops0_1_W ++ while0Ops0_2_W ++ while0Ops0_3_W ++ while0Ops0_4_W) (h11 : r ∉ W11) (h12 : r ∉ W12) (h13 : r ∉ W13) (h14 : r ∉ W14) :
    Q14 m c (Proc.devRef .tc r) = launchContents m c (Proc.devRef .tc r) := by
  rw [q14 m c h14, q13 m c h13, q12 m c h12, q11 m c h11, kL m c h', kAll m c h]
theorem res_O (i : Fin 2048) (j : Fin 2048) (y : EReal) (hy : (launchContents m c (Proc.devRef .tc main_arg4) : Vec Ideal S1x2048x2048 .f32) (ix3 0 i j) = y) :
    (finalContents condOps preI bodyI postI 32 m c (Proc.devRef .tc main_v132) : Vec Ideal S2048x2048 .bf16) (ix2 i j) = y := by
  rw [final_eq]
  exact p15_v132 _ i j y ((congrFun (kFin m c (by decide) (by decide) (by decide) (by decide) (by decide) (by decide)) _).trans hy)
theorem res_G (i : Fin 2048) (j : Fin 5632) (y : EReal) (hy : (launchContents m c (Proc.devRef .tc main_arg5) : Vec Ideal S1x2048x5632 .f32) (ix3 0 i j) = y) :
    (finalContents condOps preI bodyI postI 32 m c (Proc.devRef .tc main_v134) : Vec Ideal S2048x5632 .bf16) (ix2 i j) = y := by
  rw [final_eq]
  exact p15_v134 _ i j y ((congrFun (kFin m c (by decide) (by decide) (by decide) (by decide) (by decide) (by decide)) _).trans hy)
theorem res_U (i : Fin 2048) (j : Fin 5632) (y : EReal) (hy : (launchContents m c (Proc.devRef .tc main_arg6) : Vec Ideal S1x2048x5632 .f32) (ix3 0 i j) = y) :
    (finalContents condOps preI bodyI postI 32 m c (Proc.devRef .tc main_v136) : Vec Ideal S2048x5632 .bf16) (ix2 i j) = y := by
  rw [final_eq]
  exact p15_v136 _ i j y ((congrFun (kFin m c (by decide) (by decide) (by decide) (by decide) (by decide) (by decide)) _).trans hy)
theorem res_D (i : Fin 5632) (j : Fin 2048) (y : EReal) (hy : (launchContents m c (Proc.devRef .tc main_arg7) : Vec Ideal S1x5632x2048 .f32) (ix3 0 i j) = y) :
    (finalContents condOps preI bodyI postI 32 m c (Proc.devRef .tc main_v138) : Vec Ideal S5632x2048 .bf16) (ix2 i j) = y := by
  rw [final_eq]
  exact p15_v138 _ i j y ((congrFun (kFin m c (by decide) (by decide) (by decide) (by decide) (by decide) (by decide)) _).trans hy)

end Cert.ReferenceIdeal.Hand
-- ==== Proof.Final.lean ====
/-
  The exact run of the kernel's program and of the reference's program end with equal results, and the reference leaves
  its arguments as they were.
-/
module
public import proofs.«01_k».proof.Defs
public import proofs.«01_k».proof.Proof.Arrays
public import proofs.«01_k».proof.Proof.RefVal
public import Idealize.ShloMosaic.Lib.Quiescent
@[expose] public section
set_option maxRecDepth 16384
noncomputable section
namespace Cert.Hand
open Hgrn Idealize.ShloMosaic Idealize.SL.Sem Idealize.ShloMosaic.TcCoe Idealize.ShloMosaic.StableHlo

open Cert.ReferenceIdeal Cert.ReferenceIdeal.Gen Cert.ReferenceIdeal.Value in
abbrev W15 : List (Ref Cert.ReferenceIdeal.sig .tc) := [main_v106, main_v107, main_v108, main_v109, main_v110, main_v111, main_cst_14, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138]
open Cert.ReferenceIdeal Cert.ReferenceIdeal.Gen Cert.ReferenceIdeal.Value in
theorem writes15 : (hostOps0_15 : List (HloOp τ sig (Elt Ideal))).Forall fun op => op.writes ⊆ (W15.map (Proc.devRef (τ := τ) .tc)).toFinset :=
  StableHlo.forall_writes_sub_of_map rfl

open Cert.ReferenceIdeal Cert.ReferenceIdeal.Gen Cert.ReferenceIdeal.Value Cert.ReferenceIdeal.Hand in
theorem keptRef (m' : (ℓ : Loc nD τ sig) → Buf (Elt Ideal) ℓ) (c : Dev nD) {r : Ref sig .tc} (h : r ∉ hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W)
    (h' : r ∉ condOps_W ++ while0Ops0_W ++ while0Ops0_1_W ++ while0Ops0_2_W ++ while0Ops0_3_W ++ while0Ops0_4_W) (h11 : r ∉ W11) (h12 : r ∉ W12) (h13 : r ∉ W13) (h14 : r ∉ W14) (h15 : r ∉ W15) :
    finalContents condOps preI bodyI postI 32 m' c (Proc.devRef .tc r) = m' (c.tc.loc r) :=
  (congrFun (final_eq m' c) _).trans ((after_of_writes_sub _ _ writes15 h15).trans (kFin m' c h h' h11 h12 h13 h14))

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem eqA
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (finalContents Cert.ReferenceIdeal.Value.condOps Cert.ReferenceIdeal.Value.preI Cert.ReferenceIdeal.Value.bodyI Cert.ReferenceIdeal.Value.postI 32 m' c (Proc.devRef .tc Cert.ReferenceIdeal.main_v129)) = Cert.KernelIdeal.Hand.resA m c := by
  funext i
  obtain ⟨b, t, l, rfl⟩ : ∃ (b : Fin 8) (t : Fin 2048) (l : Fin 1024), i = ix3 b t l := ⟨i 0, i 1, i 2, eq_ix3 i⟩
  refine (Cert.ReferenceIdeal.Hand.res_A m' c (flatU (m' ((c.tc : Thread Cert.ReferenceIdeal.nD Cert.ReferenceIdeal.τ).loc Cert.ReferenceIdeal.main_arg0))) (fun r l => flatU_eq _ r l) (flatT (m' ((c.tc : Thread Cert.ReferenceIdeal.nD Cert.ReferenceIdeal.τ).loc Cert.ReferenceIdeal.main_arg1))) (fun x l => flatT_eq _ x l) (flatG (m' ((c.tc : Thread Cert.ReferenceIdeal.nD Cert.ReferenceIdeal.τ).loc Cert.ReferenceIdeal.main_arg2))) (fun l => flatG_eq _ l) b t l).trans ?_
  rw [h0, h1, h2]
  rfl
theorem eqB
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (finalContents Cert.ReferenceIdeal.Value.condOps Cert.ReferenceIdeal.Value.preI Cert.ReferenceIdeal.Value.bodyI Cert.ReferenceIdeal.Value.postI 32 m' c (Proc.devRef .tc Cert.ReferenceIdeal.main_v130)) = Cert.KernelIdeal.Hand.resB m c := by
  funext i
  obtain ⟨b, t, l, rfl⟩ : ∃ (b : Fin 8) (t : Fin 2048) (l : Fin 1024), i = ix3 b t l := ⟨i 0, i 1, i 2, eq_ix3 i⟩
  refine (Cert.ReferenceIdeal.Hand.res_B m' c (flatU (m' ((c.tc : Thread Cert.ReferenceIdeal.nD Cert.ReferenceIdeal.τ).loc Cert.ReferenceIdeal.main_arg0))) (fun r l => flatU_eq _ r l) (flatC (m' ((c.tc : Thread Cert.ReferenceIdeal.nD Cert.ReferenceIdeal.τ).loc Cert.ReferenceIdeal.main_arg3))) (fun i l => flatC_eq _ i l) b t l).trans ?_
  rw [h0, h3]
  rfl
theorem eqO
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (finalContents Cert.ReferenceIdeal.Value.condOps Cert.ReferenceIdeal.Value.preI Cert.ReferenceIdeal.Value.bodyI Cert.ReferenceIdeal.Value.postI 32 m' c (Proc.devRef .tc Cert.ReferenceIdeal.main_v132)) = Cert.KernelIdeal.Hand.resO m c := by
  funext i
  obtain ⟨j, k, rfl⟩ : ∃ (j : Fin 2048) (k : Fin 2048), i = ix2 j k := ⟨i 0, i 1, eq_ix2 i⟩
  exact Cert.ReferenceIdeal.Hand.res_O m' c j k _ (congrFun h4 _)
theorem eqG
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (finalContents Cert.ReferenceIdeal.Value.condOps Cert.ReferenceIdeal.Value.preI Cert.ReferenceIdeal.Value.bodyI Cert.ReferenceIdeal.Value.postI 32 m' c (Proc.devRef .tc Cert.ReferenceIdeal.main_v134)) = Cert.KernelIdeal.Hand.resG m c := by
  funext i
  obtain ⟨j, k, rfl⟩ : ∃ (j : Fin 2048) (k : Fin 5632), i = ix2 j k := ⟨i 0, i 1, eq_ix2 i⟩
  exact Cert.ReferenceIdeal.Hand.res_G m' c j k _ (congrFun h5 _)
theorem eqU
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    (finalContents Cert.ReferenceIdeal.Value.condOps Cert.ReferenceIdeal.Value.preI Cert.ReferenceIdeal.Value.bodyI Cert.ReferenceIdeal.Value.postI 32 m' c (Proc.devRef .tc Cert.ReferenceIdeal.main_v136)) = Cert.KernelIdeal.Hand.resU m c := by
  funext i
  obtain ⟨j, k, rfl⟩ : ∃ (j : Fin 2048) (k : Fin 5632), i = ix2 j k := ⟨i 0, i 1, eq_ix2 i⟩
  exact Cert.ReferenceIdeal.Hand.res_U m' c j k _ (congrFun h6 _)
theorem eqD
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (finalContents Cert.ReferenceIdeal.Value.condOps Cert.ReferenceIdeal.Value.preI Cert.ReferenceIdeal.Value.bodyI Cert.ReferenceIdeal.Value.postI 32 m' c (Proc.devRef .tc Cert.ReferenceIdeal.main_v138)) = Cert.KernelIdeal.Hand.resD m c := by
  funext i
  obtain ⟨j, k, rfl⟩ : ∃ (j : Fin 5632) (k : Fin 2048), i = ix2 j k := ⟨i 0, i 1, eq_ix2 i⟩
  exact Cert.ReferenceIdeal.Hand.res_D m' c j k _ (congrFun h7 _)

open Cert.ReferenceIdeal in
/-- The reference leaves its arguments as they were. -/
theorem keptR (ρ' : Dev Cert.ReferenceIdeal.nD → PrngReg) : θ_run (Cert.ReferenceIdeal.defs (F := Ideal)) (onTc (τ := Cert.ReferenceIdeal.τ) (Cert.ReferenceIdeal.main (F := Ideal))) ⟨m', fun _ => 0, ρ'⟩ (fun r => (∀ c : Dev Cert.ReferenceIdeal.nD,
r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => ⟨(h c main_arg0 (by decide)).trans (keptRef m' c (by decide) (by decide) (by decide) (by decide) (by decide) (by decide) (by decide)),
      (h c main_arg1 (by decide)).trans (keptRef m' c (by decide) (by decide) (by decide) (by decide) (by decide) (by decide) (by decide)),
      (h c main_arg2 (by decide)).trans (keptRef m' c (by decide) (by decide) (by decide) (by decide) (by decide) (by decide) (by decide)),
      (h c main_arg3 (by decide)).trans (keptRef m' c (by decide) (by decide) (by decide) (by decide) (by decide) (by decide) (by decide)),
      (h c main_arg4 (by decide)).trans (keptRef m' c (by decide) (by decide) (by decide) (by decide) (by decide) (by decide) (by decide)),
      (h c main_arg5 (by decide)).trans (keptRef m' c (by decide) (by decide) (by decide) (by decide) (by decide) (by decide) (by decide)),
      (h c main_arg6 (by decide)).trans (keptRef m' c (by decide) (by decide) (by decide) (by decide) (by decide) (by decide) (by decide)),
      (h c main_arg7 (by decide)).trans (keptRef m' c (by decide) (by decide) (by decide) (by decide) (by decide) (by decide) (by decide))⟩,
      sem_eq_zero_of_no_sems (by decide) r.2⟩) (Cert.ReferenceIdeal.Value.run_fold m' ρ')

theorem algebraic : Cert.algebraic_KernelIdeal_ReferenceIdeal := by
  intro m ρ m' ρ' _ hag
  refine ⟨fun c => Cert.KernelIdeal.Hand.resA m c, fun c => Cert.KernelIdeal.Hand.resB m c, fun c => Cert.KernelIdeal.Hand.resO m c,
    fun c => Cert.KernelIdeal.Hand.resG m c, fun c => Cert.KernelIdeal.Hand.resU m c, fun c => Cert.KernelIdeal.Hand.resD m c, ?_, ?_⟩
  · exact (θ_run Cert.KernelIdeal.defs _ _).mono (fun r h c => ⟨(h c).1.trans (Cert.KernelIdeal.Hand.final_A m c),
      (h c).2.1.trans (Cert.KernelIdeal.Hand.final_B m c), (h c).2.2.1.trans (Cert.KernelIdeal.Hand.final_O m c),
      (h c).2.2.2.1.trans (Cert.KernelIdeal.Hand.final_G m c), (h c).2.2.2.2.1.trans (Cert.KernelIdeal.Hand.final_U m c),
      (h c).2.2.2.2.2.1.trans (Cert.KernelIdeal.Hand.final_D m c), (h c).2.2.2.2.2.2⟩) (Cert.KernelIdeal.Value.run_blocks m ρ)
  · exact (θ_run Cert.ReferenceIdeal.defs _ _).mono (fun r h c => by
      obtain ⟨h0, h1, h2, h3, h4, h5, h6, h7⟩ := hag c
      exact ⟨(h.1 c _ (by decide)).trans (eqA m m' c h0 h1 h2), (h.1 c _ (by decide)).trans (eqB m m' c h0 h3),
        (h.1 c _ (by decide)).trans (eqO m m' c h4), (h.1 c _ (by decide)).trans (eqG m m' c h5),
        (h.1 c _ (by decide)).trans (eqU m m' c h6), (h.1 c _ (by decide)).trans (eqD m m' c h7), h.2.1 c⟩)
      (θ_run_and (Cert.ReferenceIdeal.Value.run_fold m' ρ') (keptR m' ρ'))

end Cert.Hand
-- ==== Proof.FfnSpec.lean ====
/-
  The normalised rows and the gated feed-forward sum, as functions of rows and columns, and the argument arrays'
  rows and columns.
-/
module
public import Idealize.ShloMosaic.Lib.Pointwise
@[expose] public section
noncomputable section
namespace Ffn
open Idealize.ShloMosaic

/-- One row over the root of its mean square, times the gain. -/
def norm (X G : Fin 2048 → EReal) (d : Fin 2048) : EReal :=
  X d * Ideal.rsqrt (Ideal.div (∑ x, X x * X x) (Ideal.ofBits .f32 0x45000000#32) + Ideal.ofBits .f32 0x358637BD#32) * G d

def dot (H W : Fin 2048 → EReal) : EReal := ∑ x, H x * W x

/-- One gated channel: the gate times its logistic, times the other projection. -/
def act (H A B : Fin 2048 → EReal) : EReal := dot H A * Ideal.div 1 (1 + Ideal.exp (0 - dot H A)) * dot H B

/-- The first `n` channels' part of one output lane, over its start `z`. -/
def part (z : EReal) (H : Fin 2048 → EReal) (A B : Nat → Fin 2048 → EReal) (D : Nat → EReal) (n : Nat) : EReal :=
  z + ∑ k ∈ Finset.range n, act H (A k) (B k) * D k

theorem part_zero (z : EReal) (H : Fin 2048 → EReal) (A B : Nat → Fin 2048 → EReal) (D : Nat → EReal) : part z H A B D 0 = z := by
  unfold part
  rw [Finset.range_zero, Finset.sum_empty, add_zero]

theorem part_add (z : EReal) (H : Fin 2048 → EReal) (A B : Nat → Fin 2048 → EReal) (D : Nat → EReal) (n p : Nat) :
    part z H A B D (n + p) = part z H A B D n + ∑ x : Fin p, act H (A (n + x.val)) (B (n + x.val)) * D (n + x.val) := by
  unfold part
  rw [Finset.sum_range_add, ← add_assoc, Finset.sum_range (fun x => act H (A (n + x)) (B (n + x)) * D (n + x))]

def rowOf (x : (⟨2, ![16384, 2048]⟩ : Shape).Idx → EReal) (r : Nat) (d : Fin 2048) : EReal := x (ix2 (Fin.ofNat 16384 r) d)
def gainOf (x : (⟨2, ![1, 2048]⟩ : Shape).Idx → EReal) (d : Fin 2048) : EReal := x (ix2 0 d)
def colOf (x : (⟨3, ![1, 2048, 5632]⟩ : Shape).Idx → EReal) (k : Nat) (d : Fin 2048) : EReal := x (ix3 0 d (Fin.ofNat 5632 k))
def downOf (x : (⟨3, ![1, 5632, 2048]⟩ : Shape).Idx → EReal) (j : Fin 2048) (k : Nat) : EReal := x (ix3 0 (Fin.ofNat 5632 k) j)

theorem rowOf_eq (x : (⟨2, ![16384, 2048]⟩ : Shape).Idx → EReal) (r : Fin 16384) (d : Fin 2048) : x (ix2 r d) = rowOf x r.val d := by
  unfold rowOf
  rw [Fin.ofNat_val_eq_self]
theorem colOf_eq (x : (⟨3, ![1, 2048, 5632]⟩ : Shape).Idx → EReal) (k : Fin 5632) (d : Fin 2048) : x (ix3 0 d k) = colOf x k.val d := by
  unfold colOf
  rw [Fin.ofNat_val_eq_self]
theorem downOf_eq (x : (⟨3, ![1, 5632, 2048]⟩ : Shape).Idx → EReal) (k : Fin 5632) (j : Fin 2048) : x (ix3 0 k j) = downOf x j k.val := by
  unfold downOf
  rw [Fin.ofNat_val_eq_self]

/-- The whole call at a row and a lane. -/
def ffn (x : (⟨2, ![16384, 2048]⟩ : Shape).Idx → EReal) (g : (⟨2, ![1, 2048]⟩ : Shape).Idx → EReal)
    (a b : (⟨3, ![1, 2048, 5632]⟩ : Shape).Idx → EReal) (w : (⟨3, ![1, 5632, 2048]⟩ : Shape).Idx → EReal) (r : Nat) (j : Fin 2048) (n : Nat) : EReal :=
  part (rowOf x r j) (norm (rowOf x r) (gainOf g)) (colOf a) (colOf b) (downOf w j) n

end Ffn
-- ==== Proof.Ffn.lean ====
/-
  What one grid point of the dense feed-forward call leaves in its buffers, as a function of its input blocks and of
  what the point before left.
-/
module
public import proofs.«01_k».proof.Proof.Gen.Kernel2Ideal.Value
public import Idealize.ShloMosaic.Lib.Pointwise
public import Idealize.ShloMosaic.Lib.Pipeline.Value
@[expose] public section
set_option maxRecDepth 16384
noncomputable section
namespace Cert.Kernel2Ideal.Hand
open Cert.Kernel2Ideal Cert.Kernel2Ideal.Gen
open Idealize.ShloMosaic Idealize.ShloMosaic.TcCoe
theorem hz2 : (![0, 0] : Fin 2 → Nat) = fun _ => 0 := by decide
variable {F : FTy → Type} [FloatOps F]
variable (m : (ℓ : Loc nD τ sig) → Buf (Elt F) ℓ) (c : Dev nD)

/-- A point that starts a row block: the rows are normalised and kept, the sum starts from the rows themselves. -/
theorem outs_A (t : Fin cfg0.N) (h0 : t.val % 22 = 0) : outsAt0 m c t.val t.isLt
    = (k0_pay4 (k0_pay3 (iblk m c 0 t) (iblk m c 1 t)) (iblk m c 2 t) (iblk m c 3 t) (iblk m c 0 t) (iblk m c 4 t),
       k0_pay5 (iblk m c 5 t), k0_pay1 (iblk m c 6 t), k0_pay2 (iblk m c 7 t), k0_pay3 (iblk m c 0 t) (iblk m c 1 t)) := by
  rw [outsAt0_A m c t h0]
  refine Prod.ext ?_ (Prod.ext ?_ (Prod.ext ?_ (Prod.ext ?_ ?_)))
  · dsimp only
    unfold out0_A_8
    refine (View.read_writes_eq_canon _ _ _ (by intro y; exact cover0_A_8 ..)).trans ?_
    unfold kernelRun0_A
    dsimp only
    rw [View.canon_cons_unit_zero hz2]
    unfold kernelRun0_A.sl.v3 kernelRun0_A.sl.v20 kernelRun0_A.sl.HS0_1 kernelRun0_A.sl.H8_1
    simp only [View.readCov_cons_toLoadRect, View.readAt_eq_ld, Memref.IsWhole.read_unread, View.ld_unit_zero (S := S1024x2048) hz2, View.ld_unit_zero (S := S1x2048) hz2,
      View.ld_unit_zero (S := S2048x256) hz2, View.ld_unit_zero (S := S256x2048) hz2]
  · dsimp only
    unfold out0_A_9
    refine (View.read_writes_eq_canon _ _ _ (by intro y; exact cover0_A_9 ..)).trans ?_
    unfold kernelRun0_A
    dsimp only
    rw [View.canon_unit_zero hz2]
    simp only [View.readAt_eq_ld, Memref.IsWhole.read_unread, View.ld_unit_zero (S := S64x1024) hz2]
  · dsimp only
    unfold out0_A_10
    refine (View.read_writes_eq_canon _ _ _ (by intro y; exact cover0_A_10 ..)).trans ?_
    unfold kernelRun0_A
    dsimp only
    rw [View.canon_unit_zero hz2]
    simp only [View.readAt_eq_ld, Memref.IsWhole.read_unread, View.ld_unit_zero (S := S64x1024) hz2]
  · dsimp only
    unfold out0_A_11
    refine (View.read_writes_eq_canon _ _ _ (by intro y; exact cover0_A_11 ..)).trans ?_
    unfold kernelRun0_A
    dsimp only
    rw [View.canon_unit_zero hz2]
    simp only [View.readAt_eq_ld, Memref.IsWhole.read_unread, View.ld_unit_zero (S := S32x2048) hz2]
  · dsimp only
    unfold sout0_A_0
    refine (View.read_writes_eq_canon _ _ _ (by intro y; exact scover0_A_0 ..)).trans ?_
    unfold kernelRun0_A
    dsimp only
    unfold kernelRun0_A.sl.HS0_1
    rw [View.canon_unit_zero hz2]
    simp only [View.readAt_eq_ld, Memref.IsWhole.read_unread, View.ld_unit_zero (S := S1024x2048) hz2, View.ld_unit_zero (S := S1x2048) hz2]

/-- Any other point: the normalised rows stay, the sum takes this point's product. -/
theorem outs_B (t : Fin cfg0.N) (h0 : ¬t.val % 22 = 0) : outsAt0 m c t.val t.isLt
    = (k0_pay4 (outsAt0 m c (t.val - 1) (Nat.lt_of_le_of_lt (Nat.sub_le _ _) t.isLt)).2.2.2.2 (iblk m c 2 t) (iblk m c 3 t)
         (outsAt0 m c (t.val - 1) (Nat.lt_of_le_of_lt (Nat.sub_le _ _) t.isLt)).1 (iblk m c 4 t),
       k0_pay5 (iblk m c 5 t), k0_pay1 (iblk m c 6 t), k0_pay2 (iblk m c 7 t),
       (outsAt0 m c (t.val - 1) (Nat.lt_of_le_of_lt (Nat.sub_le _ _) t.isLt)).2.2.2.2) := by
  rw [outsAt0_B m c t h0]
  refine Prod.ext ?_ (Prod.ext ?_ (Prod.ext ?_ (Prod.ext ?_ ?_)))
  · dsimp only
    unfold out0_B_8
    refine (View.read_writes_eq_canon _ _ _ (by intro y; exact cover0_B_8 ..)).trans ?_
    unfold kernelRun0_B
    dsimp only
    rw [View.canon_unit_zero hz2]
    simp only [View.readAt_eq_ld, Memref.IsWhole.read_unread, View.ld_unit_zero (S := S1024x2048) hz2,
      View.ld_unit_zero (S := S2048x256) hz2, View.ld_unit_zero (S := S256x2048) hz2]
    exact congrArg (fun h => k0_pay4 h _ _ _ _) ((Memref.isWhole_whole cc0_scratch0).read_unread _)
  · dsimp only
    unfold out0_B_9
    refine (View.read_writes_eq_canon _ _ _ (by intro y; exact cover0_B_9 ..)).trans ?_
    unfold kernelRun0_B
    dsimp only
    rw [View.canon_unit_zero hz2]
    simp only [View.readAt_eq_ld, Memref.IsWhole.read_unread, View.ld_unit_zero (S := S64x1024) hz2]
  · dsimp only
    unfold out0_B_10
    refine (View.read_writes_eq_canon _ _ _ (by intro y; exact cover0_B_10 ..)).trans ?_
    unfold kernelRun0_B
    dsimp only
    rw [View.canon_unit_zero hz2]
    simp only [View.readAt_eq_ld, Memref.IsWhole.read_unread, View.ld_unit_zero (S := S64x1024) hz2]
  · dsimp only
    unfold out0_B_11
    refine (View.read_writes_eq_canon _ _ _ (by intro y; exact cover0_B_11 ..)).trans ?_
    unfold kernelRun0_B
    dsimp only
    rw [View.canon_unit_zero hz2]
    simp only [View.readAt_eq_ld, Memref.IsWhole.read_unread, View.ld_unit_zero (S := S32x2048) hz2]
  · rfl

end Cert.Kernel2Ideal.Hand
-- ==== Proof.FfnIblk.lean ====
/-
  What each window's block of the dense feed-forward call holds at a grid point, from the arguments: point `t` is row
  block `t / 22` and channel block `t % 22`.
-/
module
public import proofs.«01_k».proof.Proof.FfnSpec
public import proofs.«01_k».proof.Proof.Ffn
public import Idealize.ShloMosaic.Lib.StableHlo.ReadAt
@[expose] public section
set_option maxRecDepth 16384
noncomputable section
namespace Cert.Kernel2Ideal.Hand
open Cert.Kernel2Ideal Cert.Kernel2Ideal.Gen Ffn
open Idealize.ShloMosaic Idealize.ShloMosaic.TcCoe

theorem idx0 : ∀ t : Fin cfg0.N, win0_0.index t 0 = t.val / 22 ∧ win0_0.index t 1 = 0 :=
  (by decide +kernel : ∀ t : Fin grid0.N, win0_0.index t 0 = t.val / 22 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 22 :=
  (by decide +kernel : ∀ t : Fin grid0.N, win0_2.index t 0 = 0 ∧ win0_2.index t 1 = t.val % 22)
theorem idx3 : ∀ t : Fin cfg0.N, win0_3.index t 0 = 0 ∧ win0_3.index t 1 = t.val % 22 :=
  (by decide +kernel : ∀ t : Fin grid0.N, win0_3.index t 0 = 0 ∧ win0_3.index t 1 = t.val % 22)
theorem idx4 : ∀ t : Fin cfg0.N, win0_4.index t 0 = t.val % 22 ∧ win0_4.index t 1 = 0 :=
  (by decide +kernel : ∀ t : Fin grid0.N, win0_4.index t 0 = t.val % 22 ∧ win0_4.index t 1 = 0)
theorem idx5 : ∀ t : Fin cfg0.N, win0_5.index t 0 = min t.val 255 ∧ win0_5.index t 1 = 0 :=
  (by decide +kernel : ∀ t : Fin grid0.N, win0_5.index t 0 = min t.val 255 ∧ win0_5.index t 1 = 0)
theorem idx6 : ∀ t : Fin cfg0.N, win0_6.index t 0 = min t.val 255 ∧ win0_6.index t 1 = 0 :=
  (by decide +kernel : ∀ t : Fin grid0.N, win0_6.index t 0 = min t.val 255 ∧ win0_6.index t 1 = 0)
theorem idx7 : ∀ t : Fin cfg0.N, win0_7.index t 0 = min t.val 255 ∧ win0_7.index t 1 = 0 :=
  (by decide +kernel : ∀ t : Fin grid0.N, win0_7.index t 0 = min t.val 255 ∧ win0_7.index t 1 = 0)

variable (m : (ℓ : Loc nD τ sig) → Buf (Elt Ideal) ℓ) (c : Dev nD)

theorem V_v13 (d : Fin 2048) : (V m c main_v13 : Vec Ideal S1x2048 .f32) (ix2 0 d) = (m (c.tc.loc main_arg1) : Vec Ideal S1x2048 .f32) (ix2 0 d) := by
  unfold V
  simp only [hostOps0]
  after_reads_at
theorem V_v2 (d : Fin 2048) (k : Fin 5632) : (V m c main_v2 : Vec Ideal S2048x5632 .bf16) (ix2 d k)
    = (m (c.tc.loc main_arg2) : Vec Ideal S1x2048x5632 .f32) (ix3 0 d k) := by
  unfold V
  simp only [hostOps0]
  after_reads_at
theorem V_v4 (d : Fin 2048) (k : Fin 5632) : (V m c main_v4 : Vec Ideal S2048x5632 .bf16) (ix2 d k)
    = (m (c.tc.loc main_arg3) : Vec Ideal S1x2048x5632 .f32) (ix3 0 d k) := by
  unfold V
  simp only [hostOps0]
  after_reads_at
theorem V_v6 (k : Fin 5632) (d : Fin 2048) : (V m c main_v6 : Vec Ideal S5632x2048 .bf16) (ix2 k d)
    = (m (c.tc.loc main_arg4) : Vec Ideal S1x5632x2048 .f32) (ix3 0 k d) := by
  unfold V
  simp only [hostOps0]
  after_reads_at

def resG : S16384x1024.Idx → EReal := shapeCast S16384x1024 (m (c.tc.loc main_arg5) : Vec Ideal S1x8x2048x1024 .f32) shapeCasts_S1x8x2048x1024_S16384x1024
def resU : S16384x1024.Idx → EReal := shapeCast S16384x1024 (m (c.tc.loc main_arg6) : Vec Ideal S1x8x2048x1024 .f32) shapeCasts_S1x8x2048x1024_S16384x1024
def resD : S8192x2048.Idx → EReal := shapeCast S8192x2048 (m (c.tc.loc main_arg7) : Vec Ideal S1x8x1024x2048 .f32) shapeCasts_S1x8x1024x2048_S8192x2048

theorem V_v8 : (V m c main_v8 : Vec Ideal S16384x1024 .f32) = resG m c := by
  unfold V resG
  simp only [hostOps0]
  after_reads_simp
  rfl
theorem V_v10 : (V m c main_v10 : Vec Ideal S16384x1024 .f32) = resU m c := by
  unfold V resU
  simp only [hostOps0]
  after_reads_simp
  rfl
theorem V_v12 : (V m c main_v12 : Vec Ideal S8192x2048 .f32) = resD m c := by
  unfold V resD
  simp only [hostOps0]
  after_reads_simp
  rfl

theorem iblk0 (t : Fin cfg0.N) (r : Fin 1024) (d : Fin 2048) : (iblk m c 0 t : Vec Ideal S1024x2048 .f32) (ix2 r d)
    = rowOf (m (c.tc.loc main_arg0)) (1024 * (t.val / 22) + r.val) d := by
  have hN : cfg0.N = 352 := by decide +kernel
  have ht := t.isLt
  unfold iblk
  rw [View.read_apply]
  show (V m c main_arg0 : Vec Ideal S16384x2048 .f32) _ = _
  rw [V_main_arg0]
  obtain ⟨e0, e1⟩ := idx0 t
  refine Eq.trans (congrArg (m (c.tc.loc main_arg0) : Vec Ideal S16384x2048 .f32) (funext fun a => Fin.ext ?_))
    (rowOf_eq (m (c.tc.loc main_arg0)) ⟨1024 * (t.val / 22) + r.val, by omega⟩ d)
  match a with
  | ⟨0, _⟩ =>
    show win0_0.index t 0 * 1024 + 1 * r.val = _
    rw [e0]; show _ = 1024 * (t.val / 22) + r.val; omega
  | ⟨1, _⟩ =>
    show win0_0.index t 1 * 2048 + 1 * d.val = d.val
    rw [e1]; omega

theorem iblk1 (t : Fin cfg0.N) (d : Fin 2048) : (iblk m c 1 t : Vec Ideal S1x2048 .f32) (ix2 0 d) = gainOf (m (c.tc.loc main_arg1)) d := by
  unfold iblk
  rw [View.read_apply]
  show (V m c main_v13 : Vec Ideal S1x2048 .f32) _ = _
  obtain ⟨e0, e1⟩ := idx1 t
  refine Eq.trans (congrArg (V m c main_v13 : Vec Ideal S1x2048 .f32) (funext fun a => Fin.ext ?_)) (V_v13 m c d)
  match a with
  | ⟨0, _⟩ =>
    show win0_1.index t 0 * 1 + 1 * 0 = 0
    rw [e0]
  | ⟨1, _⟩ =>
    show win0_1.index t 1 * 2048 + 1 * d.val = d.val
    rw [e1]; omega

theorem iblk2 (t : Fin cfg0.N) (d : Fin 2048) (k : Fin 256) : (iblk m c 2 t : Vec Ideal S2048x256 .bf16) (ix2 d k)
    = colOf (m (c.tc.loc main_arg2)) (256 * (t.val % 22) + k.val) d := by
  unfold iblk
  rw [View.read_apply]
  show (V m c main_v2 : Vec Ideal S2048x5632 .bf16) _ = _
  obtain ⟨e0, e1⟩ := idx2 t
  refine Eq.trans (congrArg (V m c main_v2 : Vec Ideal S2048x5632 .bf16) (funext fun a => Fin.ext ?_))
    ((V_v2 m c d ⟨256 * (t.val % 22) + k.val, by omega⟩).trans (colOf_eq (m (c.tc.loc main_arg2)) ⟨256 * (t.val % 22) + k.val, by omega⟩ d))
  match a with
  | ⟨0, _⟩ =>
    show win0_2.index t 0 * 2048 + 1 * d.val = d.val
    rw [e0]; omega
  | ⟨1, _⟩ =>
    show win0_2.index t 1 * 256 + 1 * k.val = 256 * (t.val % 22) + k.val
    rw [e1]; omega

theorem iblk3 (t : Fin cfg0.N) (d : Fin 2048) (k : Fin 256) : (iblk m c 3 t : Vec Ideal S2048x256 .bf16) (ix2 d k)
    = colOf (m (c.tc.loc main_arg3)) (256 * (t.val % 22) + k.val) d := by
  unfold iblk
  rw [View.read_apply]
  show (V m c main_v4 : Vec Ideal S2048x5632 .bf16) _ = _
  obtain ⟨e0, e1⟩ := idx3 t
  refine Eq.trans (congrArg (V m c main_v4 : Vec Ideal S2048x5632 .bf16) (funext fun a => Fin.ext ?_))
    ((V_v4 m c d ⟨256 * (t.val % 22) + k.val, by omega⟩).trans (colOf_eq (m (c.tc.loc main_arg3)) ⟨256 * (t.val % 22) + k.val, by omega⟩ d))
  match a with
  | ⟨0, _⟩ =>
    show win0_3.index t 0 * 2048 + 1 * d.val = d.val
    rw [e0]; omega
  | ⟨1, _⟩ =>
    show win0_3.index t 1 * 256 + 1 * k.val = 256 * (t.val % 22) + k.val
    rw [e1]; omega

theorem iblk4 (t : Fin cfg0.N) (k : Fin 256) (j : Fin 2048) : (iblk m c 4 t : Vec Ideal S256x2048 .bf16) (ix2 k j)
    = downOf (m (c.tc.loc main_arg4)) j (256 * (t.val % 22) + k.val) := by
  unfold iblk
  rw [View.read_apply]
  show (V m c main_v6 : Vec Ideal S5632x2048 .bf16) _ = _
  obtain ⟨e0, e1⟩ := idx4 t
  refine Eq.trans (congrArg (V m c main_v6 : Vec Ideal S5632x2048 .bf16) (funext fun a => Fin.ext ?_))
    ((V_v6 m c ⟨256 * (t.val % 22) + k.val, by omega⟩ j).trans (downOf_eq (m (c.tc.loc main_arg4)) ⟨256 * (t.val % 22) + k.val, by omega⟩ j))
  match a with
  | ⟨0, _⟩ =>
    show win0_4.index t 0 * 256 + 1 * k.val = 256 * (t.val % 22) + k.val
    rw [e0]; omega
  | ⟨1, _⟩ =>
    show win0_4.index t 1 * 2048 + 1 * j.val = j.val
    rw [e1]; omega

theorem iblk5 (t : Fin cfg0.N) (r : Fin 64) (l : Fin 1024) (i : S16384x1024.Idx) (h0 : (i 0).val = 64 * (min t.val 255) + r.val) (h1 : (i 1).val = l.val) :
    (iblk m c 5 t : Vec Ideal S64x1024 .f32) (ix2 r l) = resG m c i := by
  unfold iblk
  rw [View.read_apply]
  show (V m c main_v8 : Vec Ideal S16384x1024 .f32) _ = _
  rw [V_v8]
  obtain ⟨e0, e1⟩ := idx5 t
  refine congrArg (resG m c) (funext fun a => Fin.ext ?_)
  match a with
  | ⟨0, _⟩ =>
    show win0_5.index t 0 * 64 + 1 * r.val = (i 0).val
    rw [e0, h0]; omega
  | ⟨1, _⟩ =>
    show win0_5.index t 1 * 1024 + 1 * l.val = (i 1).val
    rw [e1, h1]; omega

theorem iblk6 (t : Fin cfg0.N) (r : Fin 64) (l : Fin 1024) (i : S16384x1024.Idx) (h0 : (i 0).val = 64 * (min t.val 255) + r.val) (h1 : (i 1).val = l.val) :
    (iblk m c 6 t : Vec Ideal S64x1024 .f32) (ix2 r l) = resU m c i := by
  unfold iblk
  rw [View.read_apply]
  show (V m c main_v10 : Vec Ideal S16384x1024 .f32) _ = _
  rw [V_v10]
  obtain ⟨e0, e1⟩ := idx6 t
  refine congrArg (resU m c) (funext fun a => Fin.ext ?_)
  match a with
  | ⟨0, _⟩ =>
    show win0_6.index t 0 * 64 + 1 * r.val = (i 0).val
    rw [e0, h0]; omega
  | ⟨1, _⟩ =>
    show win0_6.index t 1 * 1024 + 1 * l.val = (i 1).val
    rw [e1, h1]; omega

theorem iblk7 (t : Fin cfg0.N) (r : Fin 32) (l : Fin 2048) (i : S8192x2048.Idx) (h0 : (i 0).val = 32 * (min t.val 255) + r.val) (h1 : (i 1).val = l.val) :
    (iblk m c 7 t : Vec Ideal S32x2048 .f32) (ix2 r l) = resD m c i := by
  unfold iblk
  rw [View.read_apply]
  show (V m c main_v12 : Vec Ideal S8192x2048 .f32) _ = _
  rw [V_v12]
  obtain ⟨e0, e1⟩ := idx7 t
  refine congrArg (resD m c) (funext fun a => Fin.ext ?_)
  match a with
  | ⟨0, _⟩ =>
    show win0_7.index t 0 * 32 + 1 * r.val = (i 0).val
    rw [e0, h0]; omega
  | ⟨1, _⟩ =>
    show win0_7.index t 1 * 2048 + 1 * l.val = (i 1).val
    rw [e1, h1]; omega

end Cert.Kernel2Ideal.Hand
-- ==== Proof.FfnVal.lean ====
/-
  The four result arrays of the dense feed-forward call after the run, at an index, from the arguments.
-/
module
public import proofs.«01_k».proof.Proof.FfnIblk
@[expose] public section
set_option maxRecDepth 16384
noncomputable section
namespace Cert.Kernel2Ideal.Hand
open Cert.Kernel2Ideal Cert.Kernel2Ideal.Gen Cert.Kernel2Ideal.Value Ffn
open Idealize.ShloMosaic Idealize.ShloMosaic.TcCoe

theorem idx8 : ∀ t : Fin cfg0.N, win0_8.index t 0 = t.val / 22 ∧ win0_8.index t 1 = 0 :=
  (by decide +kernel : ∀ t : Fin grid0.N, win0_8.index t 0 = t.val / 22 ∧ win0_8.index t 1 = 0)
theorem idx9 : ∀ t : Fin cfg0.N, win0_9.index t 0 = min t.val 255 ∧ win0_9.index t 1 = 0 :=
  (by decide +kernel : ∀ t : Fin grid0.N, win0_9.index t 0 = min t.val 255 ∧ win0_9.index t 1 = 0)
theorem idx10 : ∀ t : Fin cfg0.N, win0_10.index t 0 = min t.val 255 ∧ win0_10.index t 1 = 0 :=
  (by decide +kernel : ∀ t : Fin grid0.N, win0_10.index t 0 = min t.val 255 ∧ win0_10.index t 1 = 0)
theorem idx11 : ∀ t : Fin cfg0.N, win0_11.index t 0 = min t.val 255 ∧ win0_11.index t 1 = 0 :=
  (by decide +kernel : ∀ t : Fin grid0.N, win0_11.index t 0 = min t.val 255 ∧ win0_11.index t 1 = 0)
theorem flush8 : ∀ t : Fin cfg0.N, (cfg0.win 8).flush t = true ↔ t.val % 22 = 21 :=
  (by decide +kernel : ∀ t : Fin grid0.N, win0_8.flush t = true ↔ t.val % 22 = 21)
theorem flush9 : ∀ t : Fin cfg0.N, (t.val < 255 ∨ t.val = 351) → (cfg0.win 9).flush t = true :=
  (by decide +kernel : ∀ t : Fin grid0.N, (t.val < 255 ∨ t.val = 351) → win0_9.flush t = true)
theorem flush10 : ∀ t : Fin cfg0.N, (t.val < 255 ∨ t.val = 351) → (cfg0.win 10).flush t = true :=
  (by decide +kernel : ∀ t : Fin grid0.N, (t.val < 255 ∨ t.val = 351) → win0_10.flush t = true)
theorem flush11 : ∀ t : Fin cfg0.N, (t.val < 255 ∨ t.val = 351) → (cfg0.win 11).flush t = true :=
  (by decide +kernel : ∀ t : Fin grid0.N, (t.val < 255 ∨ t.val = 351) → win0_11.flush t = true)

theorem pay3_apply (x : Vec Ideal S1024x2048 .f32) (g : Vec Ideal S1x2048 .f32) (X G : Fin 2048 → EReal) (r : Fin 1024)
    (hx : ∀ d, x (ix2 r d) = X d) (hg : ∀ d, g (ix2 0 d) = G d) (d : Fin 2048) : k0_pay3 x g (ix2 r d) = norm X G d := by
  pointwise [k0_pay3]
  simp only [hx, hg]
  rfl

theorem pay4_apply (h : Vec Ideal S1024x2048 .bf16) (wg wu : Vec Ideal S2048x256 .bf16) (o : Vec Ideal S1024x2048 .f32)
    (wd : Vec Ideal S256x2048 .bf16) (z : EReal) (H : Fin 2048 → EReal) (A B : Nat → Fin 2048 → EReal) (D : Nat → EReal) (n : Nat)
    (r : Fin 1024) (j : Fin 2048) (hh : ∀ d, h (ix2 r d) = H d) (hA : ∀ d (k : Fin 256), wg (ix2 d k) = A (n + k.val) d)
    (hB : ∀ d (k : Fin 256), wu (ix2 d k) = B (n + k.val) d) (hD : ∀ k : Fin 256, wd (ix2 k j) = D (n + k.val))
    (ho : o (ix2 r j) = part z H A B D n) : k0_pay4 h wg wu o wd (ix2 r j) = part z H A B D (n + 256) := by
  rw [part_add]
  pointwise [k0_pay4]
  simp only [hh, hA, hB, hD, ho]
  rfl

variable (m : (ℓ : Loc nD τ sig) → Buf (Elt Ideal) ℓ) (c : Dev nD)

abbrev val (r : Nat) (j : Fin 2048) (n : Nat) : EReal :=
  ffn (m (c.tc.loc main_arg0)) (m (c.tc.loc main_arg1)) (m (c.tc.loc main_arg2)) (m (c.tc.loc main_arg3)) (m (c.tc.loc main_arg4)) r j n

/-- After a point: the kept rows are normalised, and the sum has the channel blocks so far. -/
theorem inv (n : Nat) (hn : n < cfg0.N) (r : Fin 1024) :
    (∀ d, ((outsAt0 m c n hn).2.2.2.2 : Vec Ideal S1024x2048 .bf16) (ix2 r d)
      = norm (rowOf (m (c.tc.loc main_arg0)) (1024 * (n / 22) + r.val)) (gainOf (m (c.tc.loc main_arg1))) d)
    ∧ ∀ j, ((outsAt0 m c n hn).1 : Vec Ideal S1024x2048 .f32) (ix2 r j) = val m c (1024 * (n / 22) + r.val) j (256 * (n % 22) + 256) := by
  induction n with
  | zero =>
    rw [outs_A m c ⟨0, hn⟩ (Nat.zero_mod _)]
    have h := pay3_apply (iblk m c 0 ⟨0, hn⟩) (iblk m c 1 ⟨0, hn⟩) _ _ r (iblk0 m c ⟨0, hn⟩ r) (iblk1 m c ⟨0, hn⟩)
    refine ⟨h, fun j => ?_⟩
    refine pay4_apply _ _ _ _ _ _ _ _ _ _ 0 r j h (iblk2 m c ⟨0, hn⟩) (iblk3 m c ⟨0, hn⟩) (fun k => iblk4 m c ⟨0, hn⟩ k j) ?_
    rw [part_zero]
    exact iblk0 m c ⟨0, hn⟩ r j
  | succ n ih =>
    by_cases h0 : (n + 1) % 22 = 0
    · rw [outs_A m c ⟨n + 1, hn⟩ h0]
      have h := pay3_apply (iblk m c 0 ⟨n + 1, hn⟩) (iblk m c 1 ⟨n + 1, hn⟩) _ _ r (iblk0 m c ⟨n + 1, hn⟩ r) (iblk1 m c ⟨n + 1, hn⟩)
      refine ⟨h, fun j => ?_⟩
      refine pay4_apply _ _ _ _ _ _ _ _ _ _ (256 * ((n + 1) % 22)) r j h (iblk2 m c ⟨n + 1, hn⟩) (iblk3 m c ⟨n + 1, hn⟩) (fun k => iblk4 m c ⟨n + 1, hn⟩ k j) ?_
      rw [h0, Nat.mul_zero, part_zero]
      exact iblk0 m c ⟨n + 1, hn⟩ r j
    · obtain ⟨i1, i2⟩ := ih (Nat.lt_of_succ_lt hn)
      rw [outs_B m c ⟨n + 1, hn⟩ h0]
      have q : n / 22 = (n + 1) / 22 := by omega
      have q' : 256 * (n % 22) + 256 = 256 * ((n + 1) % 22) := by omega
      rw [q] at i1
      rw [q, q'] at i2
      refine ⟨i1, fun j => ?_⟩
      exact pay4_apply _ _ _ _ _ _ _ _ _ _ (256 * ((n + 1) % 22)) r j i1 (iblk2 m c ⟨n + 1, hn⟩) (iblk3 m c ⟨n + 1, hn⟩) (fun k => iblk4 m c ⟨n + 1, hn⟩ k j) (i2 j)

def resO : S16384x2048.Idx → EReal := fun i => val m c (i 0).val (i 1) 5632

/-- Every point casts the three blocks of the experts' weights it reads. -/
theorem casts (t : Fin cfg0.N) : (outsAt0 m c t.val t.isLt).2.1 = k0_pay5 (F := Ideal) (iblk m c 5 t)
    ∧ (outsAt0 m c t.val t.isLt).2.2.1 = k0_pay1 (F := Ideal) (iblk m c 6 t)
    ∧ (outsAt0 m c t.val t.isLt).2.2.2.1 = k0_pay2 (F := Ideal) (iblk m c 7 t) := by
  by_cases h0 : t.val % 22 = 0
  · rw [outs_A m c t h0]
    exact ⟨rfl, rfl, rfl⟩
  · rw [outs_B m c t h0]
    exact ⟨rfl, rfl, rfl⟩

theorem blkG (t : Fin cfg0.N) (y : S64x1024.Idx) (i : S16384x1024.Idx) (h0 : (i 0).val = 64 * (min t.val 255) + (y 0).val)
    (h1 : (i 1).val = (y 1).val) : k0_pay5 (F := Ideal) (iblk m c 5 t) y = resG m c i := by
  rw [eq_ix2 y]
  refine Eq.trans ?_ (iblk5 m c t (y 0) (y 1) i h0 h1)
  pointwise [k0_pay5]
theorem blkU (t : Fin cfg0.N) (y : S64x1024.Idx) (i : S16384x1024.Idx) (h0 : (i 0).val = 64 * (min t.val 255) + (y 0).val)
    (h1 : (i 1).val = (y 1).val) : k0_pay1 (F := Ideal) (iblk m c 6 t) y = resU m c i := by
  rw [eq_ix2 y]
  refine Eq.trans ?_ (iblk6 m c t (y 0) (y 1) i h0 h1)
  pointwise [k0_pay1]
theorem blkD (t : Fin cfg0.N) (y : S32x2048.Idx) (i : S8192x2048.Idx) (h0 : (i 0).val = 32 * (min t.val 255) + (y 0).val)
    (h1 : (i 1).val = (y 1).val) : k0_pay2 (F := Ideal) (iblk m c 7 t) y = resD m c i := by
  rw [eq_ix2 y]
  refine Eq.trans ?_ (iblk7 m c t (y 0) (y 1) i h0 h1)
  pointwise [k0_pay2]

theorem flushed_O (t : Fin cfg0.N) (hf : t.val % 22 = 21) : (dats m 0 c).flushed 8 t = ((cfg0.win 8).blk t).view.read (Elt Ideal) (resO m c) := by
  rw [flushed8]
  funext j
  obtain ⟨e0, e1⟩ := idx8 t
  rw [View.read_apply]
  refine Eq.trans (b := ((outsAt0 m c t.val t.isLt).1 : Vec Ideal S1024x2048 .f32) (ix2 ((cfg0.win 8).xinj (grid0.coords t) j 0) ((cfg0.win 8).xinj (grid0.coords t) j 1))) ?_ ?_
  · exact congrArg ((outsAt0 m c t.val t.isLt).1 : Vec Ideal S1024x2048 .f32) (eq_ix2 ((cfg0.win 8).xinj (grid0.coords t) j))
  refine ((inv m c t.val t.isLt _).2 _).trans ?_
  unfold resO
  rw [hf]
  have a0 : 1024 * (t.val / 22) + ((cfg0.win 8).xinj (grid0.coords t) j 0).val = (((cfg0.win 8).blk t).view.emb j 0).val := by
    show 1024 * (t.val / 22) + (j 0).val = win0_8.index t 0 * 1024 + 1 * (j 0).val
    rw [e0]; omega
  have a1 : (cfg0.win 8).xinj (grid0.coords t) j 1 = ((cfg0.win 8).blk t).view.emb j 1 := by
    apply Fin.ext
    show (j 1).val = win0_8.index t 1 * 2048 + 1 * (j 1).val
    rw [e1]; omega
  rw [a0, a1]
  rfl

theorem final_O : (dats m 0 c).arrAt 8 cfg0.N = resO m c := by
  refine (dats m 0 c).arrAt_eq_of_cover 8 (resO m c) (fun t hf => flushed_O m c t ((flush8 t).mp hf)) fun i => ?_
  have b0 : (i 0).val < 16384 := (i 0).isLt
  have b1 : (i 1).val < 2048 := (i 1).isLt
  obtain ⟨t, ht⟩ : ∃ t : Fin cfg0.N, t.val = 22 * ((i 0).val / 1024) + 21 :=
    ⟨⟨22 * ((i 0).val / 1024) + 21, by show _ < 352; omega⟩, rfl⟩
  obtain ⟨e0, e1⟩ := idx8 t
  refine ⟨t, (flush8 t).mpr (by omega), ?_⟩
  show i ∈ ((View.whole main_v14_0).slice (win0_8.rect t)).set
  rw [View.set_slice_whole, Rect.mem_set_unit]
  intro a
  match a with
  | ⟨0, _⟩ =>
    show win0_8.index t 0 * 1024 ≤ (i 0).val ∧ (i 0).val < win0_8.index t 0 * 1024 + 1024
    rw [e0]; omega
  | ⟨1, _⟩ =>
    show win0_8.index t 1 * 2048 ≤ (i 1).val ∧ (i 1).val < win0_8.index t 1 * 2048 + 2048
    rw [e1]; omega

theorem flushed_G (t : Fin cfg0.N) : (dats m 0 c).flushed 9 t = ((cfg0.win 9).blk t).view.read (Elt Ideal) (resG m c) := by
  rw [flushed9, (casts m c t).1]
  funext j
  obtain ⟨e0, e1⟩ := idx9 t
  rw [View.read_apply]
  refine blkG m c t ((cfg0.win 9).xinj (grid0.coords t) j) _ ?_ ?_
  · show win0_9.index t 0 * 64 + 1 * (j 0).val = 64 * (min t.val 255) + (j 0).val
    rw [e0]; omega
  · show win0_9.index t 1 * 1024 + 1 * (j 1).val = (j 1).val
    rw [e1]; omega

theorem final_G : (dats m 0 c).arrAt 9 cfg0.N = resG m c := by
  refine (dats m 0 c).arrAt_eq_of_cover 9 (resG m c) (fun t _ => flushed_G m c t) fun i => ?_
  have b0 : (i 0).val < 16384 := (i 0).isLt
  have b1 : (i 1).val < 1024 := (i 1).isLt
  obtain ⟨t, ht⟩ : ∃ t : Fin cfg0.N, t.val = if (i 0).val / 64 < 255 then (i 0).val / 64 else 351 :=
    ⟨⟨if (i 0).val / 64 < 255 then (i 0).val / 64 else 351, by show _ < 352; split <;> omega⟩, rfl⟩
  obtain ⟨e0, e1⟩ := idx9 t
  refine ⟨t, flush9 t (by rw [ht]; split <;> omega), ?_⟩
  show i ∈ ((View.whole main_v14_1).slice (win0_9.rect t)).set
  rw [View.set_slice_whole, Rect.mem_set_unit]
  intro a
  match a with
  | ⟨0, _⟩ =>
    show win0_9.index t 0 * 64 ≤ (i 0).val ∧ (i 0).val < win0_9.index t 0 * 64 + 64
    rw [e0]; split at ht <;> omega
  | ⟨1, _⟩ =>
    show win0_9.index t 1 * 1024 ≤ (i 1).val ∧ (i 1).val < win0_9.index t 1 * 1024 + 1024
    rw [e1]; omega

theorem flushed_U (t : Fin cfg0.N) : (dats m 0 c).flushed 10 t = ((cfg0.win 10).blk t).view.read (Elt Ideal) (resU m c) := by
  rw [flushed10, (casts m c t).2.1]
  funext j
  obtain ⟨e0, e1⟩ := idx10 t
  rw [View.read_apply]
  refine blkU m c t ((cfg0.win 10).xinj (grid0.coords t) j) _ ?_ ?_
  · show win0_10.index t 0 * 64 + 1 * (j 0).val = 64 * (min t.val 255) + (j 0).val
    rw [e0]; omega
  · show win0_10.index t 1 * 1024 + 1 * (j 1).val = (j 1).val
    rw [e1]; omega

theorem final_U : (dats m 0 c).arrAt 10 cfg0.N = resU m c := by
  refine (dats m 0 c).arrAt_eq_of_cover 10 (resU m c) (fun t _ => flushed_U m c t) fun i => ?_
  have b0 : (i 0).val < 16384 := (i 0).isLt
  have b1 : (i 1).val < 1024 := (i 1).isLt
  obtain ⟨t, ht⟩ : ∃ t : Fin cfg0.N, t.val = if (i 0).val / 64 < 255 then (i 0).val / 64 else 351 :=
    ⟨⟨if (i 0).val / 64 < 255 then (i 0).val / 64 else 351, by show _ < 352; split <;> omega⟩, rfl⟩
  obtain ⟨e0, e1⟩ := idx10 t
  refine ⟨t, flush10 t (by rw [ht]; split <;> omega), ?_⟩
  show i ∈ ((View.whole main_v14_2).slice (win0_10.rect t)).set
  rw [View.set_slice_whole, Rect.mem_set_unit]
  intro a
  match a with
  | ⟨0, _⟩ =>
    show win0_10.index t 0 * 64 ≤ (i 0).val ∧ (i 0).val < win0_10.index t 0 * 64 + 64
    rw [e0]; split at ht <;> omega
  | ⟨1, _⟩ =>
    show win0_10.index t 1 * 1024 ≤ (i 1).val ∧ (i 1).val < win0_10.index t 1 * 1024 + 1024
    rw [e1]; omega

theorem flushed_D (t : Fin cfg0.N) : (dats m 0 c).flushed 11 t = ((cfg0.win 11).blk t).view.read (Elt Ideal) (resD m c) := by
  rw [flushed11, (casts m c t).2.2]
  funext j
  obtain ⟨e0, e1⟩ := idx11 t
  rw [View.read_apply]
  refine blkD m c t ((cfg0.win 11).xinj (grid0.coords t) j) _ ?_ ?_
  · show win0_11.index t 0 * 32 + 1 * (j 0).val = 32 * (min t.val 255) + (j 0).val
    rw [e0]; omega
  · show win0_11.index t 1 * 2048 + 1 * (j 1).val = (j 1).val
    rw [e1]; omega

theorem final_D : (dats m 0 c).arrAt 11 cfg0.N = resD m c := by
  refine (dats m 0 c).arrAt_eq_of_cover 11 (resD m c) (fun t _ => flushed_D m c t) fun i => ?_
  have b0 : (i 0).val < 8192 := (i 0).isLt
  have b1 : (i 1).val < 2048 := (i 1).isLt
  obtain ⟨t, ht⟩ : ∃ t : Fin cfg0.N, t.val = if (i 0).val / 32 < 255 then (i 0).val / 32 else 351 :=
    ⟨⟨if (i 0).val / 32 < 255 then (i 0).val / 32 else 351, by show _ < 352; split <;> omega⟩, rfl⟩
  obtain ⟨e0, e1⟩ := idx11 t
  refine ⟨t, flush11 t (by rw [ht]; split <;> omega), ?_⟩
  show i ∈ ((View.whole main_v14_3).slice (win0_11.rect t)).set
  rw [View.set_slice_whole, Rect.mem_set_unit]
  intro a
  match a with
  | ⟨0, _⟩ =>
    show win0_11.index t 0 * 32 ≤ (i 0).val ∧ (i 0).val < win0_11.index t 0 * 32 + 32
    rw [e0]; split at ht <;> omega
  | ⟨1, _⟩ =>
    show win0_11.index t 1 * 2048 ≤ (i 1).val ∧ (i 1).val < win0_11.index t 1 * 2048 + 2048
    rw [e1]; omega

end Cert.Kernel2Ideal.Hand
-- ==== Proof.FfnRef.lean ====
/-
  The references of the dense feed-forward call and of the input projection: their results at an index, from the
  arguments.
-/
module
public import proofs.«01_k».proof.Proof.FfnSpec
public import proofs.«01_k».proof.Proof.Gen.Reference2Ideal.Run
public import Idealize.ShloMosaic.Lib.Pointwise
@[expose] public section
set_option maxRecDepth 16384
noncomputable section
namespace Cert.Reference2Ideal.Hand
open Cert.Reference2Ideal Cert.Reference2Ideal.Gen Ffn
open Idealize.ShloMosaic Idealize.ShloMosaic.TcCoe

/-- The reference's normalised rows. -/
def normR (x : FVec Ideal S16384x2048 .f32) (g : Vec Ideal S1x2048 .f32) : FVec Ideal S16384x2048 .f32 :=
  mulf (F := Ideal) (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast _ g shapeCasts_S1x2048_S2048)))

theorem normR_apply (x : FVec Ideal S16384x2048 .f32) (g : Vec Ideal S1x2048 .f32) (r : Fin 16384) (d : Fin 2048) :
    normR x g (ix2 r d) = norm (rowOf x r.val) (gainOf g) d := by
  pointwise [normR]
  unfold Ffn.norm gainOf
  simp only [← rowOf_eq]

/-- The reference's gated channels. -/
def actR (h : FVec Ideal S16384x2048 .f32) (a b : Vec Ideal S1x2048x5632 .f32) : FVec Ideal S16384x5632 .f32 :=
  mulf (F := Ideal) (mulf (Host.dotGeneral (φ₂ := .f32) dot_S16384x2048_S2048x5632_S16384x5632_1_0_0_1_n_n none h (shapeCast _ a shapeCasts_S1x2048x5632_S2048x5632)) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (Host.dotGeneral (φ₂ := .f32) dot_S16384x2048_S2048x5632_S16384x5632_1_0_0_1_n_n none h (shapeCast _ a shapeCasts_S1x2048x5632_S2048x5632))))))) (Host.dotGeneral (φ₂ := .f32) dot_S16384x2048_S2048x5632_S16384x5632_1_0_0_1_n_n none h (shapeCast _ b shapeCasts_S1x2048x5632_S2048x5632))

theorem actR_apply (h : FVec Ideal S16384x2048 .f32) (a b : Vec Ideal S1x2048x5632 .f32) (H : Fin 2048 → EReal) (r : Fin 16384) (k : Fin 5632)
    (hh : ∀ d, h (ix2 r d) = H d) : actR h a b (ix2 r k) = act H (colOf a k.val) (colOf b k.val) := by
  pointwise [actR]
  unfold act dot
  simp only [hh, ← colOf_eq, zero_sub]

def outR (x : FVec Ideal S16384x2048 .f32) (s : FVec Ideal S16384x5632 .f32) (w : Vec Ideal S1x5632x2048 .f32) : FVec Ideal S16384x2048 .f32 :=
  addf (F := Ideal) x (Host.dotGeneral (φ₂ := .f32) dot_S16384x5632_S5632x2048_S16384x2048_1_0_0_1_n_n none s (shapeCast _ w shapeCasts_S1x5632x2048_S5632x2048))

theorem outR_apply (x : FVec Ideal S16384x2048 .f32) (g : Vec Ideal S1x2048 .f32) (a b : Vec Ideal S1x2048x5632 .f32) (w : Vec Ideal S1x5632x2048 .f32)
    (r : Fin 16384) (j : Fin 2048) : outR x (actR (normR x g) a b) w (ix2 r j) = ffn x g a b w r.val j 5632 := by
  unfold ffn part
  rw [Finset.sum_range]
  pointwise [outR]
  simp only [fun k => actR_apply (normR x g) a b _ r k (normR_apply x g r), ← rowOf_eq, ← downOf_eq]

end Cert.Reference2Ideal.Hand
-- ==== Proof.Proj.lean ====
/-
  The input projection's call: what a grid point leaves, and the result array after the run at an index, from the
  arguments.  Point `t` is row block `t / 4` and column block `t % 4`.
-/
module
public import proofs.«01_k».proof.Proof.FfnSpec
public import proofs.«01_k».proof.Proof.Gen.Kernel3Ideal.Value
public import Idealize.ShloMosaic.Lib.Pipeline.Value
public import Idealize.ShloMosaic.Lib.StableHlo.ReadAt
@[expose] public section
set_option maxRecDepth 16384
noncomputable section

namespace Ffn
open Idealize.ShloMosaic

def inOf (x : (⟨3, ![1, 2048, 7168]⟩ : Shape).Idx → EReal) (k : Nat) (d : Fin 2048) : EReal := x (ix3 0 d (Fin.ofNat 7168 k))
theorem inOf_eq (x : (⟨3, ![1, 2048, 7168]⟩ : Shape).Idx → EReal) (k : Fin 7168) (d : Fin 2048) : x (ix3 0 d k) = inOf x k.val d := by
  unfold inOf
  rw [Fin.ofNat_val_eq_self]

/-- The projection at a row and a column. -/
def proj (x : (⟨2, ![16384, 2048]⟩ : Shape).Idx → EReal) (g : (⟨2, ![1, 2048]⟩ : Shape).Idx → EReal)
    (w : (⟨3, ![1, 2048, 7168]⟩ : Shape).Idx → EReal) (r k : Nat) : EReal := dot (norm (rowOf x r) (gainOf g)) (inOf w k)

end Ffn

namespace Cert.Kernel3Ideal.Hand
open Cert.Kernel3Ideal Cert.Kernel3Ideal.Gen Cert.Kernel3Ideal.Value Ffn
open Idealize.ShloMosaic Idealize.ShloMosaic.TcCoe

theorem hz2 : (![0, 0] : Fin 2 → Nat) = fun _ => 0 := by decide

section
variable {F : FTy → Type} [FloatOps F]
variable (m : (ℓ : Loc nD τ sig) → Buf (Elt F) ℓ) (c : Dev nD)

/-- A point that starts a row block normalises the rows and keeps them. -/
theorem outs_A (t : Fin cfg0.N) (h0 : t.val % 4 = 0) : outsAt0 m c t.val t.isLt
    = (k0_pay2 (k0_pay1 (iblk m c 0 t) (iblk m c 1 t)) (iblk m c 2 t), k0_pay1 (iblk m c 0 t) (iblk m c 1 t)) := by
  rw [outsAt0_A m c t h0]
  refine Prod.ext ?_ ?_
  · dsimp only
    unfold out0_A_3
    refine (View.read_writes_eq_canon _ _ _ (by intro y; exact cover0_A_3 ..)).trans ?_
    unfold kernelRun0_A
    dsimp only
    rw [View.canon_unit_zero hz2]
    unfold kernelRun0_A.sl.v3 kernelRun0_A.sl.HS0_1
    simp only [View.readCov_cons_toLoadRect, View.readAt_eq_ld, Memref.IsWhole.read_unread, View.ld_unit_zero (S := S1024x2048) hz2,
      View.ld_unit_zero (S := S1x2048) hz2, View.ld_unit_zero (S := S2048x1792) hz2]
  · dsimp only
    unfold sout0_A_0
    refine (View.read_writes_eq_canon _ _ _ (by intro y; exact scover0_A_0 ..)).trans ?_
    unfold kernelRun0_A
    dsimp only
    unfold kernelRun0_A.sl.HS0_1
    rw [View.canon_unit_zero hz2]
    simp only [View.readAt_eq_ld, Memref.IsWhole.read_unread, View.ld_unit_zero (S := S1024x2048) hz2, View.ld_unit_zero (S := S1x2048) hz2]

/-- Any other point multiplies the kept rows. -/
theorem outs_B (t : Fin cfg0.N) (h0 : ¬t.val % 4 = 0) : outsAt0 m c t.val t.isLt
    = (k0_pay2 (outsAt0 m c (t.val - 1) (Nat.lt_of_le_of_lt (Nat.sub_le _ _) t.isLt)).2 (iblk m c 2 t),
       (outsAt0 m c (t.val - 1) (Nat.lt_of_le_of_lt (Nat.sub_le _ _) t.isLt)).2) := by
  rw [outsAt0_B m c t h0]
  refine Prod.ext ?_ ?_
  · dsimp only
    unfold out0_B_3
    refine (View.read_writes_eq_canon _ _ _ (by intro y; exact cover0_B_3 ..)).trans ?_
    unfold kernelRun0_B
    dsimp only
    rw [View.canon_unit_zero hz2]
    simp only [View.readAt_eq_ld, Memref.IsWhole.read_unread, View.ld_unit_zero (S := S1024x2048) hz2, View.ld_unit_zero (S := S2048x1792) hz2]
    exact congrArg (fun h => k0_pay2 h _) ((Memref.isWhole_whole cc0_scratch0).read_unread _)
  · rfl
end

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val % 4 :=
  (by decide +kernel : ∀ t : Fin grid0.N, win0_2.index t 0 = 0 ∧ win0_2.index t 1 = t.val % 4)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

theorem pay1_apply (x : Vec Ideal S1024x2048 .f32) (g : Vec Ideal S1x2048 .f32) (X G : Fin 2048 → EReal) (r : Fin 1024)
    (hx : ∀ d, x (ix2 r d) = X d) (hg : ∀ d, g (ix2 0 d) = G d) (d : Fin 2048) : k0_pay1 x g (ix2 r d) = norm X G d := by
  pointwise [k0_pay1]
  simp only [hx, hg]
  rfl

theorem pay2_apply (h : Vec Ideal S1024x2048 .bf16) (w : Vec Ideal S2048x1792 .bf16) (H : Fin 2048 → EReal) (A : Nat → Fin 2048 → EReal)
    (n : Nat) (r : Fin 1024) (k : Fin 1792) (hh : ∀ d, h (ix2 r d) = H d) (hA : ∀ d (k : Fin 1792), w (ix2 d k) = A (n + k.val) d) :
    k0_pay2 h w (ix2 r k) = dot H (A (n + k.val)) := by
  pointwise [k0_pay2]
  simp only [hh, hA]
  rfl

variable (m : (ℓ : Loc nD τ sig) → Buf (Elt Ideal) ℓ) (c : Dev nD)

theorem V_v3 (d : Fin 2048) : (V m c main_v3 : Vec Ideal S1x2048 .f32) (ix2 0 d) = (m (c.tc.loc main_arg1) : Vec Ideal S1x2048 .f32) (ix2 0 d) := by
  unfold V
  simp only [hostOps0]
  after_reads_at
theorem V_v2 (d : Fin 2048) (k : Fin 7168) : (V m c main_v2 : Vec Ideal S2048x7168 .bf16) (ix2 d k)
    = (m (c.tc.loc main_arg2) : Vec Ideal S1x2048x7168 .f32) (ix3 0 d k) := by
  unfold V
  simp only [hostOps0]
  after_reads_at

theorem iblk0 (t : Fin cfg0.N) (r : Fin 1024) (d : Fin 2048) : (iblk m c 0 t : Vec Ideal S1024x2048 .f32) (ix2 r d)
    = rowOf (m (c.tc.loc main_arg0)) (1024 * (t.val / 4) + r.val) d := by
  have hN : cfg0.N = 64 := by decide +kernel
  have ht := t.isLt
  unfold iblk
  rw [View.read_apply]
  show (V m c main_arg0 : Vec Ideal S16384x2048 .f32) _ = _
  rw [V_main_arg0]
  obtain ⟨e0, e1⟩ := idx0 t
  refine Eq.trans (congrArg (m (c.tc.loc main_arg0) : Vec Ideal S16384x2048 .f32) (funext fun a => Fin.ext ?_))
    (rowOf_eq (m (c.tc.loc main_arg0)) ⟨1024 * (t.val / 4) + r.val, by omega⟩ d)
  match a with
  | ⟨0, _⟩ =>
    show win0_0.index t 0 * 1024 + 1 * r.val = _
    rw [e0]; show _ = 1024 * (t.val / 4) + r.val; omega
  | ⟨1, _⟩ =>
    show win0_0.index t 1 * 2048 + 1 * d.val = d.val
    rw [e1]; omega

theorem iblk1 (t : Fin cfg0.N) (d : Fin 2048) : (iblk m c 1 t : Vec Ideal S1x2048 .f32) (ix2 0 d) = gainOf (m (c.tc.loc main_arg1)) d := by
  unfold iblk
  rw [View.read_apply]
  show (V m c main_v3 : Vec Ideal S1x2048 .f32) _ = _
  obtain ⟨e0, e1⟩ := idx1 t
  refine Eq.trans (congrArg (V m c main_v3 : Vec Ideal S1x2048 .f32) (funext fun a => Fin.ext ?_)) (V_v3 m c d)
  match a with
  | ⟨0, _⟩ =>
    show win0_1.index t 0 * 1 + 1 * 0 = 0
    rw [e0]
  | ⟨1, _⟩ =>
    show win0_1.index t 1 * 2048 + 1 * d.val = d.val
    rw [e1]; omega

theorem iblk2 (t : Fin cfg0.N) (d : Fin 2048) (k : Fin 1792) : (iblk m c 2 t : Vec Ideal S2048x1792 .bf16) (ix2 d k)
    = inOf (m (c.tc.loc main_arg2)) (1792 * (t.val % 4) + k.val) d := by
  unfold iblk
  rw [View.read_apply]
  show (V m c main_v2 : Vec Ideal S2048x7168 .bf16) _ = _
  obtain ⟨e0, e1⟩ := idx2 t
  refine Eq.trans (congrArg (V m c main_v2 : Vec Ideal S2048x7168 .bf16) (funext fun a => Fin.ext ?_))
    ((V_v2 m c d ⟨1792 * (t.val % 4) + k.val, by omega⟩).trans (inOf_eq (m (c.tc.loc main_arg2)) ⟨1792 * (t.val % 4) + k.val, by omega⟩ d))
  match a with
  | ⟨0, _⟩ =>
    show win0_2.index t 0 * 2048 + 1 * d.val = d.val
    rw [e0]; omega
  | ⟨1, _⟩ =>
    show win0_2.index t 1 * 1792 + 1 * k.val = 1792 * (t.val % 4) + k.val
    rw [e1]; omega

/-- After a point: the kept rows are normalised, and the block is their product with the column block. -/
theorem inv (n : Nat) (hn : n < cfg0.N) (r : Fin 1024) :
    (∀ d, ((outsAt0 m c n hn).2 : Vec Ideal S1024x2048 .bf16) (ix2 r d)
      = norm (rowOf (m (c.tc.loc main_arg0)) (1024 * (n / 4) + r.val)) (gainOf (m (c.tc.loc main_arg1))) d)
    ∧ ∀ k : Fin 1792, ((outsAt0 m c n hn).1 : Vec Ideal S1024x1792 .f32) (ix2 r k)
      = proj (m (c.tc.loc main_arg0)) (m (c.tc.loc main_arg1)) (m (c.tc.loc main_arg2)) (1024 * (n / 4) + r.val) (1792 * (n % 4) + k.val) := by
  induction n with
  | zero =>
    rw [outs_A m c ⟨0, hn⟩ (Nat.zero_mod _)]
    have h := pay1_apply (iblk m c 0 ⟨0, hn⟩) (iblk m c 1 ⟨0, hn⟩) _ _ r (iblk0 m c ⟨0, hn⟩ r) (iblk1 m c ⟨0, hn⟩)
    exact ⟨h, fun k => pay2_apply _ _ _ _ (1792 * (0 % 4)) r k h (iblk2 m c ⟨0, hn⟩)⟩
  | succ n ih =>
    by_cases h0 : (n + 1) % 4 = 0
    · rw [outs_A m c ⟨n + 1, hn⟩ h0]
      have h := pay1_apply (iblk m c 0 ⟨n + 1, hn⟩) (iblk m c 1 ⟨n + 1, hn⟩) _ _ r (iblk0 m c ⟨n + 1, hn⟩ r) (iblk1 m c ⟨n + 1, hn⟩)
      exact ⟨h, fun k => pay2_apply _ _ _ _ (1792 * ((n + 1) % 4)) r k h (iblk2 m c ⟨n + 1, hn⟩)⟩
    · have i1 := (ih (Nat.lt_of_succ_lt hn)).1
      rw [outs_B m c ⟨n + 1, hn⟩ h0]
      have q : n / 4 = (n + 1) / 4 := by omega
      rw [q] at i1
      exact ⟨i1, fun k => pay2_apply _ _ _ _ (1792 * ((n + 1) % 4)) r k i1 (iblk2 m c ⟨n + 1, hn⟩)⟩

def res : S16384x7168.Idx → EReal := fun i => proj (m (c.tc.loc main_arg0)) (m (c.tc.loc main_arg1)) (m (c.tc.loc main_arg2)) (i 0).val (i 1).val

theorem flushed (t : Fin cfg0.N) : (dats m 0 c).flushed 3 t = ((cfg0.win 3).blk t).view.read (Elt Ideal) (res m c) := by
  rw [flushed3]
  funext j
  obtain ⟨e0, e1⟩ := idx3 t
  rw [View.read_apply]
  refine Eq.trans (b := ((outsAt0 m c t.val t.isLt).1 : Vec Ideal S1024x1792 .f32) (ix2 ((cfg0.win 3).xinj (grid0.coords t) j 0) ((cfg0.win 3).xinj (grid0.coords t) j 1))) ?_ ?_
  · exact congrArg ((outsAt0 m c t.val t.isLt).1 : Vec Ideal S1024x1792 .f32) (eq_ix2 ((cfg0.win 3).xinj (grid0.coords t) j))
  refine ((inv m c t.val t.isLt _).2 _).trans ?_
  unfold res
  have a0 : 1024 * (t.val / 4) + ((cfg0.win 3).xinj (grid0.coords t) j 0).val = (((cfg0.win 3).blk t).view.emb j 0).val := by
    show 1024 * (t.val / 4) + (j 0).val = win0_3.index t 0 * 1024 + 1 * (j 0).val
    rw [e0]; omega
  have a1 : 1792 * (t.val % 4) + ((cfg0.win 3).xinj (grid0.coords t) j 1).val = (((cfg0.win 3).blk t).view.emb j 1).val := by
    show 1792 * (t.val % 4) + (j 1).val = win0_3.index t 1 * 1792 + 1 * (j 1).val
    rw [e1]; omega
  rw [a0, a1]
  rfl

theorem final : (dats m 0 c).arrAt 3 cfg0.N = res m c := by
  refine (dats m 0 c).arrAt_eq_of_cover 3 (res m c) (fun t _ => flushed m c t) fun i => ?_
  have b0 : (i 0).val < 16384 := (i 0).isLt
  have b1 : (i 1).val < 7168 := (i 1).isLt
  obtain ⟨t, ht⟩ : ∃ t : Fin cfg0.N, t.val = 4 * ((i 0).val / 1024) + (i 1).val / 1792 :=
    ⟨⟨4 * ((i 0).val / 1024) + (i 1).val / 1792, by show _ < 64; omega⟩, rfl⟩
  obtain ⟨e0, e1⟩ := idx3 t
  refine ⟨t, flush0_3 _, ?_⟩
  show i ∈ ((View.whole main_v4).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e0]; omega
  | ⟨1, _⟩ =>
    show win0_3.index t 1 * 1792 ≤ (i 1).val ∧ (i 1).val < win0_3.index t 1 * 1792 + 1792
    rw [e1]; omega

end Cert.Kernel3Ideal.Hand
-- ==== Proof.FfnFinal.lean ====
/-
  The exact runs of the dense feed-forward call and of the input projection's call end with the results of their
  references, and the references leave their arguments as they were.
-/
module
public import proofs.«01_k».proof.Defs
public import proofs.«01_k».proof.Proof.FfnVal
public import proofs.«01_k».proof.Proof.FfnRef
public import proofs.«01_k».proof.Proof.Proj
public import proofs.«01_k».proof.Proof.Gen.Reference3Ideal.Run
public import Idealize.ShloMosaic.Lib.Quiescent
@[expose] public section
set_option maxRecDepth 16384
noncomputable section
namespace Cert.Hand
open Ffn Idealize.ShloMosaic Idealize.SL.Sem Idealize.ShloMosaic.TcCoe Idealize.ShloMosaic.StableHlo

theorem kept2 : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run m ρ)

theorem kept3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run m ρ)

open Cert.Reference2Ideal Cert.Reference2Ideal.Gen Cert.Reference2Ideal.Hand in
theorem outR_eq (x : FVec Ideal S16384x2048 .f32) (g : Vec Ideal S1x2048 .f32) (a b : Vec Ideal S1x2048x5632 .f32) (w : Vec Ideal S1x5632x2048 .f32) :
    outR x (actR (normR x g) a b) w = fun i => ffn x g a b w (i 0).val (i 1) 5632 := by
  funext i
  obtain ⟨r, j, rfl⟩ : ∃ (r : Fin 16384) (j : Fin 2048), i = ix2 r j := ⟨i 0, i 1, eq_ix2 i⟩
  exact outR_apply x g a b w r j

open Cert.Reference3Ideal Cert.Reference3Ideal.Gen Cert.Reference2Ideal.Hand in
def projR (h : FVec Ideal S16384x2048 .f32) (w : Vec Ideal S1x2048x7168 .f32) : FVec Ideal S16384x7168 .f32 :=
  Host.dotGeneral (F := Ideal) (φ₂ := .f32) dot_S16384x2048_S2048x7168_S16384x7168_1_0_0_1_n_n none h (shapeCast _ w shapeCasts_S1x2048x7168_S2048x7168)

open Cert.Reference3Ideal Cert.Reference3Ideal.Gen Cert.Reference2Ideal.Hand in
theorem projR_eq (x : FVec Ideal S16384x2048 .f32) (g : Vec Ideal S1x2048 .f32) (w : Vec Ideal S1x2048x7168 .f32) :
    projR (normR x g) w = fun i => proj x g w (i 0).val (i 1).val := by
  funext i
  obtain ⟨r, k, rfl⟩ : ∃ (r : Fin 16384) (k : Fin 7168), i = ix2 r k := ⟨i 0, i 1, eq_ix2 i⟩
  pointwise [projR]
  simp only [normR_apply, inOf_eq]
  rfl

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)

open Cert.Reference2Ideal.Hand in
theorem eqO2
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    outR (m' ((c.tc : Thread Cert.Reference2Ideal.nD Cert.Reference2Ideal.τ).loc Cert.Reference2Ideal.main_arg0)) (actR (normR (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))) (m' ((c.tc : Thread Cert.Reference2Ideal.nD Cert.Reference2Ideal.τ).loc Cert.Reference2Ideal.main_arg4)) = Cert.Kernel2Ideal.Hand.resO m c := by
  refine (outR_eq _ _ _ _ _).trans ?_
  rw [h0, h1, h2, h3, h4]
  rfl
/-- Two reshapes and a cast are one reshape. -/
theorem cast_comp {s t u : Shape} (x : FVec Ideal s .f32) (h : s.ShapeCasts t) (h' : t.ShapeCasts u) (h'' : s.ShapeCasts u)
    (hb : FTy.bits .bf16 < FTy.bits .f32) : truncf (F := Ideal) .bf16 (shapeCast u (shapeCast t x h) h' : FVec Ideal u .f32) hb = shapeCast u x h'' :=
  shapeCast_comp x h h'

open Cert.Reference2Ideal Cert.Reference2Ideal.Gen in
theorem eqG2
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    truncf (F := Ideal) .bf16 (shapeCast S16384x1024 (shapeCast S8x2048x1024 (m' ((c.tc : Thread Cert.Reference2Ideal.nD Cert.Reference2Ideal.τ).loc Cert.Reference2Ideal.main_arg5)) shapeCasts_S1x8x2048x1024_S8x2048x1024) shapeCasts_S8x2048x1024_S16384x1024) bitsLt_bf16_f32 = Cert.Kernel2Ideal.Hand.resG m c := by
  rw [h5]
  exact cast_comp _ _ _ _ _
open Cert.Reference2Ideal Cert.Reference2Ideal.Gen in
theorem eqU2
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    truncf (F := Ideal) .bf16 (shapeCast S16384x1024 (shapeCast S8x2048x1024 (m' ((c.tc : Thread Cert.Reference2Ideal.nD Cert.Reference2Ideal.τ).loc Cert.Reference2Ideal.main_arg6)) shapeCasts_S1x8x2048x1024_S8x2048x1024) shapeCasts_S8x2048x1024_S16384x1024) bitsLt_bf16_f32 = Cert.Kernel2Ideal.Hand.resU m c := by
  rw [h6]
  exact cast_comp _ _ _ _ _
open Cert.Reference2Ideal Cert.Reference2Ideal.Gen in
theorem eqD2
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    truncf (F := Ideal) .bf16 (shapeCast S8192x2048 (shapeCast S8x1024x2048 (m' ((c.tc : Thread Cert.Reference2Ideal.nD Cert.Reference2Ideal.τ).loc Cert.Reference2Ideal.main_arg7)) shapeCasts_S1x8x1024x2048_S8x1024x2048) shapeCasts_S8x1024x2048_S8192x2048) bitsLt_bf16_f32 = Cert.Kernel2Ideal.Hand.resD m c := by
  rw [h7]
  exact cast_comp _ _ _ _ _

theorem algebraic2 : Cert.algebraic_Kernel2Ideal_Reference2Ideal := by
  intro m ρ m' ρ' _ hag
  refine ⟨fun c => Cert.Kernel2Ideal.Hand.resO m c, fun c => Cert.Kernel2Ideal.Hand.resG m c, fun c => Cert.Kernel2Ideal.Hand.resU m c,
    fun c => Cert.Kernel2Ideal.Hand.resD m c, ?_, ?_⟩
  · exact (θ_run Cert.Kernel2Ideal.defs _ _).mono (fun r h c => ⟨(h c).1.trans (Cert.Kernel2Ideal.Hand.final_O m c),
      (h c).2.1.trans (Cert.Kernel2Ideal.Hand.final_G m c), (h c).2.2.1.trans (Cert.Kernel2Ideal.Hand.final_U m c),
      (h c).2.2.2.1.trans (Cert.Kernel2Ideal.Hand.final_D m c), (h c).2.2.2.2⟩) (Cert.Kernel2Ideal.Value.run_blocks m ρ)
  · exact (θ_run Cert.Reference2Ideal.defs _ _).mono (fun r h c => by
      obtain ⟨h0, h1, h2, h3, h4, h5, h6, h7⟩ := hag c
      exact ⟨(h c).1.trans (eqO2 m m' c h0 h1 h2 h3 h4), (h c).2.1.trans (eqG2 m m' c h5), (h c).2.2.1.trans (eqU2 m m' c h6),
        (h c).2.2.2.1.trans (eqD2 m m' c h7), (h c).2.2.2.2⟩) (Cert.Reference2Ideal.Value.run m' ρ')

theorem algebraic3 : Cert.algebraic_Kernel3Ideal_Reference3Ideal := by
  intro m ρ m' ρ' _ hag
  refine ⟨fun c => Cert.Kernel3Ideal.Hand.res m c, ?_, ?_⟩
  · exact (θ_run Cert.Kernel3Ideal.defs _ _).mono (fun r h c => ⟨(h c).1.trans (Cert.Kernel3Ideal.Hand.final m c), (h c).2⟩)
      (Cert.Kernel3Ideal.Value.run_blocks m ρ)
  · exact (θ_run Cert.Reference3Ideal.defs _ _).mono (fun r h c => by
      obtain ⟨h0, h1, h2⟩ := hag c
      refine ⟨(h c).1.trans ?_, (h c).2⟩
      rw [h0, h1, h2]
      exact projR_eq _ _ _) (Cert.Reference3Ideal.Value.run m' ρ')

end Cert.Hand
-- ==== Proof.OutProj.lean ====
/-
  The output projection's call: its four result arrays after the run at an index, from the arguments.
-/
module
public import Idealize.ShloMosaic.Lib.Pointwise
public import proofs.«01_k».proof.Proof.Gen.Kernel4Ideal.Value
public import Idealize.ShloMosaic.Lib.Pipeline.Value
public import Idealize.ShloMosaic.Lib.StableHlo.ReadAt
@[expose] public section
set_option maxRecDepth 16384
noncomputable section

namespace Cert.Kernel4Ideal.Hand
open Cert.Kernel4Ideal Cert.Kernel4Ideal.Gen Cert.Kernel4Ideal.Value
open Idealize.ShloMosaic Idealize.ShloMosaic.TcCoe

/-- The residual plus both halves' products, at a row and a lane. -/
def mixed (x : S16384x2048.Idx → EReal) (a b : S16384x1024.Idx → EReal) (w : S1x2048x2048.Idx → EReal) (r : Fin 16384) (j : Fin 2048) : EReal :=
  x (ix2 r j) + (∑ k : Fin 1024, a (ix2 r k) * w (ix3 0 (Fin.castAdd 1024 k) j)) + ∑ k : Fin 1024, b (ix2 r k) * w (ix3 0 (Fin.natAdd 1024 k) j)

theorem hz2 : (![0, 0] : Fin 2 → Nat) = fun _ => 0 := by decide

section
variable {F : FTy → Type} [FloatOps F] (x0 : Vec F S512x2048 .f32) (x1 x2 : Vec F S512x1024 .bf16) (x3 x4 : Vec F S1024x2048 .bf16)
  (x5 : Vec F S64x2048 .f32) (x6 : Vec F S16x2048 .f32) (x7 : Vec F S64x512 .f32)
theorem out8 : out0_8 x0 x1 x2 x3 x4 x5 x6 x7 = k0_pay1 x0 x1 x3 x2 x4 := by
  unfold out0_8
  rw [View.canon_unit_zero hz2]
  simp only [View.ld_unit_zero (S := S512x2048) hz2, View.ld_unit_zero (S := S512x1024) hz2, View.ld_unit_zero (S := S1024x2048) hz2]
theorem out9 : out0_9 x0 x1 x2 x3 x4 x5 x6 x7 = k0_pay2 x5 := by
  unfold out0_9
  rw [View.canon_unit_zero hz2]
  simp only [View.ld_unit_zero (S := S64x2048) hz2]
theorem out10 : out0_10 x0 x1 x2 x3 x4 x5 x6 x7 = k0_pay3 x6 := by
  unfold out0_10
  rw [View.canon_unit_zero hz2]
  simp only [View.ld_unit_zero (S := S16x2048) hz2]
theorem out11 : out0_11 x0 x1 x2 x3 x4 x5 x6 x7 = k0_pay4 x7 := by
  unfold out0_11
  rw [View.canon_unit_zero hz2]
  simp only [View.ld_unit_zero (S := S64x512) hz2]
end

/-- The windows' blocks at a point: the first column, and block row `t` (the last one again past the end of the array). -/
theorem idx : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 1 ∧ win0_4.index t 1 = 0) ∧ (win0_5.index t 0 = t.val ∧ win0_5.index t 1 = 0)
    ∧ (win0_6.index t 0 = min t.val 15 ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = min t.val 15 ∧ win0_10.index t 1 = 0) ∧ (win0_11.index t 0 = t.val ∧ win0_11.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 1 ∧ win0_4.index t 1 = 0) ∧ (win0_5.index t 0 = t.val ∧ win0_5.index t 1 = 0)
    ∧ (win0_6.index t 0 = min t.val 15 ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0)
    ∧ (win0_10.index t 0 = min t.val 15 ∧ win0_10.index t 1 = 0) ∧ (win0_11.index t 0 = t.val ∧ win0_11.index t 1 = 0))
theorem flush : ∀ t : Fin cfg0.N, (cfg0.win 8).flush t = true ∧ (cfg0.win 9).flush t = true ∧ (t.val < 15 ∨ t.val = 31 → (cfg0.win 10).flush t = true)
    ∧ (cfg0.win 11).flush t = true :=
  (by decide +kernel : ∀ t : Fin grid0.N, win0_8.flush t = true ∧ win0_9.flush t = true ∧ (t.val < 15 ∨ t.val = 31 → win0_10.flush t = true)
    ∧ win0_11.flush t = true)

variable (m : (ℓ : Loc nD τ sig) → Buf (Elt Ideal) ℓ) (c : Dev nD)

def resO : S16384x2048.Idx → EReal := fun i => mixed (m (c.tc.loc main_arg0)) (m (c.tc.loc main_arg1)) (m (c.tc.loc main_arg2)) (m (c.tc.loc main_arg3)) (i 0) (i 1)
def resA : S2048x2048.Idx → EReal := fun i => (m (c.tc.loc main_arg4) : Vec Ideal S2x2048x2048 .f32) (ix3 0 (i 0) (i 1))
def resB : S256x2048.Idx → EReal := fun i => (m (c.tc.loc main_arg5) : Vec Ideal S2x256x2048 .f32) (ix3 0 (i 0) (i 1))
def resP : S2048x512.Idx → EReal := shapeCast S2048x512 (m (c.tc.loc main_arg6) : Vec Ideal S1x4x512x512 .f32) shapeCasts_S1x4x512x512_S2048x512

theorem V_v0 : (V m c main_v0 : Vec Ideal S16384x1024 .bf16) = (m (c.tc.loc main_arg1) : Vec Ideal S16384x1024 .f32) := by
  unfold V
  simp only [hostOps0]
  after_reads_simp
  rfl
theorem V_v1 : (V m c main_v1 : Vec Ideal S16384x1024 .bf16) = (m (c.tc.loc main_arg2) : Vec Ideal S16384x1024 .f32) := by
  unfold V
  simp only [hostOps0]
  after_reads_simp
  rfl
theorem V_v3 (k j : Fin 2048) : (V m c main_v3 : Vec Ideal S2048x2048 .bf16) (ix2 k j)
    = (m (c.tc.loc main_arg3) : Vec Ideal S1x2048x2048 .f32) (ix3 0 k j) := by
  unfold V
  simp only [hostOps0]
  after_reads_at
/-- The first matrix of a stack laid out as one tall matrix is its first rows. -/
theorem stackA (x : S2x2048x2048.Idx → EReal) (r j : Fin 2048) :
    shapeCast S4096x2048 x shapeCasts_S2x2048x2048_S4096x2048 (ix2 ⟨r.val, by omega⟩ j) = x (ix3 0 r j) := by
  refine congrArg x (Shape.reshapeEquiv_eq_of_vals _ _ _ (r.val * 2048 + j.val) (r.val * 2048 + j.val) ?_ ?_ rfl)
  · exact (Shape.rowMajor_val_three _).trans (by show (0 * 2048 + r.val) * 2048 + j.val = _; omega)
  · exact Shape.rowMajor_val_two _
theorem stackB (x : S2x256x2048.Idx → EReal) (r : Fin 256) (j : Fin 2048) :
    shapeCast S512x2048 x shapeCasts_S2x256x2048_S512x2048 (ix2 ⟨r.val, by omega⟩ j) = x (ix3 0 r j) := by
  refine congrArg x (Shape.reshapeEquiv_eq_of_vals _ _ _ (r.val * 2048 + j.val) (r.val * 2048 + j.val) ?_ ?_ rfl)
  · exact (Shape.rowMajor_val_three _).trans (by show (0 * 256 + r.val) * 2048 + j.val = _; omega)
  · exact Shape.rowMajor_val_two _

theorem V_v6 (r j : Fin 2048) : (V m c main_v6 : Vec Ideal S4096x2048 .f32) (ix2 ⟨r.val, by omega⟩ j)
    = (m (c.tc.loc main_arg4) : Vec Ideal S2x2048x2048 .f32) (ix3 0 r j) := by
  unfold V
  simp only [hostOps0]
  after_reads_simp
  exact stackA _ r j
theorem V_v9 (r : Fin 256) (j : Fin 2048) : (V m c main_v9 : Vec Ideal S512x2048 .f32) (ix2 ⟨r.val, by omega⟩ j)
    = (m (c.tc.loc main_arg5) : Vec Ideal S2x256x2048 .f32) (ix3 0 r j) := by
  unfold V
  simp only [hostOps0]
  after_reads_simp
  exact stackB _ r j
theorem V_v11 : (V m c main_v11 : Vec Ideal S2048x512 .f32) = resP m c := by
  unfold V resP
  simp only [hostOps0]
  after_reads_simp
  rfl

theorem iblk0 (t : Fin cfg0.N) (r : Fin 512) (d : Fin 2048) (R : Fin 16384) (h : R.val = 512 * t.val + r.val) :
    (iblk m c 0 t : Vec Ideal S512x2048 .f32) (ix2 r d) = (m (c.tc.loc main_arg0) : Vec Ideal S16384x2048 .f32) (ix2 R d) := by
  unfold iblk
  rw [View.read_apply]
  show (V m c main_arg0 : Vec Ideal S16384x2048 .f32) _ = _
  obtain ⟨e0, e1⟩ := (idx t).1
  refine Eq.trans (congrArg (V m c main_arg0 : Vec Ideal S16384x2048 .f32) (funext fun a => Fin.ext ?_)) (congrFun (V_main_arg0 m c) _)
  match a with
  | ⟨0, _⟩ =>
    show win0_0.index t 0 * 512 + 1 * r.val = R.val
    rw [e0]; omega
  | ⟨1, _⟩ =>
    show win0_0.index t 1 * 2048 + 1 * d.val = d.val
    rw [e1]; omega

theorem iblk1 (t : Fin cfg0.N) (r : Fin 512) (k : Fin 1024) (R : Fin 16384) (h : R.val = 512 * t.val + r.val) :
    (iblk m c 1 t : Vec Ideal S512x1024 .bf16) (ix2 r k) = (m (c.tc.loc main_arg1) : Vec Ideal S16384x1024 .f32) (ix2 R k) := by
  unfold iblk
  rw [View.read_apply]
  show (V m c main_v0 : Vec Ideal S16384x1024 .bf16) _ = _
  obtain ⟨e0, e1⟩ := (idx t).2.1
  refine Eq.trans (congrArg (V m c main_v0 : Vec Ideal S16384x1024 .bf16) (funext fun a => Fin.ext ?_)) (congrFun (V_v0 m c) _)
  match a with
  | ⟨0, _⟩ =>
    show win0_1.index t 0 * 512 + 1 * r.val = R.val
    rw [e0]; omega
  | ⟨1, _⟩ =>
    show win0_1.index t 1 * 1024 + 1 * k.val = k.val
    rw [e1]; omega

theorem iblk2 (t : Fin cfg0.N) (r : Fin 512) (k : Fin 1024) (R : Fin 16384) (h : R.val = 512 * t.val + r.val) :
    (iblk m c 2 t : Vec Ideal S512x1024 .bf16) (ix2 r k) = (m (c.tc.loc main_arg2) : Vec Ideal S16384x1024 .f32) (ix2 R k) := by
  unfold iblk
  rw [View.read_apply]
  show (V m c main_v1 : Vec Ideal S16384x1024 .bf16) _ = _
  obtain ⟨e0, e1⟩ := (idx t).2.2.1
  refine Eq.trans (congrArg (V m c main_v1 : Vec Ideal S16384x1024 .bf16) (funext fun a => Fin.ext ?_)) (congrFun (V_v1 m c) _)
  match a with
  | ⟨0, _⟩ =>
    show win0_2.index t 0 * 512 + 1 * r.val = R.val
    rw [e0]; omega
  | ⟨1, _⟩ =>
    show win0_2.index t 1 * 1024 + 1 * k.val = k.val
    rw [e1]; omega

theorem iblk3 (t : Fin cfg0.N) (k : Fin 1024) (j : Fin 2048) :
    (iblk m c 3 t : Vec Ideal S1024x2048 .bf16) (ix2 k j) = (m (c.tc.loc main_arg3) : Vec Ideal S1x2048x2048 .f32) (ix3 0 (Fin.castAdd 1024 k) j) := by
  unfold iblk
  rw [View.read_apply]
  show (V m c main_v3 : Vec Ideal S2048x2048 .bf16) _ = _
  obtain ⟨e0, e1⟩ := (idx t).2.2.2.1
  refine Eq.trans (congrArg (V m c main_v3 : Vec Ideal S2048x2048 .bf16) (funext fun a => Fin.ext ?_)) (V_v3 m c (Fin.castAdd 1024 k) j)
  match a with
  | ⟨0, _⟩ =>
    show win0_3.index t 0 * 1024 + 1 * k.val = k.val
    rw [e0]; omega
  | ⟨1, _⟩ =>
    show win0_3.index t 1 * 2048 + 1 * j.val = j.val
    rw [e1]; omega

theorem iblk4 (t : Fin cfg0.N) (k : Fin 1024) (j : Fin 2048) :
    (iblk m c 4 t : Vec Ideal S1024x2048 .bf16) (ix2 k j) = (m (c.tc.loc main_arg3) : Vec Ideal S1x2048x2048 .f32) (ix3 0 (Fin.natAdd 1024 k) j) := by
  unfold iblk
  rw [View.read_apply]
  show (V m c main_v3 : Vec Ideal S2048x2048 .bf16) _ = _
  obtain ⟨e0, e1⟩ := (idx t).2.2.2.2.1
  refine Eq.trans (congrArg (V m c main_v3 : Vec Ideal S2048x2048 .bf16) (funext fun a => Fin.ext ?_)) (V_v3 m c (Fin.natAdd 1024 k) j)
  match a with
  | ⟨0, _⟩ =>
    show win0_4.index t 0 * 1024 + 1 * k.val = 1024 + k.val
    rw [e0]; omega
  | ⟨1, _⟩ =>
    show win0_4.index t 1 * 2048 + 1 * j.val = j.val
    rw [e1]; omega

theorem iblk5 (t : Fin cfg0.N) (r : Fin 64) (j : Fin 2048) (R : Fin 2048) (h : R.val = 64 * t.val + r.val) :
    (iblk m c 5 t : Vec Ideal S64x2048 .f32) (ix2 r j) = (m (c.tc.loc main_arg4) : Vec Ideal S2x2048x2048 .f32) (ix3 0 R j) := by
  unfold iblk
  rw [View.read_apply]
  show (V m c main_v6 : Vec Ideal S4096x2048 .f32) _ = _
  obtain ⟨e0, e1⟩ := (idx t).2.2.2.2.2.1
  refine Eq.trans (congrArg (V m c main_v6 : Vec Ideal S4096x2048 .f32) (funext fun a => Fin.ext ?_)) (V_v6 m c R j)
  match a with
  | ⟨0, _⟩ =>
    show win0_5.index t 0 * 64 + 1 * r.val = R.val
    rw [e0]; omega
  | ⟨1, _⟩ =>
    show win0_5.index t 1 * 2048 + 1 * j.val = j.val
    rw [e1]; omega

theorem iblk6 (t : Fin cfg0.N) (r : Fin 16) (j : Fin 2048) (R : Fin 256) (h : R.val = 16 * min t.val 15 + r.val) :
    (iblk m c 6 t : Vec Ideal S16x2048 .f32) (ix2 r j) = (m (c.tc.loc main_arg5) : Vec Ideal S2x256x2048 .f32) (ix3 0 R j) := by
  unfold iblk
  rw [View.read_apply]
  show (V m c main_v9 : Vec Ideal S512x2048 .f32) _ = _
  obtain ⟨e0, e1⟩ := (idx t).2.2.2.2.2.2.1
  refine Eq.trans (congrArg (V m c main_v9 : Vec Ideal S512x2048 .f32) (funext fun a => Fin.ext ?_)) (V_v9 m c R j)
  match a with
  | ⟨0, _⟩ =>
    show win0_6.index t 0 * 16 + 1 * r.val = R.val
    rw [e0]; omega
  | ⟨1, _⟩ =>
    show win0_6.index t 1 * 2048 + 1 * j.val = j.val
    rw [e1]; omega

theorem iblk7 (t : Fin cfg0.N) (r : Fin 64) (j : Fin 512) (R : Fin 2048) (h : R.val = 64 * t.val + r.val) :
    (iblk m c 7 t : Vec Ideal S64x512 .f32) (ix2 r j) = resP m c (ix2 R j) := by
  unfold iblk
  rw [View.read_apply]
  show (V m c main_v11 : Vec Ideal S2048x512 .f32) _ = _
  obtain ⟨e0, e1⟩ := (idx t).2.2.2.2.2.2.2.1
  refine Eq.trans (congrArg (V m c main_v11 : Vec Ideal S2048x512 .f32) (funext fun a => Fin.ext ?_)) (congrFun (V_v11 m c) _)
  match a with
  | ⟨0, _⟩ =>
    show win0_7.index t 0 * 64 + 1 * r.val = R.val
    rw [e0]; omega
  | ⟨1, _⟩ =>
    show win0_7.index t 1 * 512 + 1 * j.val = j.val
    rw [e1]; omega

theorem blkO (t : Fin cfg0.N) (r : Fin 512) (j : Fin 2048) (R : Fin 16384) (h : R.val = 512 * t.val + r.val) :
    k0_pay1 (F := Ideal) (iblk m c 0 t) (iblk m c 1 t) (iblk m c 3 t) (iblk m c 2 t) (iblk m c 4 t) (ix2 r j) = resO m c (ix2 R j) := by
  pointwise [k0_pay1]
  simp only [fun d => iblk0 m c t r d R h, fun k => iblk1 m c t r k R h, fun k => iblk2 m c t r k R h, iblk3, iblk4]
  rfl

theorem flushedO (t : Fin cfg0.N) : (dats m 0 c).flushed 8 t = ((cfg0.win 8).blk t).view.read (Elt Ideal) (resO m c) := by
  rw [flushed8, out8]
  funext j
  obtain ⟨e0, e1⟩ := (idx t).2.2.2.2.2.2.2.2.1
  rw [View.read_apply]
  refine Eq.trans (b := (k0_pay1 (F := Ideal) (iblk m c 0 t) (iblk m c 1 t) (iblk m c 3 t) (iblk m c 2 t) (iblk m c 4 t)) (ix2 ((cfg0.win 8).xinj (grid0.coords t) j 0) ((cfg0.win 8).xinj (grid0.coords t) j 1))) ?_ ?_
  · exact congrArg (k0_pay1 (F := Ideal) (iblk m c 0 t) (iblk m c 1 t) (iblk m c 3 t) (iblk m c 2 t) (iblk m c 4 t)) (eq_ix2 ((cfg0.win 8).xinj (grid0.coords t) j))
  refine (blkO m c t _ _ (((cfg0.win 8).blk t).view.emb j 0) ?_).trans (congrArg (resO m c) ?_)
  · show win0_8.index t 0 * 512 + 1 * (j 0).val = 512 * t.val + (j 0).val
    rw [e0]; omega
  · refine funext fun a => Fin.ext ?_
    match a with
    | ⟨0, _⟩ => rfl
    | ⟨1, _⟩ =>
      show (j 1).val = win0_8.index t 1 * 2048 + 1 * (j 1).val
      rw [e1]; omega

theorem finalO : (dats m 0 c).arrAt 8 cfg0.N = resO m c := by
  refine (dats m 0 c).arrAt_eq_of_cover 8 (resO m c) (fun t _ => flushedO m c t) fun i => ?_
  have b0 : (i 0).val < 16384 := (i 0).isLt
  have b1 : (i 1).val < 2048 := (i 1).isLt
  obtain ⟨t, ht⟩ : ∃ t : Fin cfg0.N, t.val = (i 0).val / 512 := ⟨⟨(i 0).val / 512, by show _ < 32; omega⟩, rfl⟩
  obtain ⟨e0, e1⟩ := (idx t).2.2.2.2.2.2.2.2.1
  refine ⟨t, (flush t).1, ?_⟩
  show i ∈ ((View.whole main_v12_0).slice (win0_8.rect t)).set
  rw [View.set_slice_whole, Rect.mem_set_unit]
  intro a
  match a with
  | ⟨0, _⟩ =>
    show win0_8.index t 0 * 512 ≤ (i 0).val ∧ (i 0).val < win0_8.index t 0 * 512 + 512
    rw [e0]; omega
  | ⟨1, _⟩ =>
    show win0_8.index t 1 * 2048 ≤ (i 1).val ∧ (i 1).val < win0_8.index t 1 * 2048 + 2048
    rw [e1]; omega

theorem blkA (t : Fin cfg0.N) (r : Fin 64) (j : Fin 2048) (R : Fin 2048) (h : R.val = 64 * t.val + r.val) :
    k0_pay2 (F := Ideal) (iblk m c 5 t) (ix2 r j) = resA m c (ix2 R j) := by
  pointwise [k0_pay2]
  exact iblk5 m c t r j R h

theorem flushedA (t : Fin cfg0.N) : (dats m 0 c).flushed 9 t = ((cfg0.win 9).blk t).view.read (Elt Ideal) (resA m c) := by
  rw [flushed9, out9]
  funext j
  obtain ⟨e0, e1⟩ := (idx t).2.2.2.2.2.2.2.2.2.1
  rw [View.read_apply]
  refine Eq.trans (b := (k0_pay2 (F := Ideal) (iblk m c 5 t)) (ix2 ((cfg0.win 9).xinj (grid0.coords t) j 0) ((cfg0.win 9).xinj (grid0.coords t) j 1))) ?_ ?_
  · exact congrArg (k0_pay2 (F := Ideal) (iblk m c 5 t)) (eq_ix2 ((cfg0.win 9).xinj (grid0.coords t) j))
  refine (blkA m c t _ _ (((cfg0.win 9).blk t).view.emb j 0) ?_).trans (congrArg (resA m c) ?_)
  · show win0_9.index t 0 * 64 + 1 * (j 0).val = 64 * t.val + (j 0).val
    rw [e0]; omega
  · refine funext fun a => Fin.ext ?_
    match a with
    | ⟨0, _⟩ => rfl
    | ⟨1, _⟩ =>
      show (j 1).val = win0_9.index t 1 * 2048 + 1 * (j 1).val
      rw [e1]; omega

theorem finalA : (dats m 0 c).arrAt 9 cfg0.N = resA m c := by
  refine (dats m 0 c).arrAt_eq_of_cover 9 (resA m c) (fun t _ => flushedA m c t) fun i => ?_
  have b0 : (i 0).val < 2048 := (i 0).isLt
  have b1 : (i 1).val < 2048 := (i 1).isLt
  obtain ⟨t, ht⟩ : ∃ t : Fin cfg0.N, t.val = (i 0).val / 64 := ⟨⟨(i 0).val / 64, by show _ < 32; omega⟩, rfl⟩
  obtain ⟨e0, e1⟩ := (idx t).2.2.2.2.2.2.2.2.2.1
  refine ⟨t, (flush t).2.1, ?_⟩
  show i ∈ ((View.whole main_v12_1).slice (win0_9.rect t)).set
  rw [View.set_slice_whole, Rect.mem_set_unit]
  intro a
  match a with
  | ⟨0, _⟩ =>
    show win0_9.index t 0 * 64 ≤ (i 0).val ∧ (i 0).val < win0_9.index t 0 * 64 + 64
    rw [e0]; omega
  | ⟨1, _⟩ =>
    show win0_9.index t 1 * 2048 ≤ (i 1).val ∧ (i 1).val < win0_9.index t 1 * 2048 + 2048
    rw [e1]; omega

theorem blkB (t : Fin cfg0.N) (r : Fin 16) (j : Fin 2048) (R : Fin 256) (h : R.val = 16 * min t.val 15 + r.val) :
    k0_pay3 (F := Ideal) (iblk m c 6 t) (ix2 r j) = resB m c (ix2 R j) := by
  pointwise [k0_pay3]
  exact iblk6 m c t r j R h

theorem flushedB (t : Fin cfg0.N) : (dats m 0 c).flushed 10 t = ((cfg0.win 10).blk t).view.read (Elt Ideal) (resB m c) := by
  rw [flushed10, out10]
  funext j
  obtain ⟨e0, e1⟩ := (idx t).2.2.2.2.2.2.2.2.2.2.1
  rw [View.read_apply]
  refine Eq.trans (b := (k0_pay3 (F := Ideal) (iblk m c 6 t)) (ix2 ((cfg0.win 10).xinj (grid0.coords t) j 0) ((cfg0.win 10).xinj (grid0.coords t) j 1))) ?_ ?_
  · exact congrArg (k0_pay3 (F := Ideal) (iblk m c 6 t)) (eq_ix2 ((cfg0.win 10).xinj (grid0.coords t) j))
  refine (blkB m c t _ _ (((cfg0.win 10).blk t).view.emb j 0) ?_).trans (congrArg (resB m c) ?_)
  · show win0_10.index t 0 * 16 + 1 * (j 0).val = 16 * min t.val 15 + (j 0).val
    rw [e0]; omega
  · refine funext fun a => Fin.ext ?_
    match a with
    | ⟨0, _⟩ => rfl
    | ⟨1, _⟩ =>
      show (j 1).val = win0_10.index t 1 * 2048 + 1 * (j 1).val
      rw [e1]; omega

theorem finalB : (dats m 0 c).arrAt 10 cfg0.N = resB m c := by
  refine (dats m 0 c).arrAt_eq_of_cover 10 (resB m c) (fun t _ => flushedB m c t) fun i => ?_
  have b0 : (i 0).val < 256 := (i 0).isLt
  have b1 : (i 1).val < 2048 := (i 1).isLt
  obtain ⟨t, ht⟩ : ∃ t : Fin cfg0.N, t.val = if (i 0).val / 16 < 15 then (i 0).val / 16 else 31 :=
    ⟨⟨if (i 0).val / 16 < 15 then (i 0).val / 16 else 31, by show _ < 32; split <;> omega⟩, rfl⟩
  have hm : min t.val 15 = (i 0).val / 16 := by split at ht <;> omega
  obtain ⟨e0, e1⟩ := (idx t).2.2.2.2.2.2.2.2.2.2.1
  refine ⟨t, (flush t).2.2.1 (by split at ht <;> omega), ?_⟩
  show i ∈ ((View.whole main_v12_2).slice (win0_10.rect t)).set
  rw [View.set_slice_whole, Rect.mem_set_unit]
  intro a
  match a with
  | ⟨0, _⟩ =>
    show win0_10.index t 0 * 16 ≤ (i 0).val ∧ (i 0).val < win0_10.index t 0 * 16 + 16
    rw [e0]; omega
  | ⟨1, _⟩ =>
    show win0_10.index t 1 * 2048 ≤ (i 1).val ∧ (i 1).val < win0_10.index t 1 * 2048 + 2048
    rw [e1]; omega

theorem blkP (t : Fin cfg0.N) (r : Fin 64) (j : Fin 512) (R : Fin 2048) (h : R.val = 64 * t.val + r.val) :
    k0_pay4 (F := Ideal) (iblk m c 7 t) (ix2 r j) = resP m c (ix2 R j) := by
  pointwise [k0_pay4]
  exact iblk7 m c t r j R h

theorem flushedP (t : Fin cfg0.N) : (dats m 0 c).flushed 11 t = ((cfg0.win 11).blk t).view.read (Elt Ideal) (resP m c) := by
  rw [flushed11, out11]
  funext j
  obtain ⟨e0, e1⟩ := (idx t).2.2.2.2.2.2.2.2.2.2.2
  rw [View.read_apply]
  refine Eq.trans (b := (k0_pay4 (F := Ideal) (iblk m c 7 t)) (ix2 ((cfg0.win 11).xinj (grid0.coords t) j 0) ((cfg0.win 11).xinj (grid0.coords t) j 1))) ?_ ?_
  · exact congrArg (k0_pay4 (F := Ideal) (iblk m c 7 t)) (eq_ix2 ((cfg0.win 11).xinj (grid0.coords t) j))
  refine (blkP m c t _ _ (((cfg0.win 11).blk t).view.emb j 0) ?_).trans (congrArg (resP m c) ?_)
  · show win0_11.index t 0 * 64 + 1 * (j 0).val = 64 * t.val + (j 0).val
    rw [e0]; omega
  · refine funext fun a => Fin.ext ?_
    match a with
    | ⟨0, _⟩ => rfl
    | ⟨1, _⟩ =>
      show (j 1).val = win0_11.index t 1 * 512 + 1 * (j 1).val
      rw [e1]; omega

theorem finalP : (dats m 0 c).arrAt 11 cfg0.N = resP m c := by
  refine (dats m 0 c).arrAt_eq_of_cover 11 (resP m c) (fun t _ => flushedP m c t) fun i => ?_
  have b0 : (i 0).val < 2048 := (i 0).isLt
  have b1 : (i 1).val < 512 := (i 1).isLt
  obtain ⟨t, ht⟩ : ∃ t : Fin cfg0.N, t.val = (i 0).val / 64 := ⟨⟨(i 0).val / 64, by show _ < 32; omega⟩, rfl⟩
  obtain ⟨e0, e1⟩ := (idx t).2.2.2.2.2.2.2.2.2.2.2
  refine ⟨t, (flush t).2.2.2, ?_⟩
  show i ∈ ((View.whole main_v12_3).slice (win0_11.rect t)).set
  rw [View.set_slice_whole, Rect.mem_set_unit]
  intro a
  match a with
  | ⟨0, _⟩ =>
    show win0_11.index t 0 * 64 ≤ (i 0).val ∧ (i 0).val < win0_11.index t 0 * 64 + 64
    rw [e0]; omega
  | ⟨1, _⟩ =>
    show win0_11.index t 1 * 512 ≤ (i 1).val ∧ (i 1).val < win0_11.index t 1 * 512 + 512
    rw [e1]; omega

end Cert.Kernel4Ideal.Hand
-- ==== Proof.Ple.lean ====
/-
  The call of the per-layer embedding gate: the result array after the run at an index, from the arguments.
-/
module
public import proofs.«01_k».proof.Proof.FfnSpec
public import proofs.«01_k».proof.Proof.Gen.Kernel5Ideal.Value
public import Idealize.ShloMosaic.Lib.Pipeline.Value
public import Idealize.ShloMosaic.Lib.StableHlo.ReadAt
@[expose] public section
set_option maxRecDepth 16384
noncomputable section

namespace Ffn
open Idealize.ShloMosaic

/-- The embedding gate at a row and a lane: the residual plus the logistic of the gate times the embedding's projection. -/
def gated (x : (⟨2, ![16384, 2048]⟩ : Shape).Idx → EReal) (p : (⟨3, ![2, 16384, 256]⟩ : Shape).Idx → EReal)
    (g : (⟨2, ![2, 2048]⟩ : Shape).Idx → EReal) (w : (⟨3, ![2, 2048, 2048]⟩ : Shape).Idx → EReal)
    (q : (⟨3, ![2, 256, 2048]⟩ : Shape).Idx → EReal) (r : Fin 16384) (j : Fin 2048) : EReal :=
  x (ix2 r j) + Ideal.div 1 (1 + Ideal.exp (0 - dot (norm (fun d => x (ix2 r d)) fun d => g (ix2 0 d)) fun d => w (ix3 0 d j)))
    * ∑ k : Fin 256, p (ix3 0 r k) * q (ix3 0 k j)

end Ffn

namespace Cert.Kernel5Ideal.Hand
open Cert.Kernel5Ideal Cert.Kernel5Ideal.Gen Cert.Kernel5Ideal.Value Ffn
open Idealize.ShloMosaic Idealize.ShloMosaic.TcCoe

theorem hz2 : (![0, 0] : Fin 2 → Nat) = fun _ => 0 := by decide
theorem hz3 : (![0, 0, 0] : Fin 3 → Nat) = fun _ => 0 := by decide

theorem out_eq {F : FTy → Type} [FloatOps F] (x0 : Vec F S512x2048 .f32) (x1 : Vec F S1x2048 .f32) (x2 : Vec F S2048x2048 .bf16)
    (x3 : Vec F S1x512x256 .f32) (x4 : Vec F S256x2048 .bf16) (x5 : Vec F S1x2048 .f32) : out0_6 x0 x1 x2 x3 x4 x5 = k0_pay1 x0 x1 x2 x3 x4 := by
  unfold out0_6
  rw [View.canon_unit_zero hz2]
  simp only [View.ld_unit_zero (S := S512x2048) hz2, View.ld_unit_zero (S := S1x2048) hz2, View.ld_unit_zero (S := S2048x2048) hz2,
    View.ld_unit_zero (S := S1x512x256) hz3, View.ld_unit_zero (S := S256x2048) hz2]

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem flush : ∀ t : Fin cfg0.N, (cfg0.win 6).flush t = true :=
  (by decide +kernel : ∀ t : Fin grid0.N, win0_6.flush t = true)

variable (m : (ℓ : Loc nD τ sig) → Buf (Elt Ideal) ℓ) (c : Dev nD)

theorem V_v8 (d : Fin 2048) : (V m c main_v8 : Vec Ideal S1x2048 .f32) (ix2 0 d) = (m (c.tc.loc main_arg3) : Vec Ideal S2x2048 .f32) (ix2 0 d) := by
  unfold V
  simp only [hostOps0]
  after_reads_at
theorem V_v4 (d j : Fin 2048) : (V m c main_v4 : Vec Ideal S2048x2048 .bf16) (ix2 d j)
    = (m (c.tc.loc main_arg4) : Vec Ideal S2x2048x2048 .f32) (ix3 0 d j) := by
  unfold V
  simp only [hostOps0]
  after_reads_at
theorem V_v7 (k : Fin 256) (j : Fin 2048) : (V m c main_v7 : Vec Ideal S256x2048 .bf16) (ix2 k j)
    = (m (c.tc.loc main_arg5) : Vec Ideal S2x256x2048 .f32) (ix3 0 k j) := by
  unfold V
  simp only [hostOps0]
  after_reads_at

theorem iblk0 (t : Fin cfg0.N) (r : Fin 512) (d : Fin 2048) (R : Fin 16384) (h : R.val = 512 * t.val + r.val) :
    (iblk m c 0 t : Vec Ideal S512x2048 .f32) (ix2 r d) = (m (c.tc.loc main_arg0) : Vec Ideal S16384x2048 .f32) (ix2 R d) := by
  unfold iblk
  rw [View.read_apply]
  show (V m c main_arg0 : Vec Ideal S16384x2048 .f32) _ = _
  rw [V_main_arg0]
  obtain ⟨e0, e1⟩ := idx0 t
  refine congrArg (m (c.tc.loc main_arg0) : Vec Ideal S16384x2048 .f32) (funext fun a => Fin.ext ?_)
  match a with
  | ⟨0, _⟩ =>
    show win0_0.index t 0 * 512 + 1 * r.val = R.val
    rw [e0]; omega
  | ⟨1, _⟩ =>
    show win0_0.index t 1 * 2048 + 1 * d.val = d.val
    rw [e1]; omega

theorem iblk1 (t : Fin cfg0.N) (d : Fin 2048) : (iblk m c 1 t : Vec Ideal S1x2048 .f32) (ix2 0 d)
    = (m (c.tc.loc main_arg3) : Vec Ideal S2x2048 .f32) (ix2 0 d) := by
  unfold iblk
  rw [View.read_apply]
  show (V m c main_v8 : Vec Ideal S1x2048 .f32) _ = _
  obtain ⟨e0, e1⟩ := idx1 t
  refine Eq.trans (congrArg (V m c main_v8 : Vec Ideal S1x2048 .f32) (funext fun a => Fin.ext ?_)) (V_v8 m c d)
  match a with
  | ⟨0, _⟩ =>
    show win0_1.index t 0 * 1 + 1 * 0 = 0
    rw [e0]
  | ⟨1, _⟩ =>
    show win0_1.index t 1 * 2048 + 1 * d.val = d.val
    rw [e1]; omega

theorem iblk2 (t : Fin cfg0.N) (d j : Fin 2048) : (iblk m c 2 t : Vec Ideal S2048x2048 .bf16) (ix2 d j)
    = (m (c.tc.loc main_arg4) : Vec Ideal S2x2048x2048 .f32) (ix3 0 d j) := by
  unfold iblk
  rw [View.read_apply]
  show (V m c main_v4 : Vec Ideal S2048x2048 .bf16) _ = _
  obtain ⟨e0, e1⟩ := idx2 t
  refine Eq.trans (congrArg (V m c main_v4 : Vec Ideal S2048x2048 .bf16) (funext fun a => Fin.ext ?_)) (V_v4 m c d j)
  match a with
  | ⟨0, _⟩ =>
    show win0_2.index t 0 * 2048 + 1 * d.val = d.val
    rw [e0]; omega
  | ⟨1, _⟩ =>
    show win0_2.index t 1 * 2048 + 1 * j.val = j.val
    rw [e1]; omega

theorem iblk3 (t : Fin cfg0.N) (r : Fin 512) (k : Fin 256) (R : Fin 16384) (h : R.val = 512 * t.val + r.val) :
    (iblk m c 3 t : Vec Ideal S1x512x256 .f32) (ix3 0 r k) = (m (c.tc.loc main_arg1) : Vec Ideal S2x16384x256 .f32) (ix3 0 R k) := by
  unfold iblk
  rw [View.read_apply]
  show (V m c main_arg1 : Vec Ideal S2x16384x256 .f32) _ = _
  rw [V_main_arg1]
  obtain ⟨e0, e1, e2⟩ := idx3 t
  refine congrArg (m (c.tc.loc main_arg1) : Vec Ideal S2x16384x256 .f32) (funext fun a => Fin.ext ?_)
  match a with
  | ⟨0, _⟩ =>
    show win0_3.index t 0 * 1 + 1 * 0 = 0
    rw [e0]
  | ⟨1, _⟩ =>
    show win0_3.index t 1 * 512 + 1 * r.val = R.val
    rw [e1]; omega
  | ⟨2, _⟩ =>
    show win0_3.index t 2 * 256 + 1 * k.val = k.val
    rw [e2]; omega

theorem iblk4 (t : Fin cfg0.N) (k : Fin 256) (j : Fin 2048) : (iblk m c 4 t : Vec Ideal S256x2048 .bf16) (ix2 k j)
    = (m (c.tc.loc main_arg5) : Vec Ideal S2x256x2048 .f32) (ix3 0 k j) := by
  unfold iblk
  rw [View.read_apply]
  show (V m c main_v7 : Vec Ideal S256x2048 .bf16) _ = _
  obtain ⟨e0, e1⟩ := idx4 t
  refine Eq.trans (congrArg (V m c main_v7 : Vec Ideal S256x2048 .bf16) (funext fun a => Fin.ext ?_)) (V_v7 m c k j)
  match a with
  | ⟨0, _⟩ =>
    show win0_4.index t 0 * 256 + 1 * k.val = k.val
    rw [e0]; omega
  | ⟨1, _⟩ =>
    show win0_4.index t 1 * 2048 + 1 * j.val = j.val
    rw [e1]; omega

/-- The result array. -/
def res : S16384x2048.Idx → EReal := fun i => gated (m (c.tc.loc main_arg0)) (m (c.tc.loc main_arg1)) (m (c.tc.loc main_arg3))
  (m (c.tc.loc main_arg4)) (m (c.tc.loc main_arg5)) (i 0) (i 1)

theorem blk (t : Fin cfg0.N) (r : Fin 512) (j : Fin 2048) (R : Fin 16384) (h : R.val = 512 * t.val + r.val) :
    k0_pay1 (F := Ideal) (iblk m c 0 t) (iblk m c 1 t) (iblk m c 2 t) (iblk m c 3 t) (iblk m c 4 t) (ix2 r j) = res m c (ix2 R j) := by
  pointwise [k0_pay1]
  simp only [fun d => iblk0 m c t r d R h, iblk1, iblk2, fun k => iblk3 m c t r k R h, iblk4]
  rfl

theorem flushed (t : Fin cfg0.N) : (dats m 0 c).flushed 6 t = ((cfg0.win 6).blk t).view.read (Elt Ideal) (res m c) := by
  rw [flushed6, out_eq]
  funext j
  obtain ⟨e0, e1⟩ := idx6 t
  rw [View.read_apply]
  refine Eq.trans (b := (k0_pay1 (F := Ideal) (iblk m c 0 t) (iblk m c 1 t) (iblk m c 2 t) (iblk m c 3 t) (iblk m c 4 t))
    (ix2 ((cfg0.win 6).xinj (grid0.coords t) j 0) ((cfg0.win 6).xinj (grid0.coords t) j 1))) ?_ ?_
  · exact congrArg (k0_pay1 (F := Ideal) (iblk m c 0 t) (iblk m c 1 t) (iblk m c 2 t) (iblk m c 3 t) (iblk m c 4 t)) (eq_ix2 ((cfg0.win 6).xinj (grid0.coords t) j))
  refine (blk m c t _ _ (((cfg0.win 6).blk t).view.emb j 0) ?_).trans (congrArg (res m c) ?_)
  · show win0_6.index t 0 * 512 + 1 * (j 0).val = 512 * t.val + (j 0).val
    rw [e0]; omega
  · refine funext fun a => Fin.ext ?_
    match a with
    | ⟨0, _⟩ => rfl
    | ⟨1, _⟩ =>
      show (j 1).val = win0_6.index t 1 * 2048 + 1 * (j 1).val
      rw [e1]; omega

theorem final : (dats m 0 c).arrAt 6 cfg0.N = res m c := by
  refine (dats m 0 c).arrAt_eq_of_cover 6 (res m c) (fun t _ => flushed m c t) fun i => ?_
  have b0 : (i 0).val < 16384 := (i 0).isLt
  have b1 : (i 1).val < 2048 := (i 1).isLt
  obtain ⟨t, ht⟩ : ∃ t : Fin cfg0.N, t.val = (i 0).val / 512 := ⟨⟨(i 0).val / 512, by show _ < 32; omega⟩, rfl⟩
  obtain ⟨e0, e1⟩ := idx6 t
  refine ⟨t, flush _, ?_⟩
  show i ∈ ((View.whole main_v10).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [e0]; omega
  | ⟨1, _⟩ =>
    show win0_6.index t 1 * 2048 ≤ (i 1).val ∧ (i 1).val < win0_6.index t 1 * 2048 + 2048
    rw [e1]; omega

end Cert.Kernel5Ideal.Hand
-- ==== Proof.MoreFinal.lean ====
/-
  The exact runs of the output projection's call and of the embedding gate's call end with the results of their
  references, and the references leave their arguments as they were.
-/
module
public import proofs.«01_k».proof.Proof.FfnFinal
public import proofs.«01_k».proof.Proof.OutProj
public import proofs.«01_k».proof.Proof.Ple
public import proofs.«01_k».proof.Proof.Gen.Reference4Ideal.Run
public import proofs.«01_k».proof.Proof.Gen.Reference5Ideal.Run
@[expose] public section
set_option maxRecDepth 16384
noncomputable section
namespace Cert.Hand
open Ffn Idealize.ShloMosaic Idealize.SL.Sem Idealize.ShloMosaic.TcCoe Idealize.ShloMosaic.StableHlo

theorem kept4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run m ρ)

theorem kept5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

section
open Cert.Reference4Ideal Cert.Reference4Ideal.Gen

/-- The reference's two parts side by side. -/
def catR (a b : Vec Ideal S16384x1024 .f32) : FVec Ideal S16384x2048 .f32 :=
  concatenate S16384x2048 1 [⟨S16384x1024, a⟩, ⟨S16384x1024, b⟩] concatenates_S16384x1024_S16384x1024_S16384x2048_d1

theorem catR_left (a b : Vec Ideal S16384x1024 .f32) (r : Fin 16384) (k : Fin 1024) : catR a b (ix2 r (Fin.castAdd 1024 k)) = a (ix2 r k) := by
  pointwise [catR]
  exact dif_pos k.isLt
theorem catR_right (a b : Vec Ideal S16384x1024 .f32) (r : Fin 16384) (k : Fin 1024) : catR a b (ix2 r (Fin.natAdd 1024 k)) = b (ix2 r k) := by
  pointwise [catR]
  refine (dif_neg (show ¬ 1024 + k.val < 1024 by omega)).trans (congrArg (fun q => b (ix2 r q)) (Fin.ext ?_))
  show 1024 + k.val - 1024 = k.val
  omega

def mixR (x h : FVec Ideal S16384x2048 .f32) (w : Vec Ideal S1x2048x2048 .f32) : FVec Ideal S16384x2048 .f32 :=
  addf (F := Ideal) x (Host.dotGeneral (φ₂ := .f32) dot_S16384x2048_S2048x2048_S16384x2048_1_0_0_1_n_n none h (shapeCast _ w shapeCasts_S1x2048x2048_S2048x2048))

theorem mixR_sum (x h : FVec Ideal S16384x2048 .f32) (w : Vec Ideal S1x2048x2048 .f32) (r : Fin 16384) (j : Fin 2048) :
    mixR x h w (ix2 r j) = x (ix2 r j) + ∑ k : Fin 2048, h (ix2 r k) * w (ix3 0 k j) := by
  pointwise [mixR]

theorem mixR_eq (x : FVec Ideal S16384x2048 .f32) (a b : Vec Ideal S16384x1024 .f32) (w : Vec Ideal S1x2048x2048 .f32) :
    mixR x (catR a b) w = fun i => Cert.Kernel4Ideal.Hand.mixed x a b w (i 0) (i 1) := by
  funext i
  obtain ⟨r, j, rfl⟩ : ∃ (r : Fin 16384) (j : Fin 2048), i = ix2 r j := ⟨i 0, i 1, eq_ix2 i⟩
  refine (mixR_sum x (catR a b) w r j).trans ?_
  refine (congrArg (x (ix2 r j) + ·) (Fin.sum_univ_add (a := 1024) (b := 1024) fun k => catR a b (ix2 r k) * w (ix3 0 k j))).trans ?_
  simp only [catR_left, catR_right]
  exact (add_assoc _ _ _).symm

/-- The first matrix of a stack, cast. -/
def firstA (w : Vec Ideal S2x2048x2048 .f32) : FVec Ideal S2048x2048 .bf16 :=
  truncf (F := Ideal) .bf16 (shapeCast _ (extractStridedSlice S1x2048x2048 ![0, 0, 0] w slices_S2x2048x2048_S1x2048x2048_0_0_0) shapeCasts_S1x2048x2048_S2048x2048 : FVec Ideal S2048x2048 .f32) bitsLt_bf16_f32
def firstB (w : Vec Ideal S2x256x2048 .f32) : FVec Ideal S256x2048 .bf16 :=
  truncf (F := Ideal) .bf16 (shapeCast _ (extractStridedSlice S1x256x2048 ![0, 0, 0] w slices_S2x256x2048_S1x256x2048_0_0_0) shapeCasts_S1x256x2048_S256x2048 : FVec Ideal S256x2048 .f32) bitsLt_bf16_f32
theorem firstA_eq (w : Vec Ideal S2x2048x2048 .f32) : firstA w = fun i => w (ix3 0 (i 0) (i 1)) := by
  funext i
  obtain ⟨r, j, rfl⟩ : ∃ (r : Fin 2048) (j : Fin 2048), i = ix2 r j := ⟨i 0, i 1, eq_ix2 i⟩
  pointwise [firstA]
theorem firstB_eq (w : Vec Ideal S2x256x2048 .f32) : firstB w = fun i => w (ix3 0 (i 0) (i 1)) := by
  funext i
  obtain ⟨r, j, rfl⟩ : ∃ (r : Fin 256) (j : Fin 2048), i = ix2 r j := ⟨i 0, i 1, eq_ix2 i⟩
  pointwise [firstB]
def flatR (w : Vec Ideal S1x4x512x512 .f32) : FVec Ideal S2048x512 .bf16 :=
  truncf (F := Ideal) .bf16 (shapeCast S2048x512 (shapeCast S4x512x512 w shapeCasts_S1x4x512x512_S4x512x512) shapeCasts_S4x512x512_S2048x512 : FVec Ideal S2048x512 .f32) bitsLt_bf16_f32
end

section
open Cert.Reference5Ideal Cert.Reference5Ideal.Gen

def gateR (x h : FVec Ideal S16384x2048 .f32) (p : Vec Ideal S2x16384x256 .f32) (w : Vec Ideal S2x2048x2048 .f32) (q : Vec Ideal S2x256x2048 .f32) :
    FVec Ideal S16384x2048 .f32 :=
  addf (F := Ideal) x (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (Host.dotGeneral (φ₂ := .f32) dot_S16384x2048_S2048x2048_S16384x2048_1_0_0_1_n_n none h (shapeCast _ (extractStridedSlice S1x2048x2048 ![0, 0, 0] w slices_S2x2048x2048_S1x2048x2048_0_0_0) shapeCasts_S1x2048x2048_S2048x2048)))))) (Host.dotGeneral (φ₁ := .f32) (φ₂ := .f32) dot_S16384x256_S256x2048_S16384x2048_1_0_0_1_n_n none (shapeCast _ (extractStridedSlice S1x16384x256 ![0, 0, 0] p slices_S2x16384x256_S1x16384x256_0_0_0) shapeCasts_S1x16384x256_S16384x256) (shapeCast _ (extractStridedSlice S1x256x2048 ![0, 0, 0] q slices_S2x256x2048_S1x256x2048_0_0_0) shapeCasts_S1x256x2048_S256x2048)))

def gainR (g : Vec Ideal S2x2048 .f32) : Vec Ideal S1x2048 .f32 := extractStridedSlice S1x2048 ![0, 0] g slices_S2x2048_S1x2048_0_0

theorem gainR_eq (g : Vec Ideal S2x2048 .f32) : gainOf (gainR g) = fun d => g (ix2 0 d) := by
  funext d
  unfold gainOf
  pointwise [gainR]

theorem normR_row (x : FVec Ideal S16384x2048 .f32) (g : Vec Ideal S2x2048 .f32) (r : Fin 16384) (d : Fin 2048) :
    Cert.Reference2Ideal.Hand.normR x (gainR g) (ix2 r d) = Ffn.norm (fun d => x (ix2 r d)) (fun d => g (ix2 0 d)) d := by
  refine (Cert.Reference2Ideal.Hand.normR_apply x (gainR g) r d).trans ?_
  rw [gainR_eq]
  exact congrArg (fun X => Ffn.norm X _ d) (funext fun d => (rowOf_eq x r d).symm)

theorem gateR_eq (x : FVec Ideal S16384x2048 .f32) (p : Vec Ideal S2x16384x256 .f32) (g : Vec Ideal S2x2048 .f32) (w : Vec Ideal S2x2048x2048 .f32)
    (q : Vec Ideal S2x256x2048 .f32) :
    gateR x (Cert.Reference2Ideal.Hand.normR x (gainR g)) p w q = fun i => gated x p g w q (i 0) (i 1) := by
  funext i
  obtain ⟨r, j, rfl⟩ : ∃ (r : Fin 16384) (j : Fin 2048), i = ix2 r j := ⟨i 0, i 1, eq_ix2 i⟩
  pointwise [gateR]
  simp only [normR_row, ← zero_sub]
  rfl
end

theorem eqO4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    mixR (m' ((c.tc : Thread Cert.Reference4Ideal.nD Cert.Reference4Ideal.τ).loc Cert.Reference4Ideal.main_arg0)) (catR (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))) (m' ((c.tc : Thread Cert.Reference4Ideal.nD Cert.Reference4Ideal.τ).loc Cert.Reference4Ideal.main_arg3)) = Cert.Kernel4Ideal.Hand.resO m c := by
  refine (mixR_eq _ _ _ _).trans ?_
  rw [h0, h1, h2, h3]
  rfl
theorem eqA4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) : firstA (m' ((c.tc : Thread Cert.Reference4Ideal.nD Cert.Reference4Ideal.τ).loc Cert.Reference4Ideal.main_arg4)) = Cert.Kernel4Ideal.Hand.resA m c := by
  refine (firstA_eq _).trans ?_
  rw [h4]
  rfl
theorem eqB4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) : firstB (m' ((c.tc : Thread Cert.Reference4Ideal.nD Cert.Reference4Ideal.τ).loc Cert.Reference4Ideal.main_arg5)) = Cert.Kernel4Ideal.Hand.resB m c := by
  refine (firstB_eq _).trans ?_
  rw [h5]
  rfl
theorem eqP4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h6 : m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) : flatR (m' ((c.tc : Thread Cert.Reference4Ideal.nD Cert.Reference4Ideal.τ).loc Cert.Reference4Ideal.main_arg6)) = Cert.Kernel4Ideal.Hand.resP m c := by
  rw [h6]
  exact cast_comp _ _ _ _ _
theorem eqO5 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3))
    (h4 : m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4))
    (h5 : m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    gateR (m' ((c.tc : Thread Cert.Reference5Ideal.nD Cert.Reference5Ideal.τ).loc Cert.Reference5Ideal.main_arg0)) (Cert.Reference2Ideal.Hand.normR (m' ((c.tc : Thread Cert.Reference5Ideal.nD Cert.Reference5Ideal.τ).loc Cert.Reference5Ideal.main_arg0)) (gainR (m' ((c.tc : Thread Cert.Reference5Ideal.nD Cert.Reference5Ideal.τ).loc Cert.Reference5Ideal.main_arg3)))) (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = Cert.Kernel5Ideal.Hand.res m c := by
  refine (gateR_eq _ _ _ _ _).trans ?_
  rw [h0, h1, h3, h4, h5]
  rfl

theorem algebraic4 : Cert.algebraic_Kernel4Ideal_Reference4Ideal := by
  intro m ρ m' ρ' _ hag
  refine ⟨fun c => Cert.Kernel4Ideal.Hand.resO m c, fun c => Cert.Kernel4Ideal.Hand.resA m c, fun c => Cert.Kernel4Ideal.Hand.resB m c,
    fun c => Cert.Kernel4Ideal.Hand.resP m c, ?_, ?_⟩
  · exact (θ_run Cert.Kernel4Ideal.defs _ _).mono (fun r h c => ⟨(h c).1.trans (Cert.Kernel4Ideal.Hand.finalO m c),
      (h c).2.1.trans (Cert.Kernel4Ideal.Hand.finalA m c), (h c).2.2.1.trans (Cert.Kernel4Ideal.Hand.finalB m c),
      (h c).2.2.2.1.trans (Cert.Kernel4Ideal.Hand.finalP m c), (h c).2.2.2.2⟩) (Cert.Kernel4Ideal.Value.run_blocks m ρ)
  · exact (θ_run Cert.Reference4Ideal.defs _ _).mono (fun r h c => by
      obtain ⟨h0, h1, h2, h3, h4, h5, h6⟩ := hag c
      exact ⟨(h c).1.trans (eqO4 m m' c h0 h1 h2 h3), (h c).2.1.trans (eqA4 m m' c h4), (h c).2.2.1.trans (eqB4 m m' c h5),
        (h c).2.2.2.1.trans (eqP4 m m' c h6), (h c).2.2.2.2⟩) (Cert.Reference4Ideal.Value.run m' ρ')

theorem algebraic5 : Cert.algebraic_Kernel5Ideal_Reference5Ideal := by
  intro m ρ m' ρ' _ hag
  refine ⟨fun c => Cert.Kernel5Ideal.Hand.res m c, ?_, ?_⟩
  · exact (θ_run Cert.Kernel5Ideal.defs _ _).mono (fun r h c => ⟨(h c).1.trans (Cert.Kernel5Ideal.Hand.final m c), (h c).2⟩)
      (Cert.Kernel5Ideal.Value.run_blocks m ρ)
  · exact (θ_run Cert.Reference5Ideal.defs _ _).mono (fun r h c => by
      obtain ⟨h0, h1, h2, h3, h4, h5⟩ := hag c
      exact ⟨(h c).1.trans (eqO5 m m' c h0 h1 h3 h4 h5), (h c).2⟩) (Cert.Reference5Ideal.Value.run m' ρ')

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Final
public import proofs.«01_k».proof.Proof.FfnFinal
public import proofs.«01_k».proof.Proof.MoreFinal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, fun m ρ _ => Cert.Hand.keptR m ρ,
  fun m ρ _ => Cert.Kernel2.Gen.frame m ρ, fun m ρ _ => Cert.Kernel2Ideal.Gen.frame m ρ, Cert.Hand.kept2,
  fun m ρ _ => Cert.Kernel3.Gen.frame m ρ, fun m ρ _ => Cert.Kernel3Ideal.Gen.frame m ρ, Cert.Hand.kept3,
  fun m ρ _ => Cert.Kernel4.Gen.frame m ρ, fun m ρ _ => Cert.Kernel4Ideal.Gen.frame m ρ, Cert.Hand.kept4,
  fun m ρ _ => Cert.Kernel5.Gen.frame m ρ, fun m ρ _ => Cert.Kernel5Ideal.Gen.frame m ρ, Cert.Hand.kept5,
  trivial, Cert.Hand.algebraic, trivial, Cert.Hand.algebraic2, trivial, Cert.Hand.algebraic3,
  trivial, Cert.Hand.algebraic4, trivial, Cert.Hand.algebraic5⟩

end Cert.Proof

end
